-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_numbers [hPre_numbers : Cert.Pre_numbers.Facts] (m : (ℓ : Loc Cert.PostIdeal.nD Cert.PostIdeal.τ Cert.PostIdeal.sig) → Buf (Elt Ideal) ℓ) : Prop :=
  ∀ c : Dev Cert.PostIdeal.nD,
    (Cert.Pre_numbers.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5)) (m ((c.tc : Thread Cert.PostIdeal.nD Cert.PostIdeal.τ).loc Cert.PostIdeal.main_arg6)) (m ((c.tc : Thread Cert.PostIdeal.nD Cert.PostIdeal.τ).loc Cert.PostIdeal.main_arg7)) (m ((c.tc : Thread Cert.PostIdeal.nD Cert.PostIdeal.τ).loc Cert.PostIdeal.main_arg8)) (m ((c.tc : Thread Cert.PostIdeal.nD Cert.PostIdeal.τ).loc Cert.PostIdeal.main_arg9)) (m ((c.tc : Thread Cert.PostIdeal.nD Cert.PostIdeal.τ).loc Cert.PostIdeal.main_arg10)) (m ((c.tc : Thread Cert.PostIdeal.nD Cert.PostIdeal.τ).loc Cert.PostIdeal.main_arg11)) (m ((c.tc : Thread Cert.PostIdeal.nD Cert.PostIdeal.τ).loc Cert.PostIdeal.main_arg12)) (m ((c.tc : Thread Cert.PostIdeal.nD Cert.PostIdeal.τ).loc Cert.PostIdeal.main_arg13)) (m ((c.tc : Thread Cert.PostIdeal.nD Cert.PostIdeal.τ).loc Cert.PostIdeal.main_arg14)) (m ((c.tc : Thread Cert.PostIdeal.nD Cert.PostIdeal.τ).loc Cert.PostIdeal.main_arg15)) (m ((c.tc : Thread Cert.PostIdeal.nD Cert.PostIdeal.τ).loc Cert.PostIdeal.main_arg16))) = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_numbers [hPre_numbers : Cert.Pre_numbers.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_numbers.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5)) (m ((c.tc : Thread Cert.PostRefIdeal.nD Cert.PostRefIdeal.τ).loc Cert.PostRefIdeal.main_arg6)) (m ((c.tc : Thread Cert.PostRefIdeal.nD Cert.PostRefIdeal.τ).loc Cert.PostRefIdeal.main_arg7)) (m ((c.tc : Thread Cert.PostRefIdeal.nD Cert.PostRefIdeal.τ).loc Cert.PostRefIdeal.main_arg8)) (m ((c.tc : Thread Cert.PostRefIdeal.nD Cert.PostRefIdeal.τ).loc Cert.PostRefIdeal.main_arg9)) (m ((c.tc : Thread Cert.PostRefIdeal.nD Cert.PostRefIdeal.τ).loc Cert.PostRefIdeal.main_arg10)) (m ((c.tc : Thread Cert.PostRefIdeal.nD Cert.PostRefIdeal.τ).loc Cert.PostRefIdeal.main_arg11)) (m ((c.tc : Thread Cert.PostRefIdeal.nD Cert.PostRefIdeal.τ).loc Cert.PostRefIdeal.main_arg12)) (m ((c.tc : Thread Cert.PostRefIdeal.nD Cert.PostRefIdeal.τ).loc Cert.PostRefIdeal.main_arg13)) (m ((c.tc : Thread Cert.PostRefIdeal.nD Cert.PostRefIdeal.τ).loc Cert.PostRefIdeal.main_arg14)) (m ((c.tc : Thread Cert.PostRefIdeal.nD Cert.PostRefIdeal.τ).loc Cert.PostRefIdeal.main_arg15)) (m ((c.tc : Thread Cert.PostRefIdeal.nD Cert.PostRefIdeal.τ).loc Cert.PostRefIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15)
      ∧ r.2.mem ((c.tc : Thread Cert.Post.nD Cert.Post.τ).loc Cert.Post.main_arg16) = m ((c.tc : Thread Cert.Post.nD Cert.Post.τ).loc Cert.Post.main_arg16))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ r.2.sem = fun _ => 0)

def quiescent_PostIdeal_pre_numbers [hPostIdeal : Cert.PostIdeal.Facts] [hPre_numbers : Cert.Pre_numbers.Facts] : Prop :=
  ∀ (m : (ℓ : Loc Cert.PostIdeal.nD Cert.PostIdeal.τ Cert.PostIdeal.sig) → Buf (Elt Ideal) ℓ) (g : Dev Cert.PostIdeal.nD → PrngReg), Pre_PostIdeal_numbers m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
      ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16))
      ∧ r.2.sem = fun _ => 0)

def quiescent_PostRefIdeal_pre_numbers [hPostRefIdeal : Cert.PostRefIdeal.Facts] [hPre_numbers : Cert.Pre_numbers.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_numbers m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15)
      ∧ r.2.mem ((c.tc : Thread Cert.PostRefIdeal.nD Cert.PostRefIdeal.τ).loc Cert.PostRefIdeal.main_arg16) = m ((c.tc : Thread Cert.PostRefIdeal.nD Cert.PostRefIdeal.τ).loc Cert.PostRefIdeal.main_arg16))
      ∧ r.2.sem = fun _ => 0)

def preserves_Kernel_KernelIdeal : Prop :=
  IdealRules.named_const.Statement Cert.KernelIdeal.κ "neg_big" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  IdealRules.named_const.Statement Cert.InProjIdeal.κ "scale" .f32 0x3E16C740#32 ((((Real.log 2) * (Real.sqrt 96))⁻¹ : ℝ) : EReal)

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v46_0)) (v1 : (c : Dev Cert.InProjIdeal.nD) → Buf (Elt Ideal) ((c.tc : Thread Cert.InProjIdeal.nD Cert.InProjIdeal.τ).loc Cert.InProjIdeal.main_v46_1)) (v2 : (c : Dev Cert.InProjIdeal.nD) → Buf (Elt Ideal) ((c.tc : Thread Cert.InProjIdeal.nD Cert.InProjIdeal.τ).loc Cert.InProjIdeal.main_v46_2)) (v3 : (c : Dev Cert.InProjIdeal.nD) → Buf (Elt Ideal) ((c.tc : Thread Cert.InProjIdeal.nD Cert.InProjIdeal.τ).loc Cert.InProjIdeal.main_v46_3)) (v4 : (c : Dev Cert.InProjIdeal.nD) → Buf (Elt Ideal) ((c.tc : Thread Cert.InProjIdeal.nD Cert.InProjIdeal.τ).loc Cert.InProjIdeal.main_v46_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v46_0) = v0 c
          ∧ r.2.mem ((c.tc : Thread Cert.InProjIdeal.nD Cert.InProjIdeal.τ).loc Cert.InProjIdeal.main_v46_1) = v1 c
          ∧ r.2.mem ((c.tc : Thread Cert.InProjIdeal.nD Cert.InProjIdeal.τ).loc Cert.InProjIdeal.main_v46_2) = v2 c
          ∧ r.2.mem ((c.tc : Thread Cert.InProjIdeal.nD Cert.InProjIdeal.τ).loc Cert.InProjIdeal.main_v46_3) = v3 c
          ∧ r.2.mem ((c.tc : Thread Cert.InProjIdeal.nD Cert.InProjIdeal.τ).loc Cert.InProjIdeal.main_v46_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v150) = v0 c
          ∧ r.2.mem ((c.tc : Thread Cert.InProjRefIdeal.nD Cert.InProjRefIdeal.τ).loc Cert.InProjRefIdeal.main_v152) = v1 c
          ∧ r.2.mem ((c.tc : Thread Cert.InProjRefIdeal.nD Cert.InProjRefIdeal.τ).loc Cert.InProjRefIdeal.main_v154) = v2 c
          ∧ r.2.mem ((c.tc : Thread Cert.InProjRefIdeal.nD Cert.InProjRefIdeal.τ).loc Cert.InProjRefIdeal.main_v156) = v3 c
          ∧ r.2.mem ((c.tc : Thread Cert.InProjRefIdeal.nD Cert.InProjRefIdeal.τ).loc Cert.InProjRefIdeal.main_v158) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_Post_PostIdeal : Prop :=
  IdealRules.named_const.Statement Cert.PostIdeal.κ "root" .f32 0x3DB504F3#32 (((Real.sqrt 128)⁻¹ : ℝ) : EReal)

def algebraic_PostIdeal_PostRefIdeal_pre_numbers [hPostIdeal : Cert.PostIdeal.Facts] [hPostRefIdeal : Cert.PostRefIdeal.Facts] [hPre_numbers : Cert.Pre_numbers.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_numbers m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)
      ∧ m' ((c.tc : Thread Cert.PostRefIdeal.nD Cert.PostRefIdeal.τ).loc Cert.PostRefIdeal.main_arg16) = m ((c.tc : Thread Cert.PostIdeal.nD Cert.PostIdeal.τ).loc Cert.PostIdeal.main_arg16)) →
    ∃ (v0 : (c : Dev Cert.PostIdeal.nD) → Buf (Elt Ideal) ((c.tc : Thread Cert.PostIdeal.nD Cert.PostIdeal.τ).loc Cert.PostIdeal.main_v18_0)) (v1 : (c : Dev Cert.PostIdeal.nD) → Buf (Elt Ideal) ((c.tc : Thread Cert.PostIdeal.nD Cert.PostIdeal.τ).loc Cert.PostIdeal.main_v18_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v18_0) = v0 c
          ∧ r.2.mem ((c.tc : Thread Cert.PostIdeal.nD Cert.PostIdeal.τ).loc Cert.PostIdeal.main_v18_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15)
          ∧ r.2.mem ((c.tc : Thread Cert.PostIdeal.nD Cert.PostIdeal.τ).loc Cert.PostIdeal.main_arg16) = m ((c.tc : Thread Cert.PostIdeal.nD Cert.PostIdeal.τ).loc Cert.PostIdeal.main_arg16))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v72) = v0 c
          ∧ r.2.mem ((c.tc : Thread Cert.PostRefIdeal.nD Cert.PostRefIdeal.τ).loc Cert.PostRefIdeal.main_v73) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15)
          ∧ r.2.mem ((c.tc : Thread Cert.PostRefIdeal.nD Cert.PostRefIdeal.τ).loc Cert.PostRefIdeal.main_arg16) = m' ((c.tc : Thread Cert.PostRefIdeal.nD Cert.PostRefIdeal.τ).loc Cert.PostRefIdeal.main_arg16))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hPost : Cert.Post.Facts) (hPostIdeal : Cert.PostIdeal.Facts) (hPostRefIdeal : Cert.PostRefIdeal.Facts) (hPre_finite : Cert.Pre_finite.Facts) (hPre_numbers : Cert.Pre_numbers.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Post (hPost := hPost)
    ∧ quiescent_PostIdeal (hPostIdeal := hPostIdeal)
    ∧ quiescent_PostIdeal_pre_numbers (hPostIdeal := hPostIdeal) (hPre_numbers := hPre_numbers)
    ∧ quiescent_PostRefIdeal (hPostRefIdeal := hPostRefIdeal)
    ∧ quiescent_PostRefIdeal_pre_numbers (hPostRefIdeal := hPostRefIdeal) (hPre_numbers := hPre_numbers)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_Post_PostIdeal
    ∧ algebraic_PostIdeal_PostRefIdeal_pre_numbers (hPostIdeal := hPostIdeal) (hPostRefIdeal := hPostRefIdeal) (hPre_numbers := hPre_numbers)
-- ==== Pre_finite.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x8x32 : S_.BroadcastsInDim S8x2048x8x32 (![] : Fin 0 → Fin S8x2048x8x32.rank)
  reducesTo_S8x2048x8x32_S_d0_1_2_3 : S8x2048x8x32.ReducesTo [0, 1, 2, 3] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x2048x8x64 .f32) (main_arg1 : FVec F S8x2048x8x32 .f32) (main_arg2 : FVec F S8x2048x8x64 .f32) (main_arg3 : FVec F S8x2048x32 .f32) (main_arg4 : FVec F S8x2048x8x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x32 .f32 := Host.absf main_arg1
  let main_cst_0 : FVec F S_ .f32 := constant S_ .f32 0x7F800000#32
  let main_v5 : FVec F S8x2048x8x32 .f32 := broadcastInDim S8x2048x8x32 ![] bcast_S_S8x2048x8x32 main_cst_0
  let main_v6 : IVec S8x2048x8x32 1 := cmpf .olt main_v4 main_v5
  let main_c_1 : IVec S_ 1 := constantI S_ 1 1#1
  let main_v7 : IVec S_ 1 := (fun x v => Host.reduce IntOp.andi x v reducesTo_S8x2048x8x32_S_d0_1_2_3 h_S_) main_v6 main_c_1
  let main_v8 : IVec S_ 1 := andi main_v3 main_v7
  let main_v9 : FVec F S8x2048x8x64 .f32 := Host.absf main_arg2
  let main_cst_2 : FVec F S_ .f32 := constant S_ .f32 0x7F800000#32
  let main_v10 : FVec F S8x2048x8x64 .f32 := broadcastInDim S8x2048x8x64 ![] bcast_S_S8x2048x8x64 main_cst_2
  let main_v11 : IVec S8x2048x8x64 1 := cmpf .olt main_v9 main_v10
  let main_c_3 : IVec S_ 1 := constantI S_ 1 1#1
  let main_v12 : IVec S_ 1 := (fun x v => Host.reduce IntOp.andi x v reducesTo_S8x2048x8x64_S_d0_1_2_3 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Pre_numbers.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1024x8 : Shape := ⟨2, ![1024, 8]⟩
abbrev S1x8 : Shape := ⟨2, ![1, 8]⟩
abbrev S1024x64 : Shape := ⟨2, ![1024, 64]⟩
abbrev S1x64 : Shape := ⟨2, ![1, 64]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  slices_S1024x1024_S1024x512_0_0 : S1024x1024.Slices ![0, 0] S1024x512

variable [Facts]

def fn_part1 {F : FTy → Type} [FloatOps F] (main_v13 : IVec S_ 1) (main_v15 : FVec F S1024x512 .f32) (main_v16 : FVec F S1024x512 .f32) : IVec S_ 1 :=
  let main_v17 : IVec S1024x512 1 := cmpf .olt main_v15 main_v16
  let main_c_5 : IVec S_ 1 := constantI S_ 1 1#1
  let main_v18 : IVec S_ 1 := (fun x v => Host.reduce IntOp.andi x v reducesTo_S1024x512_S_d0_1 h_S_) main_v17 main_c_5
  let main_v19 : IVec S_ 1 := andi main_v13 main_v18
  main_v19

def fn {F : FTy → Type} [FloatOps F] (main_arg0 : FVec F S8x2048x1024 .f32) (main_arg1 : FVec F S8x2048x512 .f32) (main_arg2 : FVec F S8x2048x1024 .f32) (main_arg3 : FVec F S8x2048x1024 .f32) (main_arg4 : FVec F S8x256x1024 .f32) (main_arg5 : FVec F S512x1024 .f32) (main_arg6 : FVec F S1024x1024 .f32) (main_arg7 : FVec F S1x1024 .f32) (main_arg8 : FVec F S1024x512 .f32) (main_arg9 : FVec F S1x1024 .f32) (main_arg10 : FVec F S1024x1024 .f32) (main_arg11 : FVec F S512x1024 .f32) (main_arg12 : FVec F S1x1024 .f32) (main_arg13 : FVec F S1024x8 .f32) (main_arg14 : FVec F S1x8 .f32) (main_arg15 : FVec F S1024x64 .f32) (main_arg16 : FVec F S1x64 .f32) : IVec S_ 1 :=
  let main_v0 : FVec F S1x1024 .f32 := Host.absf main_arg7
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1024x512 .f32 := Host.absf main_arg8
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1x1024 .f32 := Host.absf main_arg9
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x512 .f32 := (extractStridedSlice S1024x512 ![0, 0] · slices_S1024x1024_S1024x512_0_0) main_arg10
  let main_v15 : FVec F S1024x512 .f32 := Host.absf main_v14
  let main_cst_4 : FVec F S_ .f32 := constant S_ .f32 0x7F800000#32
  let main_v16 : FVec F S1024x512 .f32 := broadcastInDim S1024x512 ![] bcast_S_S1024x512 main_cst_4
  fn_part1 (F := F) main_v13 main_v15 main_v16
-- ==== Kernel.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S_ : Shape := ⟨0, ![]⟩
abbrev S8x2048x8x128 : Shape := ⟨4, ![8, 2048, 8, 128]⟩
abbrev S16384x1024 : Shape := ⟨2, ![16384, 1024]⟩
abbrev S8x2048x1x32 : Shape := ⟨4, ![8, 2048, 1, 32]⟩
abbrev S8x2048x8x1 : Shape := ⟨4, ![8, 2048, 8, 1]⟩
abbrev S8x2048x8x63 : Shape := ⟨4, ![8, 2048, 8, 63]⟩
abbrev S16384x512 : Shape := ⟨2, ![16384, 512]⟩
abbrev S512x1024 : Shape := ⟨2, ![512, 1024]⟩
abbrev S2048x1024 : Shape := ⟨2, ![2048, 1024]⟩
abbrev S512x512 : Shape := ⟨2, ![512, 512]⟩
abbrev S512x128 : Shape := ⟨2, ![512, 128]⟩
abbrev S512x256 : Shape := ⟨2, ![512, 256]⟩
abbrev S256x256 : Shape := ⟨2, ![256, 256]⟩
abbrev S512x1 : Shape := ⟨2, ![512, 1]⟩
abbrev S512 : Shape := ⟨1, ![512]⟩
abbrev S256x128 : Shape := ⟨2, ![256, 128]⟩
abbrev S256x1 : Shape := ⟨2, ![256, 1]⟩
abbrev S256 : Shape := ⟨1, ![256]⟩

abbrev nBuf : Space → Nat
  | .hbm => 34
  | .vmem => 8
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x8x64, .f32⟩
  | .hbm, ⟨3, _⟩ => ⟨S8x2048x32, .f32⟩
  | .hbm, ⟨4, _⟩ => ⟨S8x2048x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8x2048x8x32, .f32⟩
  | .hbm, ⟨14, _⟩ => ⟨S8x2048x8x128, .f32⟩
  | .hbm, ⟨15, _⟩ => ⟨S8x2048x8x128, .f32⟩
  | .hbm, ⟨16, _⟩ => ⟨S8x2048x8x128, .f32⟩
  | .hbm, ⟨17, _⟩ => ⟨S16384x1024, .f32⟩
  | .hbm, ⟨18, _⟩ => ⟨S8x2048x1x32, .f32⟩
  | .hbm, ⟨19, _⟩ => ⟨S8x2048x8x32, .f32⟩
  | .hbm, ⟨20, _⟩ => ⟨S_, .f32⟩
  | .hbm, ⟨21, _⟩ => ⟨S8x2048x8x32, .f32⟩
  | .hbm, ⟨22, _⟩ => ⟨S8x2048x8x128, .f32⟩
  | .hbm, ⟨23, _⟩ => ⟨S16384x1024, .f32⟩
  | .hbm, ⟨24, _⟩ => ⟨S_, .f32⟩
  | .hbm, ⟨25, _⟩ => ⟨S8x2048x8x1, .f32⟩
  | .hbm, ⟨26, _⟩ => ⟨S_, .f32⟩
  | .hbm, ⟨27, _⟩ => ⟨S8x2048x8x63, .f32⟩
  | .hbm, ⟨28, _⟩ => ⟨S8x2048x8x128, .f32⟩
  | .hbm, ⟨29, _⟩ => ⟨S16384x1024, .f32⟩
  | .hbm, ⟨30, _⟩ => ⟨S16384x1024, .bf16⟩
  | .hbm, ⟨31, _⟩ => ⟨S16384x1024, .bf16⟩
  | .hbm, ⟨32, _⟩ => ⟨S16384x1024, .bf16⟩
  | .hbm, ⟨33, _⟩ => ⟨S16384x512, .bf16⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S512x512, .bf16⟩
  | .local _ .vmem, ⟨7, _⟩ => ⟨S512x512, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

@[reducible] def k0_t1_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_15 : BitVec 32 := 1#32
  ⟨c0_i32, v27, c1_i32_15⟩
def k0_mult1 (i : grid0.Coords) (k0_t1 : Fin (k0_t1_loop i).trips) : BitVec 32 :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  v540
def k0_off1 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v542 : Index := Scalar.indexCast v541
  let c0_179 : Index := 0#32
  ![v542.toNat, 0]
def k0_off2 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v564 : Index := Scalar.indexCast v541
  let c128_186 : Index := 128#32
  ![v564.toNat, 128]
def k0_off3 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v586 : Index := Scalar.indexCast v541
  let c256_193 : Index := 256#32
  ![v586.toNat, 256]
def k0_off4 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v608 : Index := Scalar.indexCast v541
  let c384_200 : Index := 384#32
  ![v608.toNat, 384]
def k0_off5 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v630 : Index := Scalar.indexCast v541
  let c512_207 : Index := 512#32
  ![v630.toNat, 512]
def k0_off6 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v652 : Index := Scalar.indexCast v541
  let c640_214 : Index := 640#32
  ![v652.toNat, 640]
def k0_off7 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v674 : Index := Scalar.indexCast v541
  let c768_221 : Index := 768#32
  ![v674.toNat, 768]
def k0_off8 (i : grid0.Coords) (k0_t1 : Fin (k0_t1_loop i).trips) : Fin 2 → Nat :=
  let c0_i32 : BitVec 32 := 0#32
  let c1_i32_15 : BitVec 32 := 1#32
  let arg6 : BitVec 32 := Scf.iv c0_i32 c1_i32_15 k0_t1
  let c512_i32_178 : BitVec 32 := 512#32
  let v540 : BitVec 32 := Scalar.muli arg6 c512_i32_178
  let v541 : BitVec 32 := v540
  let v696 : Index := Scalar.indexCast v541
  let c896_228 : Index := 896#32
  ![v696.toNat, 896]
@[reducible] def k0_t2_loop (i : grid0.Coords) : Scf.Loop 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let v24 : BitVec 32 := Scalar.addi c0_i32 v23
  let c1_i32_16 : BitVec 32 := 1#32
  ⟨v27, v24, c1_i32_16⟩
def k0_mult2 (i : grid0.Coords) (k0_t2 : Fin (k0_t2_loop i).trips) : BitVec 32 :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  v540
def k0_off9 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v542 : Index := Scalar.indexCast v541
  let c0_179 : Index := 0#32
  ![v542.toNat, 0]
def k0_off10 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v564 : Index := Scalar.indexCast v541
  let c128_186 : Index := 128#32
  ![v564.toNat, 128]
def k0_off11 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v586 : Index := Scalar.indexCast v541
  let c256_193 : Index := 256#32
  ![v586.toNat, 256]
def k0_off12 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v608 : Index := Scalar.indexCast v541
  let c384_200 : Index := 384#32
  ![v608.toNat, 384]
def k0_off13 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v630 : Index := Scalar.indexCast v541
  let c512_207 : Index := 512#32
  ![v630.toNat, 512]
def k0_off14 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v652 : Index := Scalar.indexCast v541
  let c640_214 : Index := 640#32
  ![v652.toNat, 640]
def k0_off15 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v674 : Index := Scalar.indexCast v541
  let c768_221 : Index := 768#32
  ![v674.toNat, 768]
def k0_off16 (i : grid0.Coords) (k0_t2 : Fin (k0_t2_loop i).trips) : Fin 2 → Nat :=
  let c0_i32 : BitVec 32 := 0#32
  let arg1 : BitVec 32 := BitVec.ofNat 32 (i 1).val
  let v23 : BitVec 32 := Scalar.subi arg1 c0_i32
  let c1_i32 : BitVec 32 := 1#32
  let v25 : BitVec 32 := Scalar.divsi v23 c1_i32
  let v26 : BitVec 32 := Scalar.muli v25 c1_i32
  let v27 : BitVec 32 := Scalar.addi c0_i32 v26
  let c1_i32_16 : BitVec 32 := 1#32
  let arg6 : BitVec 32 := Scf.iv v27 c1_i32_16 k0_t2
  let c512_i32_178 : BitVec 32 := 512#32
  let v540 : BitVec 32 := Scalar.muli arg6 c512_i32_178
  let v541 : BitVec 32 := v540
  let v696 : Index := Scalar.indexCast v541
  let c896_228 : Index := 896#32
  ![v696.toNat, 896]
def k0_mult3 (i : grid0.Coords) : BitVec 32 :=
  let arg1 : BitVec 32 := BitVec.ofNat 32 (i 1).val
  let c512_i32 : BitVec 32 := 512#32
  let v30 : BitVec 32 := Scalar.muli arg1 c512_i32
  let c0_i32_17 : BitVec 32 := 0#32
  let v31 : BitVec 32 := Scalar.addi v30 c0_i32_17
  v31
def k0_off17 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v33 : Index := Scalar.indexCast v32
  let c0 : Index := 0#32
  ![v33.toNat, 0]
def k0_off18 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v57 : Index := Scalar.indexCast v32
  let c128 : Index := 128#32
  ![v57.toNat, 128]
def k0_off19 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v81 : Index := Scalar.indexCast v32
  let c256 : Index := 256#32
  ![v81.toNat, 256]
def k0_off20 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v105 : Index := Scalar.indexCast v32
  let c384 : Index := 384#32
  ![v105.toNat, 384]
def k0_off21 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v129 : Index := Scalar.indexCast v32
  let c512 : Index := 512#32
  ![v129.toNat, 512]
def k0_off22 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v153 : Index := Scalar.indexCast v32
  let c640 : Index := 640#32
  ![v153.toNat, 640]
def k0_off23 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v177 : Index := Scalar.indexCast v32
  let c768 : Index := 768#32
  ![v177.toNat, 768]
def k0_off24 (i : grid0.Coords) (c0_i32_17 : BitVec 32) : Fin 2 → Nat :=
  let arg1 : BitVec 32 := BitVec.ofNat 32 (i 1).val
  let c512_i32 : BitVec 32 := 512#32
  let v30 : BitVec 32 := Scalar.muli arg1 c512_i32
  let v31 : BitVec 32 := Scalar.addi v30 c0_i32_17
  let v32 : BitVec 32 := v31
  let v201 : Index := Scalar.indexCast v32
  let c896 : Index := 896#32
  ![v201.toNat, 896]
def k0_mult4 (i : grid0.Coords) : BitVec 32 :=
  let arg1 : BitVec 32 := BitVec.ofNat 32 (i 1).val
  let c512_i32_74 : BitVec 32 := 512#32
  let v225 : BitVec 32 := Scalar.muli arg1 c512_i32_74
  let c256_i32 : BitVec 32 := 256#32
  let v226 : BitVec 32 := Scalar.addi v225 c256_i32
  v226
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "neg_big" => some ⊥
  | _ => none
-- ==== ReferenceIdeal.lean ====
abbrev S8x2048x8x64 : Shape := ⟨4, ![8, 2048, 8, 64]⟩
abbrev S8x2048x8x32 : Shape := ⟨4, ![8, 2048, 8, 32]⟩
abbrev S8x2048x32 : Shape := ⟨3, ![8, 2048, 32]⟩
abbrev S8x8x2048x2048 : Shape := ⟨4, ![8, 8, 2048, 2048]⟩
abbrev S8x2048x2048x8 : Shape := ⟨4, ![8, 2048, 2048, 8]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S16384x512 : Shape := ⟨2, ![16384, 512]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x8x64, .f32⟩
  | .hbm, ⟨3, _⟩ => ⟨S8x2048x32, .f32⟩
  | .hbm, ⟨4, _⟩ => ⟨S8x2048x8x64, .f32⟩
  | .hbm, ⟨5, _⟩ => ⟨S8x8x2048x2048, .f32⟩
  | .hbm, ⟨6, _⟩ => ⟨S8x2048x2048x8, .f32⟩
  | .hbm, ⟨7, _⟩ => ⟨S8x8x2048x2048, .f32⟩
  | .hbm, ⟨8, _⟩ => ⟨S8x8x2048x2048, .f32⟩
  | .hbm, ⟨9, _⟩ => ⟨S_, .f32⟩
  | .hbm, ⟨10, _⟩ => ⟨S_, .f32⟩
  | .hbm, ⟨11, _⟩ => ⟨S8x8x2048x2048, .f32⟩
  | .hbm, ⟨12, _⟩ => ⟨S8x8x2048x2048, .f32⟩
  | .hbm, ⟨13, _⟩ => ⟨S2048, .i32⟩
  | .hbm, ⟨14, _⟩ => ⟨S1x2048, .i32⟩
  | .hbm, ⟨15, _⟩ => ⟨S2048, .i32⟩
  | .hbm, ⟨16, _⟩ => ⟨S2048x1, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S8x8x2048x2048, .i1⟩
  | .hbm, ⟨23, _⟩ => ⟨S8x8x2048x2048, .f32⟩
  | .hbm, ⟨24, _⟩ => ⟨S8x8x2048x2048, .f32⟩
  | .hbm, ⟨25, _⟩ => ⟨S_, .f32⟩
  | .hbm, ⟨26, _⟩ => ⟨S8x8x2048, .f32⟩
  | .hbm, ⟨27, _⟩ => ⟨S_, .f32⟩
  | .hbm, ⟨28, _⟩ => ⟨S8x8x2048, .f32⟩
  | .hbm, ⟨29, _⟩ => ⟨S8x8x2048, .f32⟩
  | .hbm, ⟨30, _⟩ => ⟨S8x8x2048x1, .f32⟩
  | .hbm, ⟨31, _⟩ => ⟨S8x8x2048x2048, .f32⟩
  | .hbm, ⟨32, _⟩ => ⟨S8x8x2048x2048, .f32⟩
  | .hbm, ⟨33, _⟩ => ⟨S8x8x2048x2048, .f32⟩
  | .hbm, ⟨34, _⟩ => ⟨S_, .f32⟩
  | .hbm, ⟨35, _⟩ => ⟨S8x8x2048, .f32⟩
  | .hbm, ⟨36, _⟩ => ⟨S8x8x2048x1, .f32⟩
  | .hbm, ⟨37, _⟩ => ⟨S8x8x2048x2048, .f32⟩
  | .hbm, ⟨38, _⟩ => ⟨S8x8x2048x2048, .f32⟩
  | .hbm, ⟨39, _⟩ => ⟨S8x8x64x2048, .f32⟩
  | .hbm, ⟨40, _⟩ => ⟨S8x2048x8x64, .f32⟩
  | .hbm, ⟨41, _⟩ => ⟨S16384x512, .f32⟩
  | .hbm, ⟨42, _⟩ => ⟨S16384x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== InProj.lean ====
abbrev S8x2048x1024 : Shape := ⟨3, ![8, 2048, 1024]⟩
abbrev S8x2048 : Shape := ⟨2, ![8, 2048]⟩
abbrev S1x1024 : Shape := ⟨2, ![1, 1024]⟩
abbrev S1024x4000 : Shape := ⟨2, ![1024, 4000]⟩
abbrev S1x2048 : Shape := ⟨2, ![1, 2048]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S3x512 : Shape := ⟨2, ![3, 512]⟩
abbrev S512x1024 : Shape := ⟨2, ![512, 1024]⟩
abbrev S16384x1024 : Shape := ⟨2, ![16384, 1024]⟩
abbrev S16x8x128 : Shape := ⟨3, ![16, 8, 128]⟩
abbrev S16 : Shape := ⟨1, ![16]⟩
abbrev S_ : Shape := ⟨0, ![]⟩
abbrev S1x16 : Shape := ⟨2, ![1, 16]⟩
abbrev S1x64 : Shape := ⟨2, ![1, 64]⟩
abbrev S1x32 : Shape := ⟨2, ![1, 32]⟩
abbrev S1024x32 : Shape := ⟨2, ![1024, 32]⟩
abbrev S1024x384 : Shape := ⟨2, ![1024, 384]⟩
abbrev S1024x64 : Shape := ⟨2, ![1024, 64]⟩
abbrev S1024x512 : Shape := ⟨2, ![1024, 512]⟩
abbrev S1024x1536 : Shape := ⟨2, ![1024, 1536]⟩
abbrev S1024x2048 : Shape := ⟨2, ![1024, 2048]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S5x512 : Shape := ⟨2, ![5, 512]⟩
abbrev S8x512 : Shape := ⟨2, ![8, 512]⟩
abbrev S1024x1024 : Shape := ⟨2, ![1024, 1024]⟩
abbrev S1x8x128 : Shape := ⟨3, ![1, 8, 128]⟩
abbrev S1024 : Shape := ⟨1, ![1024]⟩
abbrev S1024x1 : Shape := ⟨2, ![1024, 1]⟩
abbrev S1024x128 : Shape := ⟨2, ![1024, 128]⟩
abbrev S8x128 : Shape := ⟨2, ![8, 128]⟩
abbrev S128x128 : Shape := ⟨2, ![128, 128]⟩
abbrev S1024x256 : Shape := ⟨2, ![1024, 256]⟩
abbrev S1x512 : Shape := ⟨2, ![1, 512]⟩

abbrev nBuf : Space → Nat
  | .hbm => 74
  | .vmem => 28
  | .smem => 0
  | _ => 0

abbrev bufTy : (tb : Table) → Fin (tcTables nBuf tb) → BufTy
  | .hbm, ⟨0, _⟩ => ⟨S8x2048x1024, .f32⟩
  | .hbm, ⟨1, _⟩ => ⟨S8x2048, .i32⟩
  | .hbm, ⟨2, _⟩ => ⟨S1x1024, .f32⟩
  | .hbm, ⟨3, _⟩ => ⟨S1024x4000, .f32⟩
  | .hbm, ⟨4, _⟩ => ⟨S1x2048, .f32⟩
  | .hbm, ⟨5, _⟩ => ⟨S1x256, .f32⟩
  | .hbm, ⟨6, _⟩ => ⟨S256x768, .f32⟩
  | .hbm, ⟨7, _⟩ => ⟨S1x128, .f32⟩
  | .hbm, ⟨8, _⟩ => ⟨S128x1024, .f32⟩
  | .hbm, ⟨9, _⟩ => ⟨S3x512, .f32⟩
  | .hbm, ⟨10, _⟩ => ⟨S512x1024, .f32⟩
  | .hbm, ⟨11, _⟩ => ⟨S16384x1024, .f32⟩
  | .hbm, ⟨12, _⟩ => ⟨S16x8x128, .i32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S1x16, .f32⟩
  | .hbm, ⟨28, _⟩ => ⟨S_, .f32⟩
  | .hbm, ⟨29, _⟩ => ⟨S1x64, .f32⟩
  | .hbm, ⟨30, _⟩ => ⟨S_, .f32⟩
  | .hbm, ⟨31, _⟩ => ⟨S1x32, .f32⟩
  | .hbm, ⟨32, _⟩ => ⟨S1x128, .f32⟩
  | .hbm, ⟨33, _⟩ => ⟨S1024x32, .f32⟩
  | .hbm, ⟨34, _⟩ => ⟨S1024x384, .f32⟩
  | .hbm, ⟨35, _⟩ => ⟨S_, .f32⟩
  | .hbm, ⟨36, _⟩ => ⟨S1024x64, .f32⟩
  | .hbm, ⟨37, _⟩ => ⟨S_, .f32⟩
  | .hbm, ⟨38, _⟩ => ⟨S1024x32, .f32⟩
  | .hbm, ⟨39, _⟩ => ⟨S1024x512, .f32⟩
  | .hbm, ⟨40, _⟩ => ⟨S1024x512, .bf16⟩
  | .hbm, ⟨41, _⟩ => ⟨S1024x1536, .f32⟩
  | .hbm, ⟨42, _⟩ => ⟨S1024x1536, .bf16⟩
  | .hbm, ⟨43, _⟩ => ⟨S1024x2048, .f32⟩
  | .hbm, ⟨44, _⟩ => ⟨S1024x2048, .bf16⟩
  | .hbm, ⟨45, _⟩ => ⟨S256x8x96, .f32⟩
  | .hbm, ⟨46, _⟩ => ⟨S_, .f32⟩
  | .hbm, ⟨47, _⟩ => ⟨S256x8x32, .f32⟩
  | .hbm, ⟨48, _⟩ => ⟨S256x8x128, .f32⟩
  | .hbm, ⟨49, _⟩ => ⟨S256x1024, .f32⟩
  | .hbm, ⟨50, _⟩ => ⟨S256x1024, .bf16⟩
  | .hbm, ⟨51, _⟩ => ⟨S128x8x128, .f32⟩
  | .hbm, ⟨52, _⟩ => ⟨S128x8x64, .f32⟩
  | .hbm, ⟨53, _⟩ => ⟨S_, .f32⟩
  | .hbm, ⟨54, _⟩ => ⟨S128x8x64, .f32⟩
  | .hbm, ⟨55, _⟩ => ⟨S128x8x128, .f32⟩
  | .hbm, ⟨56, _⟩ => ⟨S128x1024, .f32⟩
  | .hbm, ⟨57, _⟩ => ⟨S128x1024, .bf16⟩
  | .hbm, ⟨58, _⟩ => ⟨S128x8x128, .f32⟩
  | .hbm, ⟨59, _⟩ => ⟨S128x8x64, .f32⟩
  | .hbm, ⟨60, _⟩ => ⟨S_, .f32⟩
  | .hbm, ⟨61, _⟩ => ⟨S128x8x64, .f32⟩
  | .hbm, ⟨62, _⟩ => ⟨S128x8x128, .f32⟩
  | .hbm, ⟨63, _⟩ => ⟨S128x1024, .f32⟩
  | .hbm, ⟨64, _⟩ => ⟨S128x1024, .bf16⟩
  | .hbm, ⟨65, _⟩ => ⟨S_, .f32⟩
  | .hbm, ⟨66, _⟩ => ⟨S5x512, .f32⟩
  | .hbm, ⟨67, _⟩ => ⟨S8x512, .f32⟩
  | .hbm, ⟨68, _⟩ => ⟨S512x1024, .bf16⟩
  | .hbm, ⟨69, _⟩ => ⟨S16384x1024, .bf16⟩
  | .hbm, ⟨70, _⟩ => ⟨S16384x1024, .bf16⟩
  | .hbm, ⟨71, _⟩ => ⟨S16384x1024, .bf16⟩
  | .hbm, ⟨72, _⟩ => ⟨S16384x1024, .bf16⟩
  | .hbm, ⟨73, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x8x128, .i32⟩
  | .local _ .vmem, ⟨3, _⟩ => ⟨S1x8x128, .i32⟩
  | .local _ .vmem, ⟨4, _⟩ => ⟨S1x128, .f32⟩
  | .local _ .vmem, ⟨5, _⟩ => ⟨S1x1024, .f32⟩
  | .local _ .vmem, ⟨6, _⟩ => ⟨S1024x512, .bf16⟩
  | .local _ .vmem, ⟨7, _⟩ => ⟨S1024x1536, .bf16⟩
  | .local _ .vmem, ⟨8, _⟩ => ⟨S1024x2048, .bf16⟩
  | .local _ .vmem, ⟨9, _⟩ => ⟨S1x2048, .f32⟩
  | .local _ .vmem, ⟨10, _⟩ => ⟨S1x256, .f32⟩
  | .local _ .vmem, ⟨11, _⟩ => ⟨S256x1024, .bf16⟩
  | .local _ .vmem, ⟨12, _⟩ => ⟨S1x128, .f32⟩
  | .local _ .vmem, ⟨13, _⟩ => ⟨S128x1024, .bf16⟩
  | .local _ .vmem, ⟨14, _⟩ => ⟨S128x1024, .bf16⟩
  | .local _ .vmem, ⟨15, _⟩ => ⟨S8x512, .f32⟩
  | .local _ .vmem, ⟨16, _⟩ => ⟨S512x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S8x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev main_v46_2 : Ref sig .tc := ⟨.hbm, 71, rfl⟩
abbrev main_v46_3 : Ref sig .tc := ⟨.hbm, 72, rfl⟩
abbrev main_v46_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== InProjIdeal.lean ====
variable {F : FTy → Type} [FloatOps F] [Named F]
def κ : String → Option EReal := fun
  | "scale" => some ((((Real.log 2) * (Real.sqrt 96))⁻¹ : ℝ) : EReal)
  | _ => none
-- ==== InProjRefIdeal.lean ====
abbrev S8x2048x1024 : Shape := ⟨3, ![8, 2048, 1024]⟩
abbrev S8x2048 : Shape := ⟨2, ![8, 2048]⟩
abbrev S1x1024 : Shape := ⟨2, ![1, 1024]⟩
abbrev S1024x4000 : Shape := ⟨2, ![1024, 4000]⟩
abbrev S1x2048 : Shape := ⟨2, ![1, 2048]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S3x512 : Shape := ⟨2, ![3, 512]⟩
abbrev S512x1024 : Shape := ⟨2, ![512, 1024]⟩
abbrev S_ : Shape := ⟨0, ![]⟩
abbrev S8x2048x1 : Shape := ⟨3, ![8, 2048, 1]⟩
abbrev S1x1x1024 : Shape := ⟨3, ![1, 1, 1024]⟩
abbrev S8x2048x4000 : Shape := ⟨3, ![8, 2048, 4000]⟩
abbrev S8x2048x1536 : Shape := ⟨3, ![8, 2048, 1536]⟩
abbrev S8x2048x2048 : Shape := ⟨3, ![8, 2048, 2048]⟩
abbrev S8x2048x512 : Shape := ⟨3, ![8, 2048, 512]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩
abbrev S1x1x2048 : Shape := ⟨3, ![1, 1, 2048]⟩
abbrev S16 : Shape := ⟨1, ![16]⟩
abbrev S1x1x16 : Shape := ⟨3, ![1, 1, 16]⟩
abbrev S8x2048x16 : Shape := ⟨3, ![8, 2048, 16]⟩
abbrev S8x2048x256 : Shape := ⟨3, ![8, 2048, 256]⟩
abbrev S1x1x256 : Shape := ⟨3, ![1, 1, 256]⟩
abbrev S8x2048x768 : Shape := ⟨3, ![8, 2048, 768]⟩
abbrev S8x2048x8x96 : Shape := ⟨4, ![8, 2048, 8, 96]⟩
abbrev S8x2048x8x16 : Shape := ⟨4, ![8, 2048, 8, 16]⟩
abbrev S8x2048x1x16 : Shape := ⟨4, ![8, 2048, 1, 16]⟩
abbrev S8x2048x8x32 : Shape := ⟨4, ![8, 2048, 8, 32]⟩
abbrev S8x2048x128 : Shape := ⟨3, ![8, 2048, 128]⟩
abbrev S1x1x128 : Shape := ⟨3, ![1, 1, 128]⟩
abbrev S8x2048x8x128 : Shape := ⟨4, ![8, 2048, 8, 128]⟩
abbrev S8x2048x32 : Shape := ⟨3, ![8, 2048, 32]⟩
abbrev S8x2048x1x32 : Shape := ⟨4, ![8, 2048, 1, 32]⟩
abbrev S8x2048x8x64 : Shape := ⟨4, ![8, 2048, 8, 64]⟩
abbrev S8x2048x8x1 : Shape := ⟨4, ![8, 2048, 8, 1]⟩
abbrev S8x2048x8x63 : Shape := ⟨4, ![8, 2048, 8, 63]⟩
abbrev S16384x1024 : Shape := ⟨2, ![16384, 1024]⟩

abbrev nBuf : Space → Nat
  | .hbm => 194
  | .vmem => 0
  | .smem => 0
  | _ => 0

abbrev hbmTy0_0 (i : Nat) : BufTy := match i % 128 with
  | 0 => ⟨S8x2048x1024, .f32⟩
  | 1 => ⟨S8x2048, .i32⟩
  | 2 => ⟨S1x1024, .f32⟩
  | 3 => ⟨S1024x4000, .f32⟩
  | 4 => ⟨S1x2048, .f32⟩
  | 5 => ⟨S1x256, .f32⟩
  | 6 => ⟨S256x768, .f32⟩
  | 7 => ⟨S1x128, .f32⟩
  | 8 => ⟨S128x1024, .f32⟩
  | 9 => ⟨S3x512, .f32⟩
  | 10 => ⟨S512x1024, .f32⟩
  | 11 => ⟨S8x2048x1024, .f32⟩
  | 12 => ⟨S_, .f32⟩
  | 13 => ⟨S8x2048, .f32⟩
  | 14 => ⟨S8x2048x1, .f32⟩
  | 15 => ⟨S_, .f32⟩
  | 16 => ⟨S8x2048x1, .f32⟩
  | 17 => ⟨S8x2048x1, .f32⟩
  | 18 => ⟨S_, .f32⟩
  | 19 => ⟨S8x2048x1, .f32⟩
  | 20 => ⟨S8x2048x1, .f32⟩
  | 21 => ⟨S8x2048x1, .f32⟩
  | 22 => ⟨S8x2048x1024, .f32⟩
  | 23 => ⟨S8x2048x1024, .f32⟩
  | 24 => ⟨S1x1x1024, .f32⟩
  | 25 => ⟨S8x2048x1024, .f32⟩
  | 26 => ⟨S8x2048x1024, .f32⟩
  | 27 => ⟨S8x2048x4000, .f32⟩
  | 28 => ⟨S8x2048x1536, .f32⟩
  | 29 => ⟨S8x2048x2048, .f32⟩
  | 30 => ⟨S8x2048x512, .f32⟩
  | 31 => ⟨S8x2048x512, .f32⟩
  | 32 => ⟨S8x2048x512, .f32⟩
  | 33 => ⟨S8x2048x512, .f32⟩
  | 34 => ⟨S_, .i32⟩
  | 35 => ⟨S_, .f32⟩
  | 36 => ⟨S8x2050x512, .f32⟩
  | 37 => ⟨S1x512, .f32⟩
  | 38 => ⟨S512, .f32⟩
  | 39 => ⟨S8x2048x512, .f32⟩
  | 40 => ⟨S1x1x512, .f32⟩
  | 41 => ⟨S8x2048x512, .f32⟩
  | 42 => ⟨S8x2048x512, .f32⟩
  | 43 => ⟨S1x512, .f32⟩
  | 44 => ⟨S512, .f32⟩
  | 45 => ⟨S8x2048x512, .f32⟩
  | 46 => ⟨S1x1x512, .f32⟩
  | 47 => ⟨S8x2048x512, .f32⟩
  | 48 => ⟨S8x2048x512, .f32⟩
  | 49 => ⟨S8x2048x512, .f32⟩
  | 50 => ⟨S1x512, .f32⟩
  | 51 => ⟨S512, .f32⟩
  | 52 => ⟨S8x2048x512, .f32⟩
  | 53 => ⟨S1x1x512, .f32⟩
  | 54 => ⟨S8x2048x512, .f32⟩
  | 55 => ⟨S8x2048x512, .f32⟩
  | 56 => ⟨S8x2048x512, .f32⟩
  | 57 => ⟨S8x2048x512, .f32⟩
  | 58 => ⟨S1x1x2048, .f32⟩
  | 59 => ⟨S8x2048x2048, .f32⟩
  | 60 => ⟨S8x2048x2048, .f32⟩
  | 61 => ⟨S8x2048x2048, .f32⟩
  | 62 => ⟨S8x2048x2048, .f32⟩
  | 63 => ⟨S_, .f32⟩
  | 64 => ⟨S8x2048x2048, .f32⟩
  | 65 => ⟨S8x2048x2048, .f32⟩
  | 66 => ⟨S_, .f32⟩
  | 67 => ⟨S8x2048x2048, .f32⟩
  | 68 => ⟨S8x2048x2048, .f32⟩
  | 69 => ⟨S8x2048x1024, .f32⟩
  | 70 => ⟨S8x2048x1024, .f32⟩
  | 71 => ⟨S8x2048x1024, .f32⟩
  | 72 => ⟨S8x2048x1024, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S8x2048, .f32⟩
  | 88 => ⟨S8x2048x1, .f32⟩
  | 89 => ⟨S1x1x16, .f32⟩
  | 90 => ⟨S8x2048x16, .f32⟩
  | 91 => ⟨S8x2048x16, .f32⟩
  | 92 => ⟨S8x2048x16, .f32⟩
  | 93 => ⟨S8x2048x16, .f32⟩
  | 94 => ⟨S8x2048x16, .f32⟩
  | 95 => ⟨S8x2048x256, .f32⟩
  | 96 => ⟨S8x2048x256, .f32⟩
  | 97 => ⟨S_, .f32⟩
  | 98 => ⟨S8x2048, .f32⟩
  | 99 => ⟨S8x2048x1, .f32⟩
  | 100 => ⟨S_, .f32⟩
  | 101 => ⟨S8x2048x1, .f32⟩
  | 102 => ⟨S8x2048x1, .f32⟩
  | 103 => ⟨S_, .f32⟩
  | 104 => ⟨S8x2048x1, .f32⟩
  | 105 => ⟨S8x2048x1, .f32⟩
  | 106 => ⟨S8x2048x1, .f32⟩
  | 107 => ⟨S8x2048x256, .f32⟩
  | 108 => ⟨S8x2048x256, .f32⟩
  | 109 => ⟨S1x1x256, .f32⟩
  | 110 => ⟨S8x2048x256, .f32⟩
  | 111 => ⟨S8x2048x256, .f32⟩
  | 112 => ⟨S8x2048x768, .f32⟩
  | 113 => ⟨S8x2048x8x96, .f32⟩
  | 114 => ⟨S8x2048x8x16, .f32⟩
  | 115 => ⟨S8x2048x8x16, .f32⟩
  | 116 => ⟨S8x2048x1x16, .f32⟩
  | 117 => ⟨S8x2048x1x16, .f32⟩
  | 118 => ⟨S8x2048x8x16, .f32⟩
  | 119 => ⟨S8x2048x8x16, .f32⟩
  | 120 => ⟨S8x2048x8x16, .f32⟩
  | 121 => ⟨S8x2048x8x16, .f32⟩
  | 122 => ⟨S8x2048x8x16, .f32⟩
  | 123 => ⟨S8x2048x8x16, .f32⟩
  | 124 => ⟨S8x2048x8x16, .f32⟩
  | 125 => ⟨S8x2048x8x16, .f32⟩
  | 126 => ⟨S8x2048x8x16, .f32⟩
  | 127 => ⟨S8x2048x8x16, .f32⟩
  | _ => ⟨S8x2048x1024, .f32⟩

abbrev hbmTy0_1 (i : Nat) : BufTy := match i % 128 with
  | 0 => ⟨S8x2048x8x32, .f32⟩
  | 1 => ⟨S8x2048x128, .f32⟩
  | 2 => ⟨S8x2048x128, .f32⟩
  | 3 => ⟨S_, .f32⟩
  | 4 => ⟨S8x2048, .f32⟩
  | 5 => ⟨S8x2048x1, .f32⟩
  | 6 => ⟨S_, .f32⟩
  | 7 => ⟨S8x2048x1, .f32⟩
  | 8 => ⟨S8x2048x1, .f32⟩
  | 9 => ⟨S_, .f32⟩
  | 10 => ⟨S8x2048x1, .f32⟩
  | 11 => ⟨S8x2048x1, .f32⟩
  | 12 => ⟨S8x2048x1, .f32⟩
  | 13 => ⟨S8x2048x128, .f32⟩
  | 14 => ⟨S8x2048x128, .f32⟩
  | 15 => ⟨S1x1x128, .f32⟩
  | 16 => ⟨S8x2048x128, .f32⟩
  | 17 => ⟨S8x2048x128, .f32⟩
  | 18 => ⟨S8x2048x1024, .f32⟩
  | 19 => ⟨S8x2048x8x128, .f32⟩
  | 20 => ⟨S8x2048x32, .f32⟩
  | 21 => ⟨S8x2048x16, .f32⟩
  | 22 => ⟨S8x2048x16, .f32⟩
  | 23 => ⟨S8x2048x16, .f32⟩
  | 24 => ⟨S8x2048x16, .f32⟩
  | 25 => ⟨S8x2048x16, .f32⟩
  | 26 => ⟨S8x2048x16, .f32⟩
  | 27 => ⟨S8x2048x16, .f32⟩
  | 28 => ⟨S8x2048x16, .f32⟩
  | 29 => ⟨S8x2048x32, .f32⟩
  | 30 => ⟨S8x2048x1x32, .f32⟩
  | 31 => ⟨S8x2048x8x32, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S8x2048x8x64, .f32⟩
  | 40 => ⟨S8x2048x8x96, .f32⟩
  | 41 => ⟨S8x2048x8x96, .f32⟩
  | 42 => ⟨S8x2048x8x96, .f32⟩
  | 43 => ⟨S_, .f32⟩
  | 44 => ⟨S8x2048x8x32, .f32⟩
  | 45 => ⟨S8x2048x8x128, .f32⟩
  | 46 => ⟨S8x2048x8x64, .f32⟩
  | 47 => ⟨S_, .f32⟩
  | 48 => ⟨S8x2048x8x32, .f32⟩
  | 49 => ⟨S8x2048x8x128, .f32⟩
  | 50 => ⟨S8x2048x8x64, .f32⟩
  | 51 => ⟨S_, .f32⟩
  | 52 => ⟨S8x2048x8x1, .f32⟩
  | 53 => ⟨S_, .f32⟩
  | 54 => ⟨S8x2048x8x63, .f32⟩
  | 55 => ⟨S8x2048x8x128, .f32⟩
  | 56 => ⟨S16384x1024, .f32⟩
  | 57 => ⟨S16384x1024, .bf16⟩
  | 58 => ⟨S16384x1024, .f32⟩
  | 59 => ⟨S16384x1024, .bf16⟩
  | 60 => ⟨S16384x1024, .f32⟩
  | 61 => ⟨S16384x1024, .bf16⟩
  | 62 => ⟨S16384x1024, .f32⟩
  | 63 => ⟨S16384x1024, .bf16⟩
  | 64 => ⟨S16384x1024, .f32⟩
  | 65 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_2 : Ref sig .tc := ⟨.hbm, 63, rfl⟩
abbrev main_v47 : Ref sig .tc := ⟨.hbm, 64, rfl⟩
abbrev main_v48 : Ref sig .tc := ⟨.hbm, 65, rfl⟩
abbrev main_cst_3 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_cst_5 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_cst_7 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_8 : Ref sig .tc := ⟨.hbm, 97, rfl⟩
abbrev main_v75 : Ref sig .tc := ⟨.hbm, 98, rfl⟩
abbrev main_v76 : Ref sig .tc := ⟨.hbm, 99, rfl⟩
abbrev main_cst_9 : Ref sig .tc := ⟨.hbm, 100, rfl⟩
abbrev main_v77 : Ref sig .tc := ⟨.hbm, 101, rfl⟩
abbrev main_v78 : Ref sig .tc := ⟨.hbm, 102, rfl⟩
abbrev main_cst_10 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_11 : Ref sig .tc := ⟨.hbm, 131, rfl⟩
abbrev main_v106 : Ref sig .tc := ⟨.hbm, 132, rfl⟩
abbrev main_v107 : Ref sig .tc := ⟨.hbm, 133, rfl⟩
abbrev main_cst_12 : Ref sig .tc := ⟨.hbm, 134, rfl⟩
abbrev main_v108 : Ref sig .tc := ⟨.hbm, 135, rfl⟩
abbrev main_v109 : Ref sig .tc := ⟨.hbm, 136, rfl⟩
abbrev main_cst_13 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_14 : Ref sig .tc := ⟨.hbm, 160, rfl⟩
abbrev main_v132 : Ref sig .tc := ⟨.hbm, 161, rfl⟩
abbrev main_cst_15 : Ref sig .tc := ⟨.hbm, 162, rfl⟩
abbrev main_v133 : Ref sig .tc := ⟨.hbm, 163, rfl⟩
abbrev main_v134 : Ref sig .tc := ⟨.hbm, 164, rfl⟩
abbrev main_cst_16 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_cst_17 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_18 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_cst_19 : Ref sig .tc := ⟨.hbm, 179, rfl⟩
abbrev main_v146 : Ref sig .tc := ⟨.hbm, 180, rfl⟩
abbrev main_cst_20 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩

abbrev nD : Nat := 1
abbrev τ : Topo := Topo.v7x

variable {F : FTy → Type} [FloatOps F]
-- ==== Post.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1024x8 : Shape := ⟨2, ![1024, 8]⟩
abbrev S1x8 : Shape := ⟨2, ![1, 8]⟩
abbrev S1024x64 : Shape := ⟨2, ![1024, 64]⟩
abbrev S1x64 : Shape := ⟨2, ![1, 64]⟩
abbrev S_ : Shape := ⟨0, ![]⟩
abbrev S1024x56 : Shape := ⟨2, ![1024, 56]⟩
abbrev S1024x128 : Shape := ⟨2, ![1024, 128]⟩
abbrev S1x56 : Shape := ⟨2, ![1, 56]⟩
abbrev S1x128 : Shape := ⟨2, ![1, 128]⟩
abbrev S16384x1024 : Shape := ⟨2, ![16384, 1024]⟩
abbrev S16384x512 : Shape := ⟨2, ![16384, 512]⟩
abbrev S2048x1024 : Shape := ⟨2, ![2048, 1024]⟩
abbrev S2048x8x1024 : Shape := ⟨3, ![2048, 8, 1024]⟩
abbrev S8x16384 : Shape := ⟨2, ![8, 16384]⟩
abbrev S16384x128 : Shape := ⟨2, ![16384, 128]⟩
abbrev S8x128 : Shape := ⟨2, ![8, 128]⟩
abbrev S256x1024 : Shape := ⟨2, ![256, 1024]⟩
abbrev S128x8x1024 : Shape := ⟨3, ![128, 8, 1024]⟩
abbrev S8x1024 : Shape := ⟨2, ![8, 1024]⟩
abbrev S256x512 : Shape := ⟨2, ![256, 512]⟩
abbrev S256 : Shape := ⟨1, ![256]⟩
abbrev S256x1 : Shape := ⟨2, ![256, 1]⟩
abbrev S1024 : Shape := ⟨1, ![1024]⟩
abbrev S1024x1 : Shape := ⟨2, ![1024, 1]⟩
abbrev S256x128 : Shape := ⟨2, ![256, 128]⟩
abbrev S1024x256 : Shape := ⟨2, ![1024, 256]⟩
abbrev S128 : Shape := ⟨1, ![128]⟩
abbrev S128x1024 : Shape := ⟨2, ![128, 1024]⟩

abbrev nBuf : Space → Nat
  | .hbm => 42
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x1024, .f32⟩
  | .hbm, ⟨3, _⟩ => ⟨S8x2048x1024, .f32⟩
  | .hbm, ⟨4, _⟩ => ⟨S8x256x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1024x512, .f32⟩
  | .hbm, ⟨9, _⟩ => ⟨S1x1024, .f32⟩
  | .hbm, ⟨10, _⟩ => ⟨S1024x1024, .f32⟩
  | .hbm, ⟨11, _⟩ => ⟨S512x1024, .f32⟩
  | .hbm, ⟨12, _⟩ => ⟨S1x1024, .f32⟩
  | .hbm, ⟨13, _⟩ => ⟨S1024x8, .f32⟩
  | .hbm, ⟨14, _⟩ => ⟨S1x8, .f32⟩
  | .hbm, ⟨15, _⟩ => ⟨S1024x64, .f32⟩
  | .hbm, ⟨16, _⟩ => ⟨S1x64, .f32⟩
  | .hbm, ⟨17, _⟩ => ⟨S_, .f32⟩
  | .hbm, ⟨18, _⟩ => ⟨S1024x56, .f32⟩
  | .hbm, ⟨19, _⟩ => ⟨S1024x128, .f32⟩
  | .hbm, ⟨20, _⟩ => ⟨S1024x128, .bf16⟩
  | .hbm, ⟨21, _⟩ => ⟨S_, .f32⟩
  | .hbm, ⟨22, _⟩ => ⟨S1x56, .f32⟩
  | .hbm, ⟨23, _⟩ => ⟨S1x128, .f32⟩
  | .hbm, ⟨24, _⟩ => ⟨S16384x1024, .f32⟩
  | .hbm, ⟨25, _⟩ => ⟨S16384x512, .f32⟩
  | .hbm, ⟨26, _⟩ => ⟨S16384x512, .bf16⟩
  | .hbm, ⟨27, _⟩ => ⟨S16384x1024, .f32⟩
  | .hbm, ⟨28, _⟩ => ⟨S16384x1024, .bf16⟩
  | .hbm, ⟨29, _⟩ => ⟨S16384x1024, .f32⟩
  | .hbm, ⟨30, _⟩ => ⟨S16384x1024, .bf16⟩
  | .hbm, ⟨31, _⟩ => ⟨S512x1024, .bf16⟩
  | .hbm, ⟨32, _⟩ => ⟨S1024x1024, .bf16⟩
  | .hbm, ⟨33, _⟩ => ⟨S1024x512, .bf16⟩
  | .hbm, ⟨34, _⟩ => ⟨S2048x1024, .f32⟩
  | .hbm, ⟨35, _⟩ => ⟨S1024x1024, .bf16⟩
  | .hbm, ⟨36, _⟩ => ⟨S512x1024, .bf16⟩
  | .hbm, ⟨37, _⟩ => ⟨S16384x1024, .f32⟩
  | .hbm, ⟨38, _⟩ => ⟨S2048x8x1024, .f32⟩
  | .hbm, ⟨39, _⟩ => ⟨S8x16384, .f32⟩
  | .hbm, ⟨40, _⟩ => ⟨S16384x128, .f32⟩
  | .hbm, ⟨41, _⟩ => ⟨S8x128, .i32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x512, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1024x1024, .bf16⟩
  | .local _ .vmem, ⟨16, _⟩ => ⟨S512x1024, .bf16⟩
  | .local _ .vmem, ⟨17, _⟩ => ⟨S1x1024, .f32⟩
  | .local _ .vmem, ⟨18, _⟩ => ⟨S1024x128, .bf16⟩
  | .local _ .vmem, ⟨19, _⟩ => ⟨S1x128, .f32⟩
  | .local _ .vmem, ⟨20, _⟩ => ⟨S1024x1024, .f32⟩
  | .local _ .vmem, ⟨21, _⟩ => ⟨S1024x1024, .f32⟩
  | .local _ .vmem, ⟨22, _⟩ => ⟨S128x8x1024, .f32⟩
  | .local _ .vmem, ⟨23, _⟩ => ⟨S128x8x1024, .f32⟩
  | .local _ .vmem, ⟨24, _⟩ => ⟨S8x1024, .f32⟩
  | .local _ .vmem, ⟨25, _⟩ => ⟨S8x1024, .f32⟩
  | .local _ .vmem, ⟨26, _⟩ => ⟨S1024x128, .f32⟩
  | .local _ .vmem, ⟨27, _⟩ => ⟨S1024x128, .f32⟩
  | .local _ .vmem, ⟨28, _⟩ => ⟨S8x128, .i32⟩
  | .local _ .vmem, ⟨29, _⟩ => ⟨S1x128, .f32⟩
  | .local _ .vmem, ⟨30, _⟩ => ⟨S256x512, .bf16⟩
  | .local _ .vmem, ⟨31, _⟩ => ⟨S256x512, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v18_2 : Ref sig .tc := ⟨.hbm, 39, rfl⟩
abbrev main_v18_3 : Ref sig .tc := ⟨.hbm, 40, rfl⟩
abbrev main_v18_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x8x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S8x128 .i32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== PostIdeal.lean ====
variable {F : FTy → Type} [FloatOps F] [Named F]
def κ : String → Option EReal := fun
  | "root" => some (((Real.sqrt 128)⁻¹ : ℝ) : EReal)
  | _ => none
-- ==== PostRefIdeal.lean ====
abbrev S8x2048x1024 : Shape := ⟨3, ![8, 2048, 1024]⟩
abbrev S8x2048x512 : Shape := ⟨3, ![8, 2048, 512]⟩
abbrev S8x256x1024 : Shape := ⟨3, ![8, 256, 1024]⟩
abbrev S512x1024 : Shape := ⟨2, ![512, 1024]⟩
abbrev S1024x1024 : Shape := ⟨2, ![1024, 1024]⟩
abbrev S1x1024 : Shape := ⟨2, ![1, 1024]⟩
abbrev S1024x512 : Shape := ⟨2, ![1024, 512]⟩
abbrev S1024x8 : Shape := ⟨2, ![1024, 8]⟩
abbrev S1x8 : Shape := ⟨2, ![1, 8]⟩
abbrev S1024x64 : Shape := ⟨2, ![1024, 64]⟩
abbrev S1x64 : Shape := ⟨2, ![1, 64]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x4x128 : Shape := ⟨4, ![8, 2048, 4, 128]⟩
abbrev S8x256 : Shape := ⟨2, ![8, 256]⟩
abbrev S8x256x1 : Shape := ⟨3, ![8, 256, 1]⟩
abbrev S8x256x2x4x128 : Shape := ⟨5, ![8, 256, 2, 4, 128]⟩
abbrev S8x256x1x4x128 : Shape := ⟨5, ![8, 256, 1, 4, 128]⟩
abbrev S8x256x4x128 : Shape := ⟨4, ![8, 256, 4, 128]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S16384x1024 : Shape := ⟨2, ![16384, 1024]⟩
abbrev S2048x8x1024 : Shape := ⟨3, ![2048, 8, 1024]⟩

abbrev nBuf : Space → Nat
  | .hbm => 104
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x1024, .f32⟩
  | .hbm, ⟨3, _⟩ => ⟨S8x2048x1024, .f32⟩
  | .hbm, ⟨4, _⟩ => ⟨S8x256x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S1024x512, .f32⟩
  | .hbm, ⟨9, _⟩ => ⟨S1x1024, .f32⟩
  | .hbm, ⟨10, _⟩ => ⟨S1024x1024, .f32⟩
  | .hbm, ⟨11, _⟩ => ⟨S512x1024, .f32⟩
  | .hbm, ⟨12, _⟩ => ⟨S1x1024, .f32⟩
  | .hbm, ⟨13, _⟩ => ⟨S1024x8, .f32⟩
  | .hbm, ⟨14, _⟩ => ⟨S1x8, .f32⟩
  | .hbm, ⟨15, _⟩ => ⟨S1024x64, .f32⟩
  | .hbm, ⟨16, _⟩ => ⟨S1x64, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S8x2048x512, .f32⟩
  | .hbm, ⟨39, _⟩ => ⟨S8x2048x4x128, .f32⟩
  | .hbm, ⟨40, _⟩ => ⟨S8x256x1024, .f32⟩
  | .hbm, ⟨41, _⟩ => ⟨S_, .f32⟩
  | .hbm, ⟨42, _⟩ => ⟨S8x256, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S_, .f32⟩
  | .hbm, ⟨48, _⟩ => ⟨S8x256x1, .f32⟩
  | .hbm, ⟨49, _⟩ => ⟨S8x256x1, .f32⟩
  | .hbm, ⟨50, _⟩ => ⟨S8x256x1, .f32⟩
  | .hbm, ⟨51, _⟩ => ⟨S8x256x1024, .f32⟩
  | .hbm, ⟨52, _⟩ => ⟨S8x256x1024, .f32⟩
  | .hbm, ⟨53, _⟩ => ⟨S1x1x1024, .f32⟩
  | .hbm, ⟨54, _⟩ => ⟨S8x256x1024, .f32⟩
  | .hbm, ⟨55, _⟩ => ⟨S8x256x1024, .f32⟩
  | .hbm, ⟨56, _⟩ => ⟨S8x256x1024, .f32⟩
  | .hbm, ⟨57, _⟩ => ⟨S8x256x2x4x128, .f32⟩
  | .hbm, ⟨58, _⟩ => ⟨S8x256x1x4x128, .f32⟩
  | .hbm, ⟨59, _⟩ => ⟨S8x256x4x128, .f32⟩
  | .hbm, ⟨60, _⟩ => ⟨S8x256x1x4x128, .f32⟩
  | .hbm, ⟨61, _⟩ => ⟨S8x256x4x128, .f32⟩
  | .hbm, ⟨62, _⟩ => ⟨S8x4x2048x256, .f32⟩
  | .hbm, ⟨63, _⟩ => ⟨S_, .f32⟩
  | .hbm, ⟨64, _⟩ => ⟨S_, .f32⟩
  | .hbm, ⟨65, _⟩ => ⟨S8x4x2048x256, .f32⟩
  | .hbm, ⟨66, _⟩ => ⟨S8x4x2048x256, .f32⟩
  | .hbm, ⟨67, _⟩ => ⟨S_, .f32⟩
  | .hbm, ⟨68, _⟩ => ⟨S8x4x2048, .f32⟩
  | .hbm, ⟨69, _⟩ => ⟨S_, .f32⟩
  | .hbm, ⟨70, _⟩ => ⟨S8x4x2048, .f32⟩
  | .hbm, ⟨71, _⟩ => ⟨S8x4x2048, .f32⟩
  | .hbm, ⟨72, _⟩ => ⟨S8x4x2048x1, .f32⟩
  | .hbm, ⟨73, _⟩ => ⟨S8x4x2048x256, .f32⟩
  | .hbm, ⟨74, _⟩ => ⟨S8x4x2048x256, .f32⟩
  | .hbm, ⟨75, _⟩ => ⟨S8x4x2048x256, .f32⟩
  | .hbm, ⟨76, _⟩ => ⟨S_, .f32⟩
  | .hbm, ⟨77, _⟩ => ⟨S8x4x2048, .f32⟩
  | .hbm, ⟨78, _⟩ => ⟨S8x4x2048x1, .f32⟩
  | .hbm, ⟨79, _⟩ => ⟨S8x4x2048x256, .f32⟩
  | .hbm, ⟨80, _⟩ => ⟨S8x4x2048x256, .f32⟩
  | .hbm, ⟨81, _⟩ => ⟨S8x4x128x2048, .f32⟩
  | .hbm, ⟨82, _⟩ => ⟨S8x2048x4x128, .f32⟩
  | .hbm, ⟨83, _⟩ => ⟨S8x2048x512, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S_, .f32⟩
  | .hbm, ⟨88, _⟩ => ⟨S8x2048, .f32⟩
  | .hbm, ⟨89, _⟩ => ⟨S8x2048x1, .f32⟩
  | .hbm, ⟨90, _⟩ => ⟨S_, .f32⟩
  | .hbm, ⟨91, _⟩ => ⟨S8x2048x1, .f32⟩
  | .hbm, ⟨92, _⟩ => ⟨S8x2048x1, .f32⟩
  | .hbm, ⟨93, _⟩ => ⟨S_, .f32⟩
  | .hbm, ⟨94, _⟩ => ⟨S8x2048x1, .f32⟩
  | .hbm, ⟨95, _⟩ => ⟨S8x2048x1, .f32⟩
  | .hbm, ⟨96, _⟩ => ⟨S8x2048x1, .f32⟩
  | .hbm, ⟨97, _⟩ => ⟨S8x2048x1024, .f32⟩
  | .hbm, ⟨98, _⟩ => ⟨S8x2048x1024, .f32⟩
  | .hbm, ⟨99, _⟩ => ⟨S1x1x1024, .f32⟩
  | .hbm, ⟨100, _⟩ => ⟨S8x2048x1024, .f32⟩
  | .hbm, ⟨101, _⟩ => ⟨S8x2048x1024, .f32⟩
  | .hbm, ⟨102, _⟩ => ⟨S16384x1024, .f32⟩
  | .hbm, ⟨103, _⟩ => ⟨S2048x8x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_6 : Ref sig .tc := ⟨.hbm, 67, rfl⟩
abbrev main_v43 : Ref sig .tc := ⟨.hbm, 68, rfl⟩
abbrev main_cst_7 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩

abbrev nD : Nat := 1
abbrev τ : Topo := Topo.v7x

variable {F : FTy → Type} [FloatOps F]
-- ==== Proof.Online.lean ====
module

public import Idealize.ShloMosaic.Lib.Pointwise
public import Mathlib.Analysis.SpecialFunctions.Pow.Real

@[expose] public section

/-! The softmax taken block by block over the extended reals: a running maximum and an accumulator rescaled at every
    block, and why the quotient at the end is the softmax over all keys at once. -/

noncomputable section

namespace Cert.Attn

open Idealize.ShloMosaic Finset

/-- The largest of the first `n` scores, `⊥` of none. -/
def top (f : ℕ → EReal) (n : ℕ) : EReal := (range n).sup f

/-- The values weighted by two to the power of score minus largest score, over the first `n` keys. -/
def acc (f v : ℕ → EReal) (n : ℕ) : EReal := ∑ k ∈ range n, Ideal.exp2 (f k - top f n) * v k

/-- A power of two is not negative. -/
theorem exp2_nonneg (x : EReal) : 0 ≤ Ideal.exp2 x := by
  induction x with
  | bot => simp
  | top => simp
  | coe r => simpa using Real.rpow_nonneg (by norm_num : (0:ℝ) ≤ 2) r

/-- A power of two at an exponent other than `⊤` is not `⊤`. -/
theorem exp2_ne_top {x : EReal} (h : x ≠ ⊤) : Ideal.exp2 x ≠ ⊤ := by
  induction x with
  | bot => simp
  | top => exact absurd rfl h
  | coe r => simp

/-- No score above the maximum. -/
theorem le_top (f : ℕ → EReal) {k n : ℕ} (h : k < n) : f k ≤ top f n := le_sup (f := f) (mem_range.2 h)

/-- The maximum of scores none of which is `⊤` is not `⊤`. -/
theorem top_ne_top {f : ℕ → EReal} (h : ∀ k, f k ≠ ⊤) (n : ℕ) : top f n ≠ ⊤ := by
  refine ne_of_lt ((Finset.sup_lt_iff bot_lt_top).2 fun k _ => lt_top_iff_ne_top.2 (h k))

/-- The maximum grows with the keys. -/
theorem top_mono (f : ℕ → EReal) {n N : ℕ} (h : n ≤ N) : top f n ≤ top f N :=
  sup_mono (range_mono h)

/-- The maximum over `N` more keys: the old one against the new block's. -/
theorem top_add (f : ℕ → EReal) (n N : ℕ) :
    max (top f n) (univ.fold max ⊥ fun k : Fin N => f (n + k)) = top f (n + N) := by
  change top f n ⊔ univ.sup (fun k : Fin N => f (n + k)) = _
  apply le_antisymm
  · refine sup_le (top_mono f (Nat.le_add_right _ _)) (Finset.sup_le fun k _ => le_top f (by omega))
  · refine Finset.sup_le fun k hk => ?_
    rw [mem_range] at hk
    by_cases h : k < n
    · exact le_sup_of_le_left (le_top f h)
    · refine le_sup_of_le_right ?_
      have := le_sup (f := fun k : Fin N => f (n + k)) (mem_univ (⟨k - n, by omega⟩ : Fin N))
      simpa [show n + (k - n) = k by omega] using this

/-- Rescaling one key's term from an old maximum `m` to a new one `m'`. -/
theorem rescale {x m m' : EReal} (v : EReal) (hxm : x ≤ m) (hmm : m ≤ m') (hm' : m' ≠ ⊤) :
    Ideal.exp2 (m - m') * (Ideal.exp2 (x - m) * v) = Ideal.exp2 (x - m') * v := by
  have hm : m ≠ ⊤ := fun h => hm' (top_le_iff.1 (h ▸ hmm))
  have hx : x ≠ ⊤ := fun h => hm (top_le_iff.1 (h ▸ hxm))
  induction x with
  | top => exact absurd rfl hx
  | bot => simp
  | coe x =>
    induction m with
    | top => exact absurd rfl hm
    | bot => simp at hxm
    | coe m =>
      induction m' with
      | top => exact absurd rfl hm'
      | bot => simp at hmm
      | coe m' =>
        rw [← mul_assoc, ← EReal.coe_sub, ← EReal.coe_sub, ← EReal.coe_sub, Ideal.exp2_coe, Ideal.exp2_coe,
          Ideal.exp2_coe, ← EReal.coe_mul]
        congr 2
        change (2:ℝ) ^ (m - m') * (2:ℝ) ^ (x - m) = (2:ℝ) ^ (x - m')
        rw [← Real.rpow_add (by norm_num)]
        congr 1; ring

/-- A factor that is neither negative nor `⊤` goes into a finite sum. -/
theorem mul_sum' {ι : Type*} (s : Finset ι) (c : EReal) (h0 : 0 ≤ c) (h1 : c ≠ ⊤) (F : ι → EReal) :
    c * ∑ k ∈ s, F k = ∑ k ∈ s, c * F k := by
  classical
  induction s using Finset.induction_on with
  | empty => simp
  | insert a s ha ih => rw [sum_insert ha, sum_insert ha, EReal.left_distrib_of_nonneg_of_ne_top h0 h1, ih]

/-- A difference whose minuend is not `⊤` and is at most the subtrahend is not `⊤`. -/
theorem sub_ne_top {x m : EReal} (h : x ≤ m) (hm : m ≠ ⊤) : x - m ≠ ⊤ := by
  induction x with
  | top => exact absurd (top_le_iff.1 h) hm
  | bot => simp
  | coe x =>
    induction m with
    | top => exact absurd rfl hm
    | bot => simp at h
    | coe m => rw [← EReal.coe_sub]; exact EReal.coe_ne_top _

/-- The accumulator over `N` more keys: the old one rescaled to the new maximum, and the new block's terms. -/
theorem acc_add {f : ℕ → EReal} (v : ℕ → EReal) (h : ∀ k, f k ≠ ⊤) (n N : ℕ) :
    Ideal.exp2 (top f n - top f (n + N)) * acc f v n
      + ∑ k : Fin N, Ideal.exp2 (f (n + k) - top f (n + N)) * v (n + k) = acc f v (n + N) := by
  have hm := top_mono f (Nat.le_add_right n N)
  have ht := top_ne_top h (n + N)
  unfold acc
  rw [mul_sum' _ _ (exp2_nonneg _) (exp2_ne_top (sub_ne_top hm ht)), sum_range_add,
    ← Fin.sum_univ_eq_sum_range (fun k => Ideal.exp2 (f (n + k) - top f (n + N)) * v (n + k)) N]
  congr 1
  exact sum_congr rfl fun k hk => rescale _ (le_top f (mem_range.1 hk)) hm ht

/-- Keys whose score is `⊥` leave the maximum as it is. -/
theorem top_ext {f : ℕ → EReal} {n N : ℕ} (hn : n ≤ N) (h : ∀ k, n ≤ k → f k = ⊥) : top f N = top f n := by
  refine le_antisymm (Finset.sup_le fun k _ => ?_) (top_mono f hn)
  by_cases hk : k < n
  · exact le_top f hk
  · rw [h k (by omega)]; exact bot_le

/-- Keys whose score is `⊥` add nothing to the accumulator. -/
theorem acc_ext {f : ℕ → EReal} (v : ℕ → EReal) {n N : ℕ} (hn : n ≤ N) (h : ∀ k, n ≤ k → f k = ⊥) :
    acc f v N = acc f v n := by
  unfold acc
  rw [top_ext hn h]
  symm
  refine sum_subset (range_mono hn) fun k _ hk => ?_
  rw [h k (by simpa using hk)]
  simp

/-- `2 ^ (x / log 2)` is `e ^ x`. -/
theorem exp2_scaled {x : EReal} (hx : x ≠ ⊤) : Ideal.exp2 (x * ((Real.log 2)⁻¹ : ℝ)) = Ideal.exp x := by
  have hl : 0 < Real.log 2 := Real.log_pos (by norm_num)
  induction x with
  | top => exact absurd rfl hx
  | bot => rw [EReal.bot_mul_coe_of_pos (inv_pos.2 hl)]; simp
  | coe r =>
    rw [← EReal.coe_mul, Ideal.exp2_coe, Ideal.exp_coe]
    congr 1
    change (2:ℝ) ^ (r * (Real.log 2)⁻¹) = Real.exp r
    rw [Real.rpow_def_of_pos (by norm_num)]
    congr 1; field_simp

/-- A positive real factor comes out of the maximum. -/
theorem top_scaled {f g : ℕ → EReal} {c : ℝ} (hc : 0 < c) (h : ∀ k, f k = g k * c) (n : ℕ) :
    top f n = top g n * c := by
  unfold top
  induction n with
  | zero => simp [EReal.bot_mul_coe_of_pos hc]
  | succ n ih =>
    rw [range_add_one, sup_insert, sup_insert, ih, h]
    have hmono : Monotone fun x : EReal => x * (c : EReal) := fun a b hab =>
      mul_le_mul_of_nonneg_right hab (by exact_mod_cast hc.le)
    exact (hmono.map_sup _ _).symm

/-- A real factor comes out of a difference whose minuend is not `⊤` and whose subtrahend is not `⊤`. -/
theorem sub_scaled {x m : EReal} {c : ℝ} (hc : 0 < c) (hx : x ≠ ⊤) (hm : m ≠ ⊤) :
    x * c - m * c = (x - m) * c := by
  induction x with
  | top => exact absurd rfl hx
  | bot => simp [EReal.bot_mul_coe_of_pos hc]
  | coe x =>
    induction m with
    | top => exact absurd rfl hm
    | bot => simp [EReal.bot_mul_coe_of_pos hc, EReal.top_mul_coe_of_pos hc, sub_eq_add_neg, ← EReal.coe_mul]
    | coe m => simp only [← EReal.coe_mul, ← EReal.coe_sub]; congr 1; ring

/-- The exponential is not negative. -/
theorem exp_nonneg (x : EReal) : 0 ≤ Ideal.exp x := by
  induction x with
  | bot => simp
  | top => simp
  | coe r => simpa using (Real.exp_pos r).le

/-- The quotient of the two accumulators is the softmax over all `N` keys applied to the values: `f` the scores scaled
    by `1 / log 2` for powers of two, `g` the plain ones, none of them `⊤` and one of them real. -/
theorem quotient {f g : ℕ → EReal} (v one : ℕ → EReal) (N : ℕ) (h : ∀ k, f k = g k * ((Real.log 2)⁻¹ : ℝ))
    (h1 : ∀ k < N, one k = 1) (hg : ∀ k, g k ≠ ⊤) (hr : ∃ k < N, g k ≠ ⊥) :
    Ideal.div (acc f v N) (acc f one N)
      = ∑ k : Fin N, Ideal.div (Ideal.exp (g k - univ.fold max ⊥ fun k : Fin N => g k))
          (∑ k : Fin N, Ideal.exp (g k - univ.fold max ⊥ fun k : Fin N => g k)) * v k := by
  have hl : 0 < (Real.log 2)⁻¹ := inv_pos.2 (Real.log_pos (by norm_num))
  have hM : (univ.fold max ⊥ fun k : Fin N => g k) = top g N := by
    have := top_add g 0 N
    simpa [top] using this
  have ht := top_ne_top hg N
  have e : ∀ k < N, Ideal.exp2 (f k - top f N) = Ideal.exp (g k - top g N) := fun k hk => by
    rw [h, top_scaled hl h, sub_scaled hl (hg k) ht, exp2_scaled (sub_ne_top (le_top g hk) ht)]
  rw [hM]
  have hS : acc f one N = ∑ k : Fin N, Ideal.exp (g k - top g N) := by
    unfold acc
    rw [Fin.sum_univ_eq_sum_range (fun k => Ideal.exp (g k - top g N)) N]
    exact sum_congr rfl fun k hk => by rw [e k (mem_range.1 hk), h1 k (mem_range.1 hk), mul_one]
  have hA : acc f v N = ∑ k : Fin N, Ideal.exp (g k - top g N) * v k := by
    unfold acc
    rw [Fin.sum_univ_eq_sum_range (fun k => Ideal.exp (g k - top g N) * v k) N]
    exact sum_congr rfl fun k hk => by rw [e k (mem_range.1 hk)]
  rw [hS, hA]
  obtain ⟨k0, hk0, hk0r⟩ := hr
  obtain ⟨S, hSr, hSp⟩ : ∃ S : ℝ, (∑ k : Fin N, Ideal.exp (g k - top g N)) = S ∧ 0 < S := by
    have hb : top g N ≠ ⊥ := fun hh => hk0r (le_bot_iff.1 (hh ▸ le_top g hk0))
    have hreal : ∀ k : Fin N, ∃ r : ℝ, Ideal.exp (g k - top g N) = r ∧ 0 ≤ r ∧ (g k ≠ ⊥ → 0 < r) := fun k => by
      lift top g N to ℝ using ⟨ht, hb⟩ with m
      have hgk := hg k
      generalize g k = x at hgk
      induction x with
      | top => exact absurd rfl hgk
      | bot => exact ⟨0, by simp, le_rfl, fun h => absurd rfl h⟩
      | coe x =>
        exact ⟨Real.exp (x - m), by rw [← EReal.coe_sub, Ideal.exp_coe], (Real.exp_pos _).le, fun _ => Real.exp_pos _⟩
    choose r hr hr0 hrp using hreal
    refine ⟨∑ k, r k, ?_, ?_⟩
    · simp only [hr]
      exact (map_sum (⟨⟨Real.toEReal, rfl⟩, fun _ _ => rfl⟩ : ℝ →+ EReal) r univ).symm
    · exact sum_pos' (fun k _ => hr0 k) ⟨⟨k0, hk0⟩, mem_univ _, hrp ⟨k0, hk0⟩ hk0r⟩
  rw [hSr]
  have hne : (S : EReal) ≠ 0 := by exact_mod_cast hSp.ne'
  simp only [Ideal.div, if_neg hne]
  have hi0 : (0 : EReal) ≤ (S : EReal)⁻¹ := by rw [← EReal.coe_inv]; exact_mod_cast (inv_pos.2 hSp).le
  have hit : (S : EReal)⁻¹ ≠ ⊤ := by rw [← EReal.coe_inv]; exact EReal.coe_ne_top _
  rw [mul_comm, mul_sum' _ _ hi0 hit]
  refine sum_congr rfl fun k _ => ?_
  rw [← mul_assoc, mul_comm (S : EReal)⁻¹]

end Cert.Attn
-- ==== Proof.Heads.lean ====
module

public import proofs.«01_k».proof.Proof.Gen.KernelIdeal.Value
public import proofs.«01_k».proof.Proof.Online
public import Idealize.ShloMosaic.Lib.Pipeline.ValueKit
public import Idealize.ShloMosaic.Lib.Pointwise

@[expose] public section

set_option maxRecDepth 16384

/-! One head's arithmetic of the kernel, read at an element: a full block of keys, the two strips on the diagonal, the
    quotient, and the packing of two heads into 128 lanes. -/

noncomputable section

namespace Cert.Attn

open Cert.KernelIdeal Cert.KernelIdeal.Gen Idealize.ShloMosaic Idealize.ShloMosaic.TcCoe Idealize.SL.Sem Finset

/-- The word of minus infinity is `⊥`. -/
theorem neg_inf : (Ideal.ofBits .f32 0xFF800000#32) = ⊥ := by
  simp [Ideal.ofBits, Ideal.ieee]

/-- The named constant is `⊥`. -/
theorem neg_big_named : (Named.named (F := Ideal) κ "neg_big" (φ := .f32) 0xF149F2CA#32) = ⊥ := by
  rfl

/-- The running maximum after a full block. -/
theorem full_max (m : FVec Ideal S512x1 .f32) (kb qb : Vec Ideal S512x128 .bf16) (r : Fin 512) :
    k0_pay4 m kb qb (ix2 r 0)
      = max (m (ix2 r 0)) (univ.fold max ⊥ fun k : Fin 512 => ∑ l : Fin 128, qb (ix2 r l) * kb (ix2 k l)) := by
  pointwise [k0_pay4, k0_pay3, neg_inf]

/-- The accumulator after a full block. -/
theorem full_acc (m : FVec Ideal S512x1 .f32) (a : FVec Ideal S512x128 .f32) (kb vb qb : Vec Ideal S512x128 .bf16)
    (r : Fin 512) (d : Fin 128) :
    k0_pay5 m a kb vb qb (ix2 r d)
      = Ideal.exp2 (m (ix2 r 0) - k0_pay4 m kb qb (ix2 r 0)) * a (ix2 r d)
        + ∑ k : Fin 512, Ideal.exp2 ((∑ l : Fin 128, qb (ix2 r l) * kb (ix2 k l)) - k0_pay4 m kb qb (ix2 r 0))
            * vb (ix2 k d) := by
  pointwise [k0_pay5, k0_pay3]
  rfl

/-- A choice by an ordering of two small numbers. -/
theorem sel_sle (a b : ℕ) (ha : a < 2 ^ 31) (hb : b < 2 ^ 31) (x y : EReal) :
    Scalar.select (IntOp.cmpi .sle (BitVec.ofNat 32 a) (BitVec.ofNat 32 b)) x y = if a ≤ b then x else y := by
  have h : (BitVec.ofNat 32 a).sle (BitVec.ofNat 32 b) = decide (a ≤ b) := by
    simp only [BitVec.sle, BitVec.toInt_eq_toNat_cond, BitVec.toNat_ofNat]
    rw [Nat.mod_eq_of_lt (by omega), Nat.mod_eq_of_lt (by omega), if_pos (by omega), if_pos (by omega)]
    simp
  by_cases hab : a ≤ b <;> simp [Scalar.select, IntOp.cmpi, h, hab]

/-- The running maximum after the first strip of the diagonal: 256 keys, the ones past the row masked. -/
theorem strip0_max (m : FVec Ideal S512x1 .f32) (kb : Vec Ideal S256x128 .bf16) (qb : Vec Ideal S512x128 .bf16) (r : Fin 512) :
    k0_pay76 k0_pay45 m kb qb (ix2 r 0)
      = max (m (ix2 r 0)) (univ.fold max ⊥ fun k : Fin 256 =>
          if k.val ≤ r.val then ∑ l : Fin 128, qb (ix2 r l) * kb (ix2 k l) else ⊥) := by
  pointwise [k0_pay76, k0_pay75, k0_pay45, neg_inf, neg_big_named]
  simp only [sel_sle _ _ ((fun k : Fin 256 => show k.val < 2 ^ 31 by omega) _) (show r.val < 2 ^ 31 by omega)]

/-- The accumulator after the first strip of the diagonal. -/
theorem strip0_acc (m : FVec Ideal S512x1 .f32) (a : FVec Ideal S512x128 .f32) (kb vb : Vec Ideal S256x128 .bf16)
    (qb : Vec Ideal S512x128 .bf16) (r : Fin 512) (d : Fin 128) :
    k0_pay77 k0_pay45 m a kb vb qb (ix2 r d)
      = Ideal.exp2 (m (ix2 r 0) - k0_pay76 k0_pay45 m kb qb (ix2 r 0)) * a (ix2 r d)
        + ∑ k : Fin 256, Ideal.exp2 ((if k.val ≤ r.val then ∑ l : Fin 128, qb (ix2 r l) * kb (ix2 k l) else ⊥)
            - k0_pay76 k0_pay45 m kb qb (ix2 r 0)) * vb (ix2 k d) := by
  pointwise [k0_pay77, k0_pay75, k0_pay45, neg_big_named]
  simp only [sel_sle _ _ ((fun k : Fin 256 => show k.val < 2 ^ 31 by omega) _) (show r.val < 2 ^ 31 by omega)]
  rfl

/-- The maximum the second strip takes for the row `256 + p`. -/
def strip1Max (m : FVec Ideal S512x1 .f32) (kb qb : Vec Ideal S256x128 .bf16) (p : Fin 256) : EReal :=
  max (m (ix2 (⟨256 + p.val, by omega⟩ : Fin 512) 0)) (univ.fold max ⊥ fun k : Fin 256 =>
    if k.val ≤ p.val then ∑ l : Fin 128, qb (ix2 p l) * kb (ix2 k l) else ⊥)

/-- The accumulator after the second strip: the rows from 256 on, against the last 256 keys. -/
theorem strip1_acc (m : FVec Ideal S512x1 .f32) (a : FVec Ideal S512x128 .f32) (kb vb qb : Vec Ideal S256x128 .bf16)
    (p : Fin 256) (d : Fin 128) :
    k0_pay108 k0_pay46 m a kb vb qb (ix2 (⟨256 + p.val, by omega⟩ : Fin 512) d)
      = Ideal.exp2 (m (ix2 (⟨256 + p.val, by omega⟩ : Fin 512) 0) - strip1Max m kb qb p)
          * a (ix2 (⟨256 + p.val, by omega⟩ : Fin 512) d)
        + ∑ k : Fin 256, Ideal.exp2 ((if k.val ≤ p.val then ∑ l : Fin 128, qb (ix2 p l) * kb (ix2 k l) else ⊥)
            - strip1Max m kb qb p) * vb (ix2 k d) := by
  pointwise [k0_pay108, k0_pay46, neg_inf, neg_big_named, strip1Max]
  simp only [sel_sle _ _ ((fun k : Fin 256 => show k.val < 2 ^ 31 by omega) _) (show p.val < 2 ^ 31 by omega)]
  rfl

/-- The first 256 rows are kept by the second strip. -/
theorem strip1_keep (m : FVec Ideal S512x1 .f32) (a : FVec Ideal S512x128 .f32) (kb vb qb : Vec Ideal S256x128 .bf16)
    (r : Fin 512) (d : Fin 128) (h : r.val < 256) :
    k0_pay108 k0_pay46 m a kb vb qb (ix2 r d) = a (ix2 r d) := by
  pointwise [k0_pay108]
  rw [dif_pos h]

/-- The numbers of the lanes. -/
abbrev lanes : IVec S512x128 32 := iota .tc S512x128 32 [1] iota_S512x128_d1_w32

/-- The sum over the lanes of what stands in lane 64, zero elsewhere. -/
theorem sum_lane64 (a : Fin 128 → EReal) :
    (∑ x : Fin 128, Scalar.select (IntOp.cmpi .eq (BitVec.ofNat 32 x.val) 64#32) (a x) 0) = a 64 := by
  rw [Finset.sum_eq_single (64 : Fin 128)]
  · rfl
  · intro x _ hx
    have : BitVec.ofNat 32 x.val ≠ 64#32 := fun h => hx (by
      have := congrArg BitVec.toNat h
      simp at this
      apply Fin.ext; omega)
    simp [Scalar.select, IntOp.cmpi, beq_eq_false_iff_ne.2 this]
  · simp

/-- A head's accumulator divided by its denominator, which stands in lane 64. -/
theorem quot_at (a : FVec Ideal S512x128 .f32) (r : Fin 512) (d : Fin 128) :
    k0_pay135 lanes a (ix2 r d) = Ideal.div (a (ix2 r d)) (a (ix2 r 64)) := by
  pointwise [k0_pay135]
  rw [sum_lane64 (fun x => a (ix2 r x))]

/-- Two heads in 128 lanes: the first's values in the lower 64. -/
theorem pair_low (a b : FVec Ideal S512x128 .f32) (r : Fin 512) (d : Fin 128) (h : d.val < 64) :
    k0_pay2 lanes a b (ix2 r d) = a (ix2 r d) := by
  pointwise [k0_pay2]
  have : (BitVec.ofNat 32 d.val).slt 64#32 = true := by
    simp only [BitVec.slt, BitVec.toInt_eq_toNat_cond, BitVec.toNat_ofNat]
    rw [Nat.mod_eq_of_lt (by omega), if_pos (by omega)]
    simpa using h
  simp [Scalar.select, IntOp.cmpi, this]

/-- Two heads in 128 lanes: the second's values in the upper 64. -/
theorem pair_high (a b : FVec Ideal S512x128 .f32) (r : Fin 512) (d : Fin 128) (h : 64 ≤ d.val) :
    k0_pay2 lanes a b (ix2 r d) = b (ix2 r (⟨d.val - 64, by omega⟩ : Fin 128)) := by
  pointwise [k0_pay2]
  have : (BitVec.ofNat 32 d.val).slt 64#32 = false := by
    simp only [BitVec.slt, BitVec.toInt_eq_toNat_cond, BitVec.toNat_ofNat]
    rw [Nat.mod_eq_of_lt (by omega), if_pos (by omega)]
    simpa using h
  simp only [Scalar.select, IntOp.cmpi, this]
  have e : (d.val + 64) % 128 = d.val - 64 := by omega
  simp [e]

/-! ### The blocks a head loads -/

/-- An array at a row and a column given as numbers, zero outside. -/
def rd {A B : ℕ} (x : Vec Ideal ⟨2, ![A, B]⟩ .bf16) (r c : ℕ) : EReal :=
  if h : r < A ∧ c < B then x (ix2 (⟨r, h.1⟩ : Fin A) (⟨c, h.2⟩ : Fin B)) else 0

/-- `n` rows and 128 columns of an array from a row and a column on. -/
def blk {A B : ℕ} (x : Vec Ideal ⟨2, ![A, B]⟩ .bf16) (n r0 c0 : ℕ) : Vec Ideal ⟨2, ![n, 128]⟩ .bf16 :=
  fun y => rd x (r0 + (y 0).val) (c0 + (y 1).val)

/-- A load of `n` rows and 128 columns is that block. -/
theorem ld_blk {A B n : ℕ} (x : Vec Ideal ⟨2, ![A, B]⟩ .bf16) (off : Fin 2 → ℕ) (inb) (r0 c0 : ℕ) (h : off = ![r0, c0]) :
    View.ld (S := ⟨2, ![A, B]⟩) x (Rect.unit off ![n, 128] inb) = blk x n r0 c0 := by
  subst h
  funext y
  have h0 := inb 0
  have h1 := inb 1
  have y0 := (y 0).isLt
  have y1 := (y 1).isLt
  simp at h0 h1 y0 y1
  rw [View.ld_apply]
  unfold blk rd
  rw [dif_pos ⟨by omega, by omega⟩]
  congr 1
  funext a
  apply Fin.ext
  rw [Rect.idx_unit_val]
  match a with
  | 0 => rfl
  | 1 => rfl

end Cert.Attn
-- ==== Proof.Body.lean ====
module

public import proofs.«01_k».proof.Proof.Heads

@[expose] public section

set_option maxRecDepth 16384

/-! The kernel's body at one grid point: the loop over the blocks of keys before the diagonal, the diagonal's two
    strips and the quotient, for all eight heads, as the block-by-block softmax of Online.lean. -/

noncomputable section

namespace Cert.Attn

open Cert.KernelIdeal Cert.KernelIdeal.Gen Idealize.ShloMosaic Idealize.ShloMosaic.TcCoe Idealize.SL.Sem Finset

/-- What the loop carries: per head a running maximum and an accumulator. -/
abbrev St := FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32 × FVec Ideal S512x1 .f32 × FVec Ideal S512x128 .f32

/-- Head `h`'s running maximum. -/
def mH (s : St) : Fin 8 → FVec Ideal S512x1 .f32 :=
  ![s.1, s.2.2.1, s.2.2.2.2.1, s.2.2.2.2.2.2.1, s.2.2.2.2.2.2.2.2.1, s.2.2.2.2.2.2.2.2.2.2.1,
    s.2.2.2.2.2.2.2.2.2.2.2.2.1, s.2.2.2.2.2.2.2.2.2.2.2.2.2.2.1]

/-- Head `h`'s accumulator. -/
def aH (s : St) : Fin 8 → FVec Ideal S512x128 .f32 :=
  ![s.2.1, s.2.2.2.1, s.2.2.2.2.2.1, s.2.2.2.2.2.2.2.1, s.2.2.2.2.2.2.2.2.2.1, s.2.2.2.2.2.2.2.2.2.2.2.1,
    s.2.2.2.2.2.2.2.2.2.2.2.2.2.1, s.2.2.2.2.2.2.2.2.2.2.2.2.2.2.2]

/-- The state before the first trip. -/
abbrev init : St := (k0_pay47 (F := Ideal), k0_pay48 (F := Ideal), k0_pay49 (F := Ideal), k0_pay50 (F := Ideal), k0_pay51 (F := Ideal), k0_pay52 (F := Ideal), k0_pay53 (F := Ideal), k0_pay54 (F := Ideal), k0_pay55 (F := Ideal), k0_pay56 (F := Ideal), k0_pay57 (F := Ideal), k0_pay58 (F := Ideal), k0_pay59 (F := Ideal), k0_pay60 (F := Ideal), k0_pay61 (F := Ideal), k0_pay62 (F := Ideal))

/-- Before the first trip every head's maximum is the named constant and its accumulator zero. -/
theorem init_heads (h : Fin 8) : mH init h = k0_pay47 (F := Ideal) ∧ aH init h = k0_pay48 (F := Ideal) := by
  fin_cases h <;> exact ⟨rfl, rfl⟩

section

variable (𝒱 : Variants) (c : Dev nD) (bd : Option 𝒱.V) (i : grid0.Coords) (arg2 : Memref sig .tc .vmem S512x1024 .bf16)
  (harg2 : arg2.IsWhole) (arg3 : Memref sig .tc .vmem S2048x1024 .bf16) (harg3 : arg3.IsWhole)
  (arg4 : Memref sig .tc .vmem S2048x1024 .bf16) (harg4 : arg4.IsWhole) (arg5 : Memref sig .tc .vmem S512x512 .bf16)
  (harg5 : arg5.IsWhole) (x0 : Vec Ideal S512x1024 .bf16) (x1 x2 : Vec Ideal S2048x1024 .bf16)

/-- A head's update of a full block, from its loads to the blocks they read. -/
theorem full_blk (x0 : Vec Ideal S512x1024 .bf16) (x1 x2 : Vec Ideal S2048x1024 .bf16) (m m' : FVec Ideal S512x1 .f32)
    (a a' : FVec Ideal S512x128 .f32) (t h : ℕ) (o : Fin 2 → ℕ) (ok : ∀ j, o j + S512x128.size j ≤ S2048x1024.size j)
    (ho : o = ![512 * t, 128 * h]) (ok0 : ∀ j, (![0, 128 * h] : Fin 2 → ℕ) j + S512x128.size j ≤ S512x1024.size j)
    (e : m' = k0_pay4 m (View.ld x1 (Rect.unit o ![512, 128] ok)) (View.ld x0 (Rect.unit ![0, 128 * h] ![512, 128] ok0))
      ∧ a' = k0_pay5 m a (View.ld x1 (Rect.unit o ![512, 128] ok)) (View.ld x2 (Rect.unit o ![512, 128] ok)) (View.ld x0 (Rect.unit ![0, 128 * h] ![512, 128] ok0))) :
    m' = k0_pay4 m (blk x1 512 (512 * t) (128 * h)) (blk x0 512 0 (128 * h))
      ∧ a' = k0_pay5 m a (blk x1 512 (512 * t) (128 * h)) (blk x2 512 (512 * t) (128 * h)) (blk x0 512 0 (128 * h)) := by
  rw [← ld_blk x1 o ok _ _ ho, ← ld_blk x2 o ok _ _ ho, ← ld_blk x0 _ ok0 _ _ rfl]
  exact e

/-- One trip is, for every head, the full block's update. -/
theorem trip_heads (k : Fin (k0_t1_loop i).trips) (s : St) (h : Fin 8) :
    let s' : St := tripR_k0_t1 (F := Ideal) 𝒱 c bd i arg2 harg2 arg3 harg3 arg4 harg4 arg5 harg5 (harg2.unread x0) (harg3.unread x1) (harg4.unread x2) k s
    mH s' h = k0_pay4 (mH s h) (blk x1 512 (512 * k.val) (128 * h.val)) (blk x0 512 0 (128 * h.val))
    ∧ aH s' h = k0_pay5 (mH s h) (aH s h) (blk x1 512 (512 * k.val) (128 * h.val)) (blk x2 512 (512 * k.val) (128 * h.val)) (blk x0 512 0 (128 * h.val)) := by
  intro s'
  simp only [s']
  clear s'
  unfold tripR_k0_t1
  unfold trip_k0_t1
  dsimp only
  sl_unfold_words
  simp only [View.readAt_eq_ld, Memref.IsWhole.read_unread]
  match h with
  | 0 => exact full_blk x0 x1 x2 _ _ _ _ k.val 0 _ (k0_off1_inb i k) (k0_off1_eq i k) inb_S512x1024_S512x128_0_0 ⟨rfl, rfl⟩
  | 1 => exact full_blk x0 x1 x2 _ _ _ _ k.val 1 _ (k0_off2_inb i k) (k0_off2_eq i k) inb_S512x1024_S512x128_0_128 ⟨rfl, rfl⟩
  | 2 => exact full_blk x0 x1 x2 _ _ _ _ k.val 2 _ (k0_off3_inb i k) (k0_off3_eq i k) inb_S512x1024_S512x128_0_256 ⟨rfl, rfl⟩
  | 3 => exact full_blk x0 x1 x2 _ _ _ _ k.val 3 _ (k0_off4_inb i k) (k0_off4_eq i k) inb_S512x1024_S512x128_0_384 ⟨rfl, rfl⟩
  | 4 => exact full_blk x0 x1 x2 _ _ _ _ k.val 4 _ (k0_off5_inb i k) (k0_off5_eq i k) inb_S512x1024_S512x128_0_512 ⟨rfl, rfl⟩
  | 5 => exact full_blk x0 x1 x2 _ _ _ _ k.val 5 _ (k0_off6_inb i k) (k0_off6_eq i k) inb_S512x1024_S512x128_0_640 ⟨rfl, rfl⟩
  | 6 => exact full_blk x0 x1 x2 _ _ _ _ k.val 6 _ (k0_off7_inb i k) (k0_off7_eq i k) inb_S512x1024_S512x128_0_768 ⟨rfl, rfl⟩
  | 7 => exact full_blk x0 x1 x2 _ _ _ _ k.val 7 _ (k0_off8_inb i k) (k0_off8_eq i k) inb_S512x1024_S512x128_0_896 ⟨rfl, rfl⟩

/-- The state after the loop. -/
abbrev done : St := st_k0_t1 (F := Ideal) Variants.none c none i arg2 harg2 arg3 harg3 arg4 harg4 arg5 harg5 (harg2.unread x0) (harg3.unread x1) (harg4.unread x2) init (k0_t1_loop i).trips

/-- The remainder loop makes no trip. -/
theorem rem_trips : ∀ i : grid0.Coords, (k0_t2_loop i).trips = 0 := by decide +kernel

/-- The loop makes as many trips as there are blocks before the diagonal. -/
theorem main_trips : ∀ i : grid0.Coords, (k0_t1_loop i).trips = (i 1).val := by decide +kernel

/-- A head's accumulator after the diagonal's two strips. -/
def diag (s : St) (h : Fin 8) : FVec Ideal S512x128 .f32 :=
  k0_pay108 k0_pay46
    (k0_pay76 k0_pay45 (mH s h) (blk x1 256 (512 * (i 1).val) (128 * h.val)) (blk x0 512 0 (128 * h.val)))
    (k0_pay77 k0_pay45 (mH s h) (aH s h) (blk x1 256 (512 * (i 1).val) (128 * h.val)) (blk x2 256 (512 * (i 1).val) (128 * h.val)) (blk x0 512 0 (128 * h.val)))
    (blk x1 256 (512 * (i 1).val + 256) (128 * h.val)) (blk x2 256 (512 * (i 1).val + 256) (128 * h.val)) (blk x0 256 256 (128 * h.val))

/-- What a head leaves: its accumulator over its denominator. -/
def head (s : St) (h : Fin 8) : FVec Ideal S512x128 .f32 := k0_pay135 lanes (diag i x0 x1 x2 s h)

/-- A head's result, with its blocks as the loads that read them. -/
theorem head_ld (s : St) (h : Fin 8) (o o' : Fin 2 → ℕ) (ok : ∀ j, o j + S256x128.size j ≤ S2048x1024.size j)
    (ok' : ∀ j, o' j + S256x128.size j ≤ S2048x1024.size j) (ho : o = ![512 * (i 1).val + 256 * 0, 128 * h.val])
    (ho' : o' = ![512 * (i 1).val + 256 * 1, 128 * h.val])
    (ok0 : ∀ j, (![0, 128 * h.val] : Fin 2 → ℕ) j + S512x128.size j ≤ S512x1024.size j)
    (ok1 : ∀ j, (![256, 128 * h.val] : Fin 2 → ℕ) j + S256x128.size j ≤ S512x1024.size j) :
    head i x0 x1 x2 s h = k0_pay135 lanes (k0_pay108 k0_pay46
      (k0_pay76 k0_pay45 (mH s h) (View.ld x1 (Rect.unit o ![256, 128] ok)) (View.ld x0 (Rect.unit ![0, 128 * h.val] ![512, 128] ok0)))
      (k0_pay77 k0_pay45 (mH s h) (aH s h) (View.ld x1 (Rect.unit o ![256, 128] ok)) (View.ld x2 (Rect.unit o ![256, 128] ok)) (View.ld x0 (Rect.unit ![0, 128 * h.val] ![512, 128] ok0)))
      (View.ld x1 (Rect.unit o' ![256, 128] ok')) (View.ld x2 (Rect.unit o' ![256, 128] ok')) (View.ld x0 (Rect.unit ![256, 128 * h.val] ![256, 128] ok1))) := by
  rw [ld_blk x1 o ok _ _ ho, ld_blk x2 o ok _ _ ho, ld_blk x1 o' ok' _ _ ho', ld_blk x2 o' ok' _ _ ho', ld_blk x0 _ ok0 _ _ rfl, ld_blk x0 _ ok1 _ _ rfl]
  unfold head diag
  simp only [Nat.mul_zero, Nat.add_zero, Nat.mul_one]

/-- Four stores at the same places agree when what they store agrees. -/
theorem canon_congr {r₁ r₂ r₃ r₄ : Rect S512x512} {p₁ q₁ : Vec Ideal r₁.shape .bf16} {p₂ q₂ : Vec Ideal r₂.shape .bf16}
    {p₃ q₃ : Vec Ideal r₃.shape .bf16} {p₄ q₄ : Vec Ideal r₄.shape .bf16} (e₁ : p₁ = q₁) (e₂ : p₂ = q₂) (e₃ : p₃ = q₃)
    (e₄ : p₄ = q₄) (y : S512x512.Idx) :
    View.canon (Val := Elt Ideal) (s := S512x512) (e := .bf16) [⟨r₁, p₁⟩, ⟨r₂, p₂⟩, ⟨r₃, p₃⟩, ⟨r₄, p₄⟩] y
      = View.canon (Val := Elt Ideal) (s := S512x512) (e := .bf16) [⟨r₁, q₁⟩, ⟨r₂, q₂⟩, ⟨r₃, q₃⟩, ⟨r₄, q₄⟩] y := by
  subst e₁ e₂ e₃ e₄
  rfl

/-- The four stores of the body. -/
theorem out_pieces (y : S512x512.Idx) :
    ∀ s : St, s = done c i arg2 harg2 arg3 harg3 arg4 harg4 arg5 harg5 x0 x1 x2 →
    out0_A_3 (F := Ideal) c i arg2 harg2 arg3 harg3 arg4 harg4 arg5 harg5 x0 x1 x2 y
      = View.canon (Val := Elt Ideal) (s := S512x512) (e := .bf16)
          [⟨Rect.unit (s := S512x512) ![0, 384] S512x128.size inb_S512x512_S512x128_0_384, k0_pay2 lanes (head i x0 x1 x2 s 6) (head i x0 x1 x2 s 7)⟩,
           ⟨Rect.unit (s := S512x512) ![0, 256] S512x128.size inb_S512x512_S512x128_0_256, k0_pay2 lanes (head i x0 x1 x2 s 4) (head i x0 x1 x2 s 5)⟩,
           ⟨Rect.unit (s := S512x512) ![0, 128] S512x128.size inb_S512x512_S512x128_0_128, k0_pay2 lanes (head i x0 x1 x2 s 2) (head i x0 x1 x2 s 3)⟩,
           ⟨Rect.unit (s := S512x512) ![0, 0] S512x128.size inb_S512x512_S512x128_0_0, k0_pay2 lanes (head i x0 x1 x2 s 0) (head i x0 x1 x2 s 1)⟩] y := by
  intro s hs
  frame_out
  have h2 := rem_trips i
  dsimp only [k0_t2_loop] at h2
  simp only [h2, st_k0_t2_zero]
  generalize hSS : st_k0_t1 (F := Ideal) Variants.none c none i arg2 harg2 arg3 harg3 arg4 harg4 arg5 harg5 (harg2.unread x0) (harg3.unread x1) (harg4.unread x2) _ _ = SS
  obtain rfl : SS = s := by rw [← hSS, hs]
  clear hSS hs
  refine canon_congr ?_ ?_ ?_ ?_ y
  · rw [head_ld i x0 x1 x2 _ 6 (k0_off23 i 0#32) (k0_off23 i 256#32) (k0_off23_inb i 0) (k0_off23_inb i 1) (k0_off23_eq i 0) (k0_off23_eq i 1) inb_S512x1024_S512x128_0_768 inb_S512x1024_S256x128_256_768,
      head_ld i x0 x1 x2 _ 7 (k0_off24 i 0#32) (k0_off24 i 256#32) (k0_off24_inb i 0) (k0_off24_inb i 1) (k0_off24_eq i 0) (k0_off24_eq i 1) inb_S512x1024_S512x128_0_896 inb_S512x1024_S256x128_256_896]
    rfl
  · rw [head_ld i x0 x1 x2 _ 4 (k0_off21 i 0#32) (k0_off21 i 256#32) (k0_off21_inb i 0) (k0_off21_inb i 1) (k0_off21_eq i 0) (k0_off21_eq i 1) inb_S512x1024_S512x128_0_512 inb_S512x1024_S256x128_256_512,
      head_ld i x0 x1 x2 _ 5 (k0_off22 i 0#32) (k0_off22 i 256#32) (k0_off22_inb i 0) (k0_off22_inb i 1) (k0_off22_eq i 0) (k0_off22_eq i 1) inb_S512x1024_S512x128_0_640 inb_S512x1024_S256x128_256_640]
    rfl
  · rw [head_ld i x0 x1 x2 _ 2 (k0_off19 i 0#32) (k0_off19 i 256#32) (k0_off19_inb i 0) (k0_off19_inb i 1) (k0_off19_eq i 0) (k0_off19_eq i 1) inb_S512x1024_S512x128_0_256 inb_S512x1024_S256x128_256_256,
      head_ld i x0 x1 x2 _ 3 (k0_off20 i 0#32) (k0_off20 i 256#32) (k0_off20_inb i 0) (k0_off20_inb i 1) (k0_off20_eq i 0) (k0_off20_eq i 1) inb_S512x1024_S512x128_0_384 inb_S512x1024_S256x128_256_384]
    rfl
  · rw [head_ld i x0 x1 x2 _ 0 (k0_off17 i 0#32) (k0_off17 i 256#32) (k0_off17_inb i 0) (k0_off17_inb i 1) (k0_off17_eq i 0) (k0_off17_eq i 1) inb_S512x1024_S512x128_0_0 inb_S512x1024_S256x128_256_0,
      head_ld i x0 x1 x2 _ 1 (k0_off18 i 0#32) (k0_off18 i 256#32) (k0_off18_inb i 0) (k0_off18_inb i 1) (k0_off18_eq i 0) (k0_off18_eq i 1) inb_S512x1024_S512x128_0_128 inb_S512x1024_S256x128_256_128]
    rfl

end

end Cert.Attn
-- ==== Proof.Rows.lean ====
module

public import proofs.«01_k».proof.Proof.Body

@[expose] public section

set_option maxRecDepth 16384

/-! The kernel's block of results, element by element: each is a row's weighted sum over all keys divided by the row's
    sum of weights. -/

noncomputable section

namespace Cert.Attn

open Cert.KernelIdeal Cert.KernelIdeal.Gen Idealize.ShloMosaic Idealize.ShloMosaic.TcCoe Idealize.SL.Sem Finset

/-- Row `r`'s score against key `k` in head `h`. -/
def sc (x0 : Vec Ideal S512x1024 .bf16) (x1 : Vec Ideal S2048x1024 .bf16) (h r k : ℕ) : EReal :=
  ∑ l : Fin 128, rd x0 r (128 * h + l.val) * rd x1 k (128 * h + l.val)

/-- The score under the causal mask, for the block of queries number `q`. -/
def msc (x0 : Vec Ideal S512x1024 .bf16) (x1 : Vec Ideal S2048x1024 .bf16) (q h r k : ℕ) : EReal :=
  if k ≤ 512 * q + r then sc x0 x1 h r k else ⊥

/-- Lane `d` of key `k`'s value in head `h`. -/
def val (x2 : Vec Ideal S2048x1024 .bf16) (h d k : ℕ) : EReal := rd x2 k (128 * h + d)

/-- A masked score is not `⊤` when the score is not. -/
theorem msc_ne_top {x0 : Vec Ideal S512x1024 .bf16} {x1 : Vec Ideal S2048x1024 .bf16} {h r : ℕ}
    (H : ∀ k, sc x0 x1 h r k ≠ ⊤) (q k : ℕ) : msc x0 x1 q h r k ≠ ⊤ := by
  unfold msc
  split
  · exact H k
  · exact bot_ne_top

/-- The scores of a block of keys read off the blocks loaded. -/
theorem sc_blk (x0 : Vec Ideal S512x1024 .bf16) (x1 : Vec Ideal S2048x1024 .bf16) (h n n' r0 k0 : ℕ) (r : Fin n) (k : Fin n') :
    ∑ l : Fin 128, blk x0 n r0 (128 * h) (ix2 r l) * blk x1 n' k0 (128 * h) (ix2 k l) = sc x0 x1 h (r0 + r.val) (k0 + k.val) := rfl

section

variable (x0 : Vec Ideal S512x1024 .bf16) (x1 x2 : Vec Ideal S2048x1024 .bf16)

/-- A full block before the diagonal moves the maximum on by 512 keys. -/
theorem full_top (q t h : ℕ) (ht : t < q) (m : FVec Ideal S512x1 .f32) (r : Fin 512)
    (hm : m (ix2 r 0) = top (msc x0 x1 q h r.val) (512 * t)) :
    k0_pay4 m (blk x1 512 (512 * t) (128 * h)) (blk x0 512 0 (128 * h)) (ix2 r 0) = top (msc x0 x1 q h r.val) (512 * (t + 1)) := by
  rw [full_max, hm, show 512 * (t + 1) = 512 * t + 512 by ring, ← top_add]
  congr 2
  funext k
  rw [sc_blk, msc, if_pos (by omega), Nat.zero_add]

/-- A full block before the diagonal moves the weighted sum on by 512 keys. -/
theorem full_step (q t h : ℕ) (ht : t < q) (m : FVec Ideal S512x1 .f32) (a : FVec Ideal S512x128 .f32) (r : Fin 512)
    (d : Fin 128) (H : ∀ k, sc x0 x1 h r.val k ≠ ⊤) (hm : m (ix2 r 0) = top (msc x0 x1 q h r.val) (512 * t))
    (ha : a (ix2 r d) = acc (msc x0 x1 q h r.val) (val x2 h d.val) (512 * t)) :
    k0_pay5 m a (blk x1 512 (512 * t) (128 * h)) (blk x2 512 (512 * t) (128 * h)) (blk x0 512 0 (128 * h)) (ix2 r d)
      = acc (msc x0 x1 q h r.val) (val x2 h d.val) (512 * (t + 1)) := by
  rw [full_acc, full_top x0 x1 q t h ht m r hm, hm, ha, show 512 * (t + 1) = 512 * t + 512 by ring,
    ← acc_add _ (msc_ne_top H q)]
  congr 1
  refine Finset.sum_congr rfl fun k _ => ?_
  rw [sc_blk, msc, if_pos (by omega), Nat.zero_add]
  rfl

/-- A head's state stands at `n` keys. -/
def At (q n : ℕ) (s : St) : Prop :=
  ∀ (h : Fin 8) (r : Fin 512), (∀ k, sc x0 x1 h.val r.val k ≠ ⊤) →
    mH s h (ix2 r 0) = top (msc x0 x1 q h.val r.val) n
    ∧ ∀ d : Fin 128, aH s h (ix2 r d) = acc (msc x0 x1 q h.val r.val) (val x2 h.val d.val) n

/-- The state before the first trip stands at no key. -/
theorem at_init (q : ℕ) : At x0 x1 x2 q 0 init := by
  intro h r _
  rw [(init_heads h).1, (init_heads h).2]
  refine ⟨?_, fun d => ?_⟩
  · pointwise [k0_pay47]
    rw [neg_big_named]
    rfl
  · pointwise [k0_pay48]
    rfl

/-- The first strip of the diagonal. -/
theorem strip0_top (q h : ℕ) (m : FVec Ideal S512x1 .f32) (r : Fin 512)
    (hm : m (ix2 r 0) = top (msc x0 x1 q h r.val) (512 * q)) :
    k0_pay76 k0_pay45 m (blk x1 256 (512 * q) (128 * h)) (blk x0 512 0 (128 * h)) (ix2 r 0)
      = top (msc x0 x1 q h r.val) (512 * q + 256) := by
  rw [strip0_max, hm, ← top_add]
  congr 2
  funext k
  rw [sc_blk, msc, Nat.zero_add]
  simp only [Nat.add_le_add_iff_left]

/-- The first strip of the diagonal moves the weighted sum on by 256 keys. -/
theorem strip0_step (q h : ℕ) (m : FVec Ideal S512x1 .f32) (a : FVec Ideal S512x128 .f32) (r : Fin 512)
    (d : Fin 128) (H : ∀ k, sc x0 x1 h r.val k ≠ ⊤) (hm : m (ix2 r 0) = top (msc x0 x1 q h r.val) (512 * q))
    (ha : a (ix2 r d) = acc (msc x0 x1 q h r.val) (val x2 h d.val) (512 * q)) :
    k0_pay77 k0_pay45 m a (blk x1 256 (512 * q) (128 * h)) (blk x2 256 (512 * q) (128 * h)) (blk x0 512 0 (128 * h)) (ix2 r d)
      = acc (msc x0 x1 q h r.val) (val x2 h d.val) (512 * q + 256) := by
  rw [strip0_acc, strip0_top x0 x1 q h m r hm, hm, ha, ← acc_add _ (msc_ne_top H q)]
  congr 1
  refine Finset.sum_congr rfl fun k _ => ?_
  rw [sc_blk, msc, Nat.zero_add]
  simp only [Nat.add_le_add_iff_left]
  rfl

/-- The second strip of the diagonal moves the weighted sum of the lower rows on by 256 keys. -/
theorem strip1_step (q h : ℕ) (m : FVec Ideal S512x1 .f32) (a : FVec Ideal S512x128 .f32) (p : Fin 256)
    (d : Fin 128) (H : ∀ k, sc x0 x1 h (256 + p.val) k ≠ ⊤)
    (hm : m (ix2 (⟨256 + p.val, by omega⟩ : Fin 512) 0) = top (msc x0 x1 q h (256 + p.val)) (512 * q + 256))
    (ha : a (ix2 (⟨256 + p.val, by omega⟩ : Fin 512) d) = acc (msc x0 x1 q h (256 + p.val)) (val x2 h d.val) (512 * q + 256)) :
    k0_pay108 k0_pay46 m a (blk x1 256 (512 * q + 256) (128 * h)) (blk x2 256 (512 * q + 256) (128 * h)) (blk x0 256 256 (128 * h))
        (ix2 (⟨256 + p.val, by omega⟩ : Fin 512) d)
      = acc (msc x0 x1 q h (256 + p.val)) (val x2 h d.val) (512 * q + 512) := by
  have ht : strip1Max m (blk x1 256 (512 * q + 256) (128 * h)) (blk x0 256 256 (128 * h)) p
      = top (msc x0 x1 q h (256 + p.val)) (512 * q + 512) := by
    rw [strip1Max, hm, show 512 * q + 512 = 512 * q + 256 + 256 by ring, ← top_add _ (512 * q + 256) 256]
    congr 2
    funext k
    rw [sc_blk, msc, ← Nat.add_assoc (512 * q)]
    simp only [Nat.add_le_add_iff_left]
  rw [strip1_acc, ht, hm, ha, show 512 * q + 512 = 512 * q + 256 + 256 by ring,
    ← acc_add _ (msc_ne_top H q) (512 * q + 256) 256]
  congr 1
  refine Finset.sum_congr rfl fun k _ => ?_
  rw [sc_blk, msc, ← Nat.add_assoc (512 * q)]
  simp only [Nat.add_le_add_iff_left]
  rfl

/-- After the diagonal a head's accumulator is the weighted sum over all keys. -/
theorem diag_at (i : grid0.Coords) (s : St) (hs : At x0 x1 x2 (i 1).val (512 * (i 1).val) s) (h : Fin 8) (r : Fin 512)
    (d : Fin 128) (H : ∀ k, sc x0 x1 h.val r.val k ≠ ⊤) :
    diag i x0 x1 x2 s h (ix2 r d) = acc (msc x0 x1 (i 1).val h.val r.val) (val x2 h.val d.val) 2048 := by
  have hq : (i 1).val < 4 := (i 1).isLt
  have hm := (hs h r H).1
  have ha := (hs h r H).2 d
  unfold diag
  by_cases hr : r.val < 256
  · rw [strip1_keep _ _ _ _ _ _ _ hr, strip0_step x0 x1 x2 _ _ _ _ r d H hm ha]
    refine (acc_ext _ (by omega) fun k hk => ?_).symm
    rw [msc, if_neg (by omega)]
  · obtain ⟨r, hr'⟩ := r
    obtain ⟨p, rfl⟩ : ∃ p, r = 256 + p := ⟨r - 256, by simp only at hr; omega⟩
    rw [strip1_step x0 x1 x2 _ _ _ _ (⟨p, by omega⟩ : Fin 256) d H (strip0_top x0 x1 _ _ _ _ hm) (strip0_step x0 x1 x2 _ _ _ _ _ d H hm ha)]
    refine (acc_ext _ (by omega) fun k hk => ?_).symm
    rw [msc, if_neg (by omega)]

/-- The loop's final state stands at the keys before the diagonal. -/
theorem at_done (c : Dev nD) (i : grid0.Coords) (arg2 : Memref sig .tc .vmem S512x1024 .bf16)
    (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S512x512 .bf16)
    (harg5 : arg5.IsWhole) :
    At x0 x1 x2 (i 1).val (512 * (i 1).val) (done c i arg2 harg2 arg3 harg3 arg4 harg4 arg5 harg5 x0 x1 x2) := by
  have key : ∀ t, t ≤ (i 1).val → At x0 x1 x2 (i 1).val (512 * t)
      (st_k0_t1 (F := Ideal) Variants.none c none i arg2 harg2 arg3 harg3 arg4 harg4 arg5 harg5 (harg2.unread x0) (harg3.unread x1) (harg4.unread x2) init t) := by
    intro t
    induction t with
    | zero => exact fun _ => at_init x0 x1 x2 _
    | succ t ih =>
      intro ht h r H
      have hi := ih (by omega) h r H
      have hk : t < (k0_t1_loop i).trips := by rw [main_trips]; omega
      rw [st_k0_t1_succ Variants.none c none i arg2 harg2 arg3 harg3 arg4 harg4 arg5 harg5 _ _ _ init ⟨t, hk⟩]
      have hh := trip_heads Variants.none c none i arg2 harg2 arg3 harg3 arg4 harg4 arg5 harg5 x0 x1 x2 ⟨t, hk⟩
        (st_k0_t1 (F := Ideal) Variants.none c none i arg2 harg2 arg3 harg3 arg4 harg4 arg5 harg5 (harg2.unread x0) (harg3.unread x1) (harg4.unread x2) init t) h
      refine ⟨?_, fun d => ?_⟩
      · rw [hh.1]
        exact full_top x0 x1 _ t h.val (by omega) _ r hi.1
      · rw [hh.2]
        exact full_step x0 x1 x2 _ t h.val (by omega) _ _ r d H hi.1 (hi.2 d)
  have e := key _ le_rfl
  rw [← main_trips i] at e ⊢
  exact e

/-- Two heads side by side in 128 lanes. -/
theorem pair_at (a b : FVec Ideal S512x128 .f32) (r : Fin 512) (d : Fin 128) (G : ℕ → ℕ → EReal) (j : ℕ)
    (ha : ∀ d : Fin 128, a (ix2 r d) = G (2 * j) d.val) (hb : ∀ d : Fin 128, b (ix2 r d) = G (2 * j + 1) d.val) :
    k0_pay2 lanes a b (ix2 r d) = G ((128 * j + d.val) / 64) ((128 * j + d.val) % 64) := by
  have := d.isLt
  by_cases h : d.val < 64
  · rw [pair_low _ _ _ _ h, ha]
    congr 1 <;> omega
  · rw [pair_high _ _ _ _ (by omega), hb]
    congr 1 <;> (try simp only) <;> omega

/-- What the kernel leaves in head `h`, row `r`, lane `d`. -/
def outv (q h r d : ℕ) : EReal :=
  Ideal.div (acc (msc x0 x1 q h r) (val x2 h d) 2048) (acc (msc x0 x1 q h r) (val x2 h 64) 2048)

/-- The kernel's block of results at an element. -/
theorem out_at (c : Dev nD) (i : grid0.Coords) (arg2 : Memref sig .tc .vmem S512x1024 .bf16)
    (harg2 : arg2.IsWhole) (arg3 : Memref sig .tc .vmem S2048x1024 .bf16) (harg3 : arg3.IsWhole)
    (arg4 : Memref sig .tc .vmem S2048x1024 .bf16) (harg4 : arg4.IsWhole) (arg5 : Memref sig .tc .vmem S512x512 .bf16)
    (harg5 : arg5.IsWhole) (y : S512x512.Idx) (H : ∀ h k, sc x0 x1 h (y 0).val k ≠ ⊤) :
    out0_A_3 (F := Ideal) c i arg2 harg2 arg3 harg3 arg4 harg4 arg5 harg5 x0 x1 x2 y
      = outv x0 x1 x2 (i 1).val ((y 1).val / 64) (y 0).val ((y 1).val % 64) := by
  rw [out_pieces c i arg2 harg2 arg3 harg3 arg4 harg4 arg5 harg5 x0 x1 x2 y _ rfl]
  have hs := at_done x0 x1 x2 c i arg2 harg2 arg3 harg3 arg4 harg4 arg5 harg5
  generalize done c i arg2 harg2 arg3 harg3 arg4 harg4 arg5 harg5 x0 x1 x2 = s at hs ⊢
  have hh : ∀ (h : Fin 8) (r : Fin 512) (d : Fin 128), (∀ k, sc x0 x1 h.val r.val k ≠ ⊤) →
      head i x0 x1 x2 s h (ix2 r d) = outv x0 x1 x2 (i 1).val h.val r.val d.val := by
    intro h r d H
    unfold head
    rw [quot_at, diag_at x0 x1 x2 i s hs h r d H, diag_at x0 x1 x2 i s hs h r 64 H]
    rfl
  have hp : ∀ (h h' : Fin 8) (j : ℕ) (x : S512x128.Idx), h.val = 2 * j → h'.val = 2 * j + 1 → (y 0).val = (x 0).val →
      (y 1).val = 128 * j + (x 1).val →
      k0_pay2 lanes (head i x0 x1 x2 s h) (head i x0 x1 x2 s h') x
        = outv x0 x1 x2 (i 1).val ((y 1).val / 64) (y 0).val ((y 1).val % 64) := by
    intro h h' j x e e' e0 e1
    rw [e0] at H ⊢
    rw [e1]
    refine (congrArg _ (eq_ix2 x)).trans (pair_at _ _ (x 0) (x 1) (fun a b => outv x0 x1 x2 (i 1).val a (x 0).val b) j ?_ ?_)
    · intro d
      rw [← e]
      exact hh h (x 0) d (H _)
    · intro d
      rw [← e']
      exact hh h' (x 0) d (H _)
  canon_tiles x h
  · exact hp 6 7 3 x rfl rfl (by omega) (by omega)
  · exact hp 4 5 2 x rfl rfl (by omega) (by omega)
  · exact hp 2 3 1 x rfl rfl (by omega) (by omega)
  · exact hp 0 1 0 x rfl rfl (by omega) (by omega)

end

end Cert.Attn
-- ==== Proof.Host.lean ====
module

public import proofs.«01_k».proof.Proof.Rows

@[expose] public section

set_option maxRecDepth 16384

/-! The kernel's three operands, which the host lays out in 128 lanes a head, read at an element. -/

noncomputable section

namespace Cert.Attn

open Cert.KernelIdeal Cert.KernelIdeal.Gen Idealize.ShloMosaic Idealize.ShloMosaic.TcCoe Idealize.SL.Sem Finset

/-- The queries in lanes: 64 without position, 32 with, 32 zeros, all times the scale. -/
def qarr (a0 : FVec Ideal S8x2048x8x64 .f32) (a1 : FVec Ideal S8x2048x8x32 .f32) : FVec Ideal S16384x1024 .bf16 :=
  truncf .bf16 (shapeCast S16384x1024 (mulf (concatenate S8x2048x8x128 3
      [⟨S8x2048x8x64, a0⟩, ⟨S8x2048x8x32, a1⟩, ⟨S8x2048x8x32, broadcastInDim S8x2048x8x32 ![] bcast_S_S8x2048x8x32 (constant S_ .f32 0x00000000#32)⟩]
      concatenates_S8x2048x8x64_S8x2048x8x32_S8x2048x8x32_S8x2048x8x128_d3)
    (broadcastInDim S8x2048x8x128 ![] bcast_S_S8x2048x8x128 (Host.divf (constant S_ .f32 0x3F800000#32)
      (mulf (Host.log (constant S_ .f32 0x40000000#32)) (Host.sqrt (constant S_ .f32 0x42C00000#32))))))
    shapeCasts_S8x2048x8x128_S16384x1024) bitsLt_bf16_f32

/-- The keys in lanes: 64 without position, 32 with (one for all heads), 32 zeros. -/
def karr (a2 : FVec Ideal S8x2048x8x64 .f32) (a3 : FVec Ideal S8x2048x32 .f32) : FVec Ideal S16384x1024 .bf16 :=
  truncf .bf16 (shapeCast S16384x1024 (concatenate S8x2048x8x128 3
      [⟨S8x2048x8x64, a2⟩, ⟨S8x2048x8x32, broadcastInDim S8x2048x8x32 ![0, 1, 2, 3] bcast_S8x2048x1x32_S8x2048x8x32_0_1_2_3 (broadcastInDim S8x2048x1x32 ![0, 1, 3] bcast_S8x2048x32_S8x2048x1x32_0_1_3 a3)⟩,
       ⟨S8x2048x8x32, broadcastInDim S8x2048x8x32 ![] bcast_S_S8x2048x8x32 (constant S_ .f32 0x00000000#32)⟩]
      concatenates_S8x2048x8x64_S8x2048x8x32_S8x2048x8x32_S8x2048x8x128_d3)
    shapeCasts_S8x2048x8x128_S16384x1024) bitsLt_bf16_f32

/-- The values in lanes: 64, a one, 63 zeros. -/
def varr (a4 : FVec Ideal S8x2048x8x64 .f32) : FVec Ideal S16384x1024 .bf16 :=
  truncf .bf16 (shapeCast S16384x1024 (concatenate S8x2048x8x128 3
      [⟨S8x2048x8x64, a4⟩, ⟨S8x2048x8x1, broadcastInDim S8x2048x8x1 ![] bcast_S_S8x2048x8x1 (constant S_ .f32 0x3F800000#32)⟩,
       ⟨S8x2048x8x63, broadcastInDim S8x2048x8x63 ![] bcast_S_S8x2048x8x63 (constant S_ .f32 0x00000000#32)⟩]
      concatenates_S8x2048x8x64_S8x2048x8x1_S8x2048x8x63_S8x2048x8x128_d3)
    shapeCasts_S8x2048x8x128_S16384x1024) bitsLt_bf16_f32

section

variable (m : (ℓ : Loc nD τ sig) → Buf (Elt Ideal) ℓ) (c : Dev nD)

/-- What the kernel reads its queries from. -/
theorem V_q : V m c main_v18 = qarr (m ((c : Thread nD τ).loc main_arg0)) (m ((c : Thread nD τ).loc main_arg1)) := by
  unfold V hostOps0
  after_results_simp
  dsimp only [Matrix.cons_val]
  after_results_loop
  rfl

/-- What the kernel reads its keys from. -/
theorem V_k : V m c main_v19 = karr (m ((c : Thread nD τ).loc main_arg2)) (m ((c : Thread nD τ).loc main_arg3)) := by
  unfold V hostOps0
  after_results_simp
  dsimp only [Matrix.cons_val]
  after_results_loop
  rfl

/-- What the kernel reads its values from. -/
theorem V_v : V m c main_v20 = varr (m ((c : Thread nD τ).loc main_arg4)) := by
  unfold V hostOps0
  after_results_simp
  dsimp only [Matrix.cons_val]
  after_results_loop
  rfl

end

/-- A head's 128 lanes: 64 of one array, 32 of another, zeros. -/
def lane (u : Fin 64 → EReal) (w : Fin 32 → EReal) (l : ℕ) : EReal :=
  if h : l < 64 then u ⟨l, h⟩ else if h : l - 64 < 32 then w ⟨l - 64, h⟩ else 0

/-- The scale the queries are multiplied by. -/
def cst : EReal :=
  Ideal.div 1 (Ideal.log (Ideal.ofBits .f32 0x40000000#32) * Ideal.sqrt (Ideal.ofBits .f32 0x42C00000#32))

/-- A row of all the batches, split into its batch and its position. -/
theorem row_split {r b q : ℕ} {hb : b < 8} {hq : q < 2048} (hr : r = (⟨b, hb⟩ : Fin 8).val * 2048 + (⟨q, hq⟩ : Fin 2048).val) :
    r / 2048 = b ∧ r % 2048 = q := by
  simp only at hr
  omega

/-- The kernel's queries at an element. -/
theorem qarr_at (a0 : FVec Ideal S8x2048x8x64 .f32) (a1 : FVec Ideal S8x2048x8x32 .f32) (b : Fin 8) (q : Fin 2048)
    (h : Fin 8) (l : ℕ) (hl : l < 128) (r : Fin 16384) (j : Fin 1024) (hr : r.val = b.val * 2048 + q.val)
    (hj : j.val = 128 * h.val + l) :
    qarr a0 a1 (ix2 r j) = lane (fun x => a0 (ix4 b q h x)) (fun x => a1 (ix4 b q h x)) l * cst := by
  obtain ⟨e1, e2⟩ := row_split hr
  obtain ⟨e3, e4⟩ : j.val / 128 = h.val ∧ j.val % 128 = l := by omega
  pointwise [qarr]
  simp only [e1, e2, e3, e4, Fin.eta]
  rfl

/-- The kernel's keys at an element. -/
theorem karr_at (a2 : FVec Ideal S8x2048x8x64 .f32) (a3 : FVec Ideal S8x2048x32 .f32) (b : Fin 8) (k : Fin 2048)
    (h : Fin 8) (l : ℕ) (hl : l < 128) (r : Fin 16384) (j : Fin 1024) (hr : r.val = b.val * 2048 + k.val)
    (hj : j.val = 128 * h.val + l) :
    karr a2 a3 (ix2 r j) = lane (fun x => a2 (ix4 b k h x)) (fun x => a3 (ix3 b k x)) l := by
  obtain ⟨e1, e2⟩ := row_split hr
  obtain ⟨e3, e4⟩ : j.val / 128 = h.val ∧ j.val % 128 = l := by omega
  pointwise [karr]
  simp only [e1, e2, e3, e4, Fin.eta]
  rfl

/-- The kernel's values at an element: a head's 64, then a one. -/
theorem varr_at (a4 : FVec Ideal S8x2048x8x64 .f32) (b : Fin 8) (k : Fin 2048)
    (h : Fin 8) (l : ℕ) (hl : l < 128) (r : Fin 16384) (j : Fin 1024) (hr : r.val = b.val * 2048 + k.val)
    (hj : j.val = 128 * h.val + l) :
    varr a4 (ix2 r j) = if g : l < 64 then a4 (ix4 b k h ⟨l, g⟩) else if l - 64 < 1 then 1 else 0 := by
  obtain ⟨e1, e2⟩ := row_split hr
  obtain ⟨e3, e4⟩ : j.val / 128 = h.val ∧ j.val % 128 = l := by omega
  pointwise [varr]
  simp only [e1, e2, e3, e4, Fin.eta]
  rfl

section
variable (m : (ℓ : Loc nD τ sig) → Buf (Elt Ideal) ℓ) (c : Dev nD)

/-- Where a point's queries stand. -/
theorem idx0 : ∀ t : Fin cfg0.N, (cfg0.win 0).index t = ![4 * (grid0.coords t 0).val + (grid0.coords t 1).val, 0] :=
  (by decide +kernel : ∀ t : Fin grid0.N, _)

/-- Where a point's keys stand. -/
theorem idx1 : ∀ t : Fin cfg0.N, (cfg0.win 1).index t = ![(grid0.coords t 0).val, 0] :=
  (by decide +kernel : ∀ t : Fin grid0.N, _)

/-- Where a point's values stand. -/
theorem idx2 : ∀ t : Fin cfg0.N, (cfg0.win 2).index t = ![(grid0.coords t 0).val, 0] :=
  (by decide +kernel : ∀ t : Fin grid0.N, _)

/-- Where a point's results stand. -/
theorem idx3 : ∀ t : Fin cfg0.N, (cfg0.win 3).index t = ![4 * (grid0.coords t 0).val + (grid0.coords t 1).val, 0] :=
  (by decide +kernel : ∀ t : Fin grid0.N, _)

/-- A point's block of queries. -/
theorem q_blk (t : Fin cfg0.N) (r : Fin 512) (l : Fin 1024) :
    iblk m c 0 t (ix2 r l) = V m c main_v18 (ix2 (⟨(4 * (grid0.coords t 0).val + (grid0.coords t 1).val) * 512 + r.val, by
      have h0 : (grid0.coords t 0).val < 8 := (grid0.coords t 0).isLt
      have h1 : (grid0.coords t 1).val < 4 := (grid0.coords t 1).isLt
      omega⟩ : Fin 16384) l) := by
  blk_ext [iblk, idx0 t]

/-- A point's block of keys. -/
theorem k_blk (t : Fin cfg0.N) (r : Fin 2048) (l : Fin 1024) :
    iblk m c 1 t (ix2 r l) = V m c main_v19 (ix2 (⟨(grid0.coords t 0).val * 2048 + r.val, by
      have h0 : (grid0.coords t 0).val < 8 := (grid0.coords t 0).isLt
      omega⟩ : Fin 16384) l) := by
  blk_ext [iblk, idx1 t]

/-- A point's block of values. -/
theorem v_blk (t : Fin cfg0.N) (r : Fin 2048) (l : Fin 1024) :
    iblk m c 2 t (ix2 r l) = V m c main_v20 (ix2 (⟨(grid0.coords t 0).val * 2048 + r.val, by
      have h0 : (grid0.coords t 0).val < 8 := (grid0.coords t 0).isLt
      omega⟩ : Fin 16384) l) := by
  blk_ext [iblk, idx2 t]

end

end Cert.Attn
-- ==== Proof.Ref.lean ====
module

public import proofs.«01_k».proof.Proof.Heads
public import proofs.«01_k».proof.Proof.Gen.ReferenceIdeal.Run

@[expose] public section

set_option maxRecDepth 16384

/-! The reference's result at an element: the softmax-weighted sum of the values. -/

noncomputable section

namespace Cert.Attn.Ref

open Cert.ReferenceIdeal Cert.ReferenceIdeal.Gen Idealize.ShloMosaic Idealize.ShloMosaic.TcCoe Idealize.SL.Sem Finset

/-- The reference's masked scores. -/
def scores (a0 : FVec Ideal S8x2048x8x64 .f32) (a1 : FVec Ideal S8x2048x8x32 .f32) (a2 : FVec Ideal S8x2048x8x64 .f32)
    (a3 : FVec Ideal S8x2048x32 .f32) : FVec Ideal S8x8x2048x2048 .f32 :=
  select (broadcastInDim S8x8x2048x2048 ![2, 3] bcast_S2048x2048_S8x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0)))))
    (Host.divf (addf (Host.dotGeneral dot_S8x2048x8x64_S8x2048x8x64_S8x8x2048x2048_3_3_1_1_02_02 none a0 a2) (transpose S8x8x2048x2048 [0, 3, 2, 1] (Host.dotGeneral dot_S8x2048x32_S8x2048x8x32_S8x2048x2048x8_2_3_1_12_0_0 none a3 a1) transposes_S8x2048x2048x8_S8x8x2048x2048_0_3_2_1)) (broadcastInDim S8x8x2048x2048 ![] bcast_S_S8x8x2048x2048 (Host.sqrt (constant S_ .f32 0x42C00000#32))))
    (broadcastInDim S8x8x2048x2048 ![] bcast_S_S8x8x2048x2048 (id (constant S_ .f32 0xFF800000#32)))

/-- The largest score of each row. -/
def rowMax (S : FVec Ideal S8x8x2048x2048 .f32) : FVec Ideal S8x8x2048 .f32 :=
  Host.reduce FloatOps.maximumf S (constant S_ .f32 0xFF800000#32) reducesTo_S8x8x2048x2048_S8x8x2048_d3 h_S_

/-- The exponentials of the scores less their row's number. -/
def expo (S : FVec Ideal S8x8x2048x2048 .f32) (M : FVec Ideal S8x8x2048 .f32) : FVec Ideal S8x8x2048x2048 .f32 :=
  Host.exp (subf S (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) M))))

/-- The values weighted by the exponentials over their row's sum. -/
def weigh (E : FVec Ideal S8x8x2048x2048 .f32) (a4 : FVec Ideal S8x2048x8x64 .f32) : FVec Ideal S16384x512 .bf16 :=
  truncf .bf16 (shapeCast _ (transpose S8x2048x8x64 [0, 3, 1, 2] (Host.dotGeneral dot_S8x2048x8x64_S8x8x2048x2048_S8x8x64x2048_1_3_3_2_02_01 none a4 (Host.divf E (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd E (constant S_ .f32 0x00000000#32) reducesTo_S8x8x2048x2048_S8x8x2048_d3 h_S_))))) transposes_S8x8x64x2048_S8x2048x8x64_0_3_1_2) shapeCasts_S8x2048x8x64_S16384x512) bitsLt_bf16_f32

/-- The reference's scores, from its arguments. -/
abbrev scoresOf (m : (ℓ : Loc nD τ sig) → Buf (Elt Ideal) ℓ) (c : Dev nD) : FVec Ideal S8x8x2048x2048 .f32 :=
  scores (m ((c.tc : Thread nD τ).loc main_arg0)) (m ((c.tc : Thread nD τ).loc main_arg1)) (m ((c.tc : Thread nD τ).loc main_arg2)) (m ((c.tc : Thread nD τ).loc main_arg3))

/-- The reference's result is these steps. -/
theorem res_eq (m : (ℓ : Loc nD τ sig) → Buf (Elt Ideal) ℓ) (c : Dev nD) :
    Value.res_out0 (F := Ideal) m c
      = weigh (expo (scoresOf m c) (rowMax (scoresOf m c))) (m ((c.tc : Thread nD τ).loc main_arg4)) := rfl

/-- The largest of a row of scores. -/
theorem max_at (S : FVec Ideal S8x8x2048x2048 .f32) (b h : Fin 8) (q : Fin 2048) :
    rowMax S (ix3 b h q) = univ.fold max ⊥ fun x : Fin 2048 => S (ix4 b h q x) := by
  rw [← neg_inf]
  unfold rowMax
  simp only [pointwise]

/-- A score: the two products over the root of 96 where the key is not after the query, and `⊥` elsewhere. -/
theorem scores_at (a0 : FVec Ideal S8x2048x8x64 .f32) (a1 : FVec Ideal S8x2048x8x32 .f32) (a2 : FVec Ideal S8x2048x8x64 .f32)
    (a3 : FVec Ideal S8x2048x32 .f32) (b h : Fin 8) (q k : Fin 2048) :
    scores a0 a1 a2 a3 (ix4 b h q k)
      = if k.val ≤ q.val then Ideal.div (∑ x : Fin 64, a0 (ix4 b q h x) * a2 (ix4 b k h x) + ∑ x : Fin 32, a3 (ix3 b k x) * a1 (ix4 b q h x))
          (Ideal.sqrt (Ideal.ofBits .f32 0x42C00000#32)) else ⊥ := by
  pointwise [scores]
  have e : id (constant (F := Ideal) S_ .f32 4286578688#32) ix0 = ⊥ := neg_inf
  rw [e]
  exact sel_sle k.val q.val (by omega) (by omega) _ _

/-- An exponential. -/
theorem expo_at (S : FVec Ideal S8x8x2048x2048 .f32) (M : FVec Ideal S8x8x2048 .f32) (b h : Fin 8) (q k : Fin 2048) :
    expo S M (ix4 b h q k) = Ideal.exp (S (ix4 b h q k) - M (ix3 b h q)) := by
  pointwise [expo]
  rw [neg_inf, max_eq_right bot_le]

/-- A result: the values weighted by the exponentials over their sum. -/
theorem weigh_at (E : FVec Ideal S8x8x2048x2048 .f32) (a4 : FVec Ideal S8x2048x8x64 .f32) (r : Fin 16384) (c : Fin 512) :
    weigh E a4 (ix2 r c)
      = ∑ x : Fin 2048, a4 (ix4 (⟨r.val / 2048, by omega⟩ : Fin 8) x (⟨c.val / 64, by omega⟩ : Fin 8) (⟨c.val % 64, by omega⟩ : Fin 64))
          * Ideal.div (E (ix4 (⟨r.val / 2048, by omega⟩ : Fin 8) (⟨c.val / 64, by omega⟩ : Fin 8) (⟨r.val % 2048, by omega⟩ : Fin 2048) x))
            (∑ y : Fin 2048, E (ix4 (⟨r.val / 2048, by omega⟩ : Fin 8) (⟨c.val / 64, by omega⟩ : Fin 8) (⟨r.val % 2048, by omega⟩ : Fin 2048) y)) := by
  pointwise [weigh]

end Cert.Attn.Ref
-- ==== Proof.Scale.lean ====
module

public import proofs.«01_k».proof.Proof.Host
public import proofs.«01_k».proof.Proof.Ref

@[expose] public section

set_option maxRecDepth 16384

/-! The score a kernel's lanes give is the reference's score times `1 / log 2`, of real queries and keys. -/

noncomputable section

namespace Cert.Attn

open Idealize.ShloMosaic Finset

/-- A sum of reals is real. -/
theorem coe_sum {ι : Type*} (s : Finset ι) (f : ι → ℝ) : ((∑ i ∈ s, f i : ℝ) : EReal) = ∑ i ∈ s, (f i : EReal) :=
  map_sum (⟨⟨Real.toEReal, rfl⟩, fun _ _ => rfl⟩ : ℝ →+ EReal) f s

/-- An extended real that is a real number. -/
def IsReal (x : EReal) : Prop := ∃ r : ℝ, x = r

theorem IsReal.zero : IsReal 0 := ⟨0, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} {s : Finset ι} {f : ι → EReal} (h : ∀ i, IsReal (f i)) : IsReal (∑ i ∈ s, f i) := by
  choose g hg using h
  exact ⟨∑ i ∈ s, g i, by rw [coe_sum]; exact sum_congr rfl fun i _ => hg i⟩

theorem IsReal.ne_top {x : EReal} (h : IsReal x) : x ≠ ⊤ := by
  obtain ⟨a, rfl⟩ := h
  exact EReal.coe_ne_top a

theorem IsReal.ne_bot {x : EReal} (h : IsReal x) : x ≠ ⊥ := by
  obtain ⟨a, rfl⟩ := h
  exact EReal.coe_ne_bot a

theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The word of 2. -/
theorem ofBits_two : Ideal.ofBits .f32 0x40000000#32 = ((2 : ℝ) : EReal) := by
  simp [Ideal.ofBits, Ideal.ieee, ← EReal.coe_mul]
  norm_num

/-- The word of 96. -/
theorem ofBits_96 : Ideal.ofBits .f32 0x42C00000#32 = ((96 : ℝ) : EReal) := by
  simp [Ideal.ofBits, Ideal.ieee, ← EReal.coe_mul]
  norm_num

/-- The square root the reference divides by. -/
theorem sqrt_96 : Ideal.sqrt (Ideal.ofBits .f32 0x42C00000#32) = ((Real.sqrt 96 : ℝ) : EReal) := by
  rw [ofBits_96, Ideal.sqrt_coe, if_neg (by norm_num)]

theorem root_pos : 0 < Real.sqrt 96 := Real.sqrt_pos.2 (by norm_num)

theorem log_pos : 0 < Real.log 2 := Real.log_pos (by norm_num)

/-- The scale is a real number. -/
theorem cst_eq : cst = (((Real.log 2 * Real.sqrt 96)⁻¹ : ℝ) : EReal) := by
  have h : Real.log 2 * Real.sqrt 96 ≠ 0 := (mul_pos log_pos root_pos).ne'
  unfold cst
  rw [sqrt_96, ofBits_two, Ideal.log_coe, if_neg (by norm_num), ← EReal.coe_mul, Ideal.div_coe h, one_mul, one_div]

theorem IsReal.lane {u : Fin 64 → EReal} {w : Fin 32 → EReal} (hu : ∀ x, IsReal (u x)) (hw : ∀ x, IsReal (w x)) (l : ℕ) :
    IsReal (lane u w l) := by
  unfold Attn.lane
  split
  · exact hu _
  · split
    · exact hw _
    · exact IsReal.zero

/-- The product of two heads' lanes is the sum of the products of their two parts. -/
theorem lanes_dot (u u' : Fin 64 → EReal) (w w' : Fin 32 → EReal) :
    ∑ l : Fin 128, lane u w l * lane u' w' l = ∑ x, u x * u' x + ∑ x, w' x * w x := by
  rw [Fin.sum_univ_add (a := 64) (b := 64) (fun l : Fin 128 => lane u w l * lane u' w' l),
    Fin.sum_univ_add (a := 32) (b := 32) (fun l : Fin 64 => lane u w (Fin.natAdd 64 l : Fin 128) * lane u' w' (Fin.natAdd 64 l : Fin 128))]
  have h1 : ∀ x : Fin 64, lane u w (Fin.castAdd 64 x : Fin 128) * lane u' w' (Fin.castAdd 64 x : Fin 128) = u x * u' x := fun x => by
    simp [lane]
  have h2 : ∀ x : Fin 32, lane u w (Fin.natAdd 64 (Fin.castAdd 32 x) : Fin 128) * lane u' w' (Fin.natAdd 64 (Fin.castAdd 32 x) : Fin 128) = w' x * w x := fun x => by
    simp [lane, mul_comm]
  have h3 : ∀ x : Fin 32, lane u w (Fin.natAdd 64 (Fin.natAdd 32 x) : Fin 128) * lane u' w' (Fin.natAdd 64 (Fin.natAdd 32 x) : Fin 128) = 0 := fun x => by
    simp [lane]
  rw [sum_congr rfl fun x _ => h1 x, sum_congr rfl fun x _ => h2 x, sum_congr rfl fun x _ => h3 x, sum_const_zero, add_zero]

/-- With the queries' lanes scaled, the product is the reference's score times `1 / log 2`. -/
theorem scaled_dot {u u' : Fin 64 → EReal} {w w' : Fin 32 → EReal} (hu : ∀ x, IsReal (u x)) (hu' : ∀ x, IsReal (u' x))
    (hw : ∀ x, IsReal (w x)) (hw' : ∀ x, IsReal (w' x)) :
    ∑ l : Fin 128, lane u w l * cst * lane u' w' l
      = Ideal.div (∑ x, u x * u' x + ∑ x, w' x * w x) (Ideal.sqrt (Ideal.ofBits .f32 0x42C00000#32))
        * (((Real.log 2)⁻¹ : ℝ) : EReal) := by
  rw [← lanes_dot, sqrt_96, Ideal.div_coe root_pos.ne', cst_eq]
  choose f hf using fun l : Fin 128 => (IsReal.lane hu hw l.val)
  choose g hg using fun l : Fin 128 => (IsReal.lane hu' hw' l.val)
  simp only [hf, hg, ← EReal.coe_mul, ← coe_sum]
  congr 1
  rw [sum_mul, sum_mul]
  refine sum_congr rfl fun l _ => ?_
  have := root_pos.ne'
  have := log_pos.ne'
  field_simp

end Cert.Attn
-- ==== Proof.Final.lean ====
module

public import proofs.«01_k».proof.Proof.Scale
public import proofs.«01_k».proof.Defs
public import Idealize.ShloMosaic.Lib.ReduceAll

@[expose] public section

set_option maxRecDepth 16384

/-! The kernel's result is the reference's, of real queries and keys. -/

noncomputable section

namespace Cert.Attn

open Cert.KernelIdeal Cert.KernelIdeal.Gen Cert.KernelIdeal.Value Idealize.ShloMosaic Idealize.ShloMosaic.TcCoe Idealize.SL.Sem Finset

variable (m : (ℓ : Loc nD τ sig) → Buf (Elt Ideal) ℓ) (c : Dev nD)

/-- The queries without position. -/
abbrev qn : FVec Ideal S8x2048x8x64 .f32 := m ((c : Thread nD τ).loc main_arg0)
/-- The queries with position. -/
abbrev qr : FVec Ideal S8x2048x8x32 .f32 := m ((c : Thread nD τ).loc main_arg1)
/-- The keys without position. -/
abbrev kn : FVec Ideal S8x2048x8x64 .f32 := m ((c : Thread nD τ).loc main_arg2)
/-- The keys with position. -/
abbrev kr : FVec Ideal S8x2048x32 .f32 := m ((c : Thread nD τ).loc main_arg3)
/-- The values. -/
abbrev vv : FVec Ideal S8x2048x8x64 .f32 := m ((c : Thread nD τ).loc main_arg4)

/-- Queries and keys are real numbers. -/
structure RealArgs : Prop where
  qn : ∀ i, IsReal (qn m c i)
  qr : ∀ i, IsReal (qr m c i)
  kn : ∀ i, IsReal (kn m c i)
  kr : ∀ i, IsReal (kr m c i)

/-- The batch of a point. -/
def bat (t : Fin cfg0.N) : Fin 8 := grid0.coords t 0

/-- The position of a point's row. -/
def pos (t : Fin cfg0.N) (r : Fin 512) : Fin 2048 := ⟨512 * (grid0.coords t 1).val + r.val, by
  have h1 : (grid0.coords t 1).val < 4 := (grid0.coords t 1).isLt
  omega⟩

/-- A head's lanes of a point's queries. -/
theorem rd_q (t : Fin cfg0.N) (r : Fin 512) (h : Fin 8) (l : ℕ) (hl : l < 128) :
    rd (iblk m c 0 t) r.val (128 * h.val + l)
      = lane (fun x => qn m c (ix4 (bat t) (pos t r) h x)) (fun x => qr m c (ix4 (bat t) (pos t r) h x)) l * cst := by
  unfold rd
  rw [dif_pos ⟨r.isLt, by omega⟩, q_blk m c t ⟨r.val, r.isLt⟩ ⟨128 * h.val + l, by omega⟩, V_q]
  refine qarr_at _ _ (bat t) (pos t r) h l hl _ _ ?_ rfl
  simp only [bat, pos]
  ring

/-- A head's lanes of a point's keys. -/
theorem rd_k (t : Fin cfg0.N) (k : Fin 2048) (h : Fin 8) (l : ℕ) (hl : l < 128) :
    rd (iblk m c 1 t) k.val (128 * h.val + l)
      = lane (fun x => kn m c (ix4 (bat t) k h x)) (fun x => kr m c (ix3 (bat t) k x)) l := by
  unfold rd
  rw [dif_pos ⟨k.isLt, by omega⟩, k_blk m c t ⟨k.val, k.isLt⟩ ⟨128 * h.val + l, by omega⟩, V_k]
  exact karr_at _ _ (bat t) k h l hl _ _ rfl rfl

/-- A head's lanes of a point's values. -/
theorem rd_v (t : Fin cfg0.N) (k : Fin 2048) (h : Fin 8) (l : ℕ) (hl : l < 128) :
    rd (iblk m c 2 t) k.val (128 * h.val + l)
      = if g : l < 64 then vv m c (ix4 (bat t) k h ⟨l, g⟩) else if l - 64 < 1 then 1 else 0 := by
  unfold rd
  rw [dif_pos ⟨k.isLt, by omega⟩, v_blk m c t ⟨k.val, k.isLt⟩ ⟨128 * h.val + l, by omega⟩, V_v]
  exact varr_at _ (bat t) k h l hl _ _ rfl rfl

variable {m c}

theorem IsReal.cst : IsReal cst := ⟨_, cst_eq⟩

/-- Every element of a point's queries is real. -/
theorem real_q (H : RealArgs m c) (t : Fin cfg0.N) (r j : ℕ) : IsReal (rd (iblk m c 0 t) r j) := by
  by_cases h : r < 512 ∧ j < 1024
  · have := rd_q m c t ⟨r, h.1⟩ ⟨j / 128, by omega⟩ (j % 128) (by omega)
    rw [show 128 * (j / 128) + j % 128 = j by omega] at this
    rw [this]
    exact (IsReal.lane (fun _ => H.qn _) (fun _ => H.qr _) _).mul IsReal.cst
  · unfold rd
    rw [dif_neg h]
    exact IsReal.zero

/-- Every element of a point's keys is real. -/
theorem real_k (H : RealArgs m c) (t : Fin cfg0.N) (r j : ℕ) : IsReal (rd (iblk m c 1 t) r j) := by
  by_cases h : r < 2048 ∧ j < 1024
  · have := rd_k m c t ⟨r, h.1⟩ ⟨j / 128, by omega⟩ (j % 128) (by omega)
    rw [show 128 * (j / 128) + j % 128 = j by omega] at this
    rw [this]
    exact IsReal.lane (fun _ => H.kn _) (fun _ => H.kr _) _
  · unfold rd
    rw [dif_neg h]
    exact IsReal.zero

/-- So is every score. -/
theorem real_sc (H : RealArgs m c) (t : Fin cfg0.N) (h r k : ℕ) : IsReal (sc (iblk m c 0 t) (iblk m c 1 t) h r k) :=
  IsReal.sum fun _ => (real_q H t _ _).mul (real_k H t _ _)

/-- The reference's score, unmasked. -/
def plain (m : (ℓ : Loc nD τ sig) → Buf (Elt Ideal) ℓ) (c : Dev nD) (b h : Fin 8) (q k : Fin 2048) : EReal :=
  Ideal.div (∑ x : Fin 64, qn m c (ix4 b q h x) * kn m c (ix4 b k h x) + ∑ x : Fin 32, kr m c (ix3 b k x) * qr m c (ix4 b q h x))
    (Ideal.sqrt (Ideal.ofBits .f32 0x42C00000#32))

theorem real_plain (H : RealArgs m c) (b h : Fin 8) (q k : Fin 2048) : IsReal (plain m c b h q k) := by
  unfold plain
  rw [sqrt_96, Ideal.div_coe root_pos.ne']
  exact ((IsReal.sum fun _ => (H.qn _).mul (H.kn _)).add (IsReal.sum fun _ => (H.kr _).mul (H.qr _))).mul ⟨_, rfl⟩

/-- The kernel's score is the reference's times `1 / log 2`. -/
theorem sc_eq (H : RealArgs m c) (t : Fin cfg0.N) (h : Fin 8) (r : Fin 512) (k : Fin 2048) :
    sc (iblk m c 0 t) (iblk m c 1 t) h.val r.val k.val = plain m c (bat t) h (pos t r) k * (((Real.log 2)⁻¹ : ℝ) : EReal) := by
  unfold sc plain
  rw [← scaled_dot (fun _ => H.qn _) (fun _ => H.kn _) (fun _ => H.qr _) (fun _ => H.kr _)]
  exact sum_congr rfl fun l _ => by rw [rd_q m c t r h l.val l.isLt, rd_k m c t k h l.val l.isLt]

/-- The reference's masked scores of a row, `⊥` past the last key. -/
def masked (m : (ℓ : Loc nD τ sig) → Buf (Elt Ideal) ℓ) (c : Dev nD) (b h : Fin 8) (q : Fin 2048) (k : ℕ) : EReal :=
  if hk : k < 2048 then (if k ≤ q.val then plain m c b h q ⟨k, hk⟩ else ⊥) else ⊥

theorem msc_eq (H : RealArgs m c) (t : Fin cfg0.N) (h : Fin 8) (r : Fin 512) (k : ℕ) :
    msc (iblk m c 0 t) (iblk m c 1 t) (grid0.coords t 1).val h.val r.val k
      = masked m c (bat t) h (pos t r) k * (((Real.log 2)⁻¹ : ℝ) : EReal) := by
  have hb : (⊥ : EReal) = ⊥ * (((Real.log 2)⁻¹ : ℝ) : EReal) := (EReal.bot_mul_coe_of_pos (inv_pos.2 log_pos)).symm
  have hp : (pos t r).val = 512 * (grid0.coords t 1).val + r.val := rfl
  have hl := (pos t r).isLt
  unfold msc masked
  by_cases hk : k ≤ 512 * (grid0.coords t 1).val + r.val
  · rw [if_pos hk, dif_pos (by omega), if_pos (by omega)]
    exact sc_eq H t h r ⟨k, by omega⟩
  · rw [if_neg hk]
    by_cases hk' : k < 2048
    · rw [dif_pos hk', if_neg (by omega)]
      exact hb
    · rw [dif_neg hk']
      exact hb

/-- The softmax of the reference's scores over the values, for one row of one head. -/
def soft (m : (ℓ : Loc nD τ sig) → Buf (Elt Ideal) ℓ) (c : Dev nD) (b h : Fin 8) (q : Fin 2048) (d : Fin 64) : EReal :=
  ∑ k : Fin 2048, Ideal.div (Ideal.exp (masked m c b h q k - univ.fold max ⊥ fun k : Fin 2048 => masked m c b h q k))
    (∑ k : Fin 2048, Ideal.exp (masked m c b h q k - univ.fold max ⊥ fun k : Fin 2048 => masked m c b h q k)) * vv m c (ix4 b k h d)

/-- What the kernel leaves at an element is that softmax. -/
theorem outv_eq (H : RealArgs m c) (t : Fin cfg0.N) (h : Fin 8) (r : Fin 512) (d : Fin 64) :
    outv (iblk m c 0 t) (iblk m c 1 t) (iblk m c 2 t) (grid0.coords t 1).val h.val r.val d.val
      = soft m c (bat t) h (pos t r) d := by
  unfold outv soft
  rw [quotient (g := masked m c (bat t) h (pos t r)) _ _ 2048 (msc_eq H t h r)]
  · refine sum_congr rfl fun k _ => ?_
    unfold val
    rw [rd_v m c t k h d.val (by omega), dif_pos d.isLt]
  · intro k hk
    unfold val
    rw [rd_v m c t ⟨k, hk⟩ h 64 (by omega), dif_neg (by omega), if_pos (by omega)]
  · intro k
    unfold masked
    split
    · split
      · exact (real_plain H _ _ _ _).ne_top
      · exact bot_ne_top
    · exact bot_ne_top
  · refine ⟨(pos t r).val, (pos t r).isLt, ?_⟩
    unfold masked
    rw [dif_pos (pos t r).isLt, if_pos le_rfl]
    exact (real_plain H _ _ _ _).ne_bot

/-- The reference at an element is that softmax too. -/
theorem ref_eq (b h : Fin 8) (q : Fin 2048) (d : Fin 64) (r : Fin 16384) (j : Fin 512) (hr : r.val = b.val * 2048 + q.val)
    (hj : j.val = 64 * h.val + d.val) :
    Ref.weigh (Ref.expo (Ref.scores (qn m c) (qr m c) (kn m c) (kr m c)) (Ref.rowMax (Ref.scores (qn m c) (qr m c) (kn m c) (kr m c))))
      (vv m c) (ix2 r j) = soft m c b h q d := by
  obtain ⟨e1, e2⟩ := row_split hr
  obtain ⟨e3, e4⟩ : j.val / 64 = h.val ∧ j.val % 64 = d.val := by omega
  have hs : ∀ k : Fin 2048, Ref.scores (qn m c) (qr m c) (kn m c) (kr m c) (ix4 b h q k) = masked m c b h q k := by
    intro k
    rw [Ref.scores_at]
    unfold masked
    rw [dif_pos k.isLt]
    rfl
  rw [Ref.weigh_at]
  simp only [e1, e2, e3, e4, Fin.eta, Ref.expo_at, Ref.max_at, hs]
  exact sum_congr rfl fun k _ => mul_comm _ _

/-- The reference's result of the kernel's arguments. -/
def refArr (m : (ℓ : Loc nD τ sig) → Buf (Elt Ideal) ℓ) (c : Dev nD) : FVec Ideal S16384x512 .bf16 :=
  Ref.weigh (Ref.expo (Ref.scores (qn m c) (qr m c) (kn m c) (kr m c)) (Ref.rowMax (Ref.scores (qn m c) (qr m c) (kn m c) (kr m c))))
    (vv m c)

/-- What the kernel leaves at a point is the reference's block. -/
theorem point_eq (H : RealArgs m c) (t : Fin cfg0.N) (r j : Fin 512) :
    outsAt0 m c t (ix2 r j) = refArr m c (ix2 (⟨(4 * (grid0.coords t 0).val + (grid0.coords t 1).val) * 512 + r.val, by
      have h0 : (grid0.coords t 0).val < 8 := (grid0.coords t 0).isLt
      have h1 : (grid0.coords t 1).val < 4 := (grid0.coords t 1).isLt
      omega⟩ : Fin 16384) j) := by
  unfold refArr
  rw [ref_eq (bat t) ⟨j.val / 64, by omega⟩ (pos t r) ⟨j.val % 64, by omega⟩ _ _ (by simp only [bat, pos]; ring) (by simp only; omega),
    ← outv_eq H t]
  unfold outsAt0
  rw [out_at]
  · rfl
  · intro h k
    exact (real_sc H t _ _ _).ne_top

/-- The kernel's result array is the reference's. -/
theorem arr_eq (H : RealArgs m c) : (dats m 0 c).arrAt 3 cfg0.N = refArr m c := by
  refine (dats m 0 c).arrAt_eq_of_covers 3 _ (by decide +kernel) fun t hf y => ?_
  blk_simp
  rw [after0_3]
  refine (congrArg (outsAt0 m c t) (eq_ix2 y)).trans ((point_eq H t (y 0) (y 1)).trans (congrArg (refArr m c) ?_))
  blk_ext [idx3 t]

/-- The side conditions of the precondition's operations. -/
theorem preFacts : Cert.Pre_finite.Facts where
  bcast_S_S8x2048x8x64 := by decide
  reducesTo_S8x2048x8x64_S_d0_1_2_3 := by decide
  h_S_ := by decide
  bcast_S_S8x2048x8x32 := by decide
  reducesTo_S8x2048x8x32_S_d0_1_2_3 := by decide
  bcast_S_S8x2048x32 := by decide
  reducesTo_S8x2048x32_S_d0_1_2 := by decide

/-- An absolute value below infinity is that of a real number. -/
theorem real_of_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  induction x using EReal.rec with
  | bot => simp at h
  | top => simp at h
  | coe r => exact ⟨r, rfl⟩

/-- Two bits whose conjunction is one are both one. -/
theorem and_one {x y : BitVec 1} (h : IntOp.andi x y = 1#1) : x = 1#1 ∧ y = 1#1 := by
  revert h
  revert x y
  decide

attribute [local instance] preFacts in
/-- The precondition says that queries and keys are real numbers. -/
theorem real_args (H : Cert.Pre_KernelIdeal_finite m) : RealArgs m c := by
  have h := congrFun (H c) (Shape.Idx.first preFacts.h_S_)
  dsimp only [Cert.Pre_finite.fn, Cert.Pre_finite.fn_part1] at h
  obtain ⟨h, h3⟩ := and_one h
  obtain ⟨h, h2⟩ := and_one h
  obtain ⟨h0, h1⟩ := and_one h
  refine ⟨fun i => ?_, fun i => ?_, fun i => ?_, fun i => ?_⟩
  · exact real_of_lt (Host.reduce_andi_all _ _ _ _ _ h0 i)
  · exact real_of_lt (Host.reduce_andi_all _ _ _ _ _ h1 i)
  · exact real_of_lt (Host.reduce_andi_all _ _ _ _ _ h2 i)
  · exact real_of_lt (Host.reduce_andi_all _ _ _ _ _ h3 i)

end Cert.Attn
-- ==== Proof.InBody.lean ====
module

public import proofs.«01_k».proof.Proof.Gen.InProjIdeal.Value
public import Idealize.ShloMosaic.Lib.Pipeline.ValueKit
public import Idealize.ShloMosaic.Lib.Pipeline.ReadBack
public import Idealize.ShloMosaic.Lib.Pointwise

@[expose] public section

set_option maxRecDepth 16384

/-! What the input projection stores at a point, as one term per result. -/

noncomputable section

namespace Cert.In

open Cert.InProjIdeal Cert.InProjIdeal.Gen Idealize.ShloMosaic Idealize.ShloMosaic.TcCoe Idealize.SL.Sem Finset

section

variable (c : Dev nD) (i : grid0.Coords) (arg1 : Memref sig .tc .vmem S1024x1024 .f32) (harg1 : arg1.IsWhole)
  (arg2 : Memref sig .tc .vmem S1x8x128 .i32) (harg2 : arg2.IsWhole) (arg3 : Memref sig .tc .vmem S1x128 .f32) (harg3 : arg3.IsWhole)
  (arg4 : Memref sig .tc .vmem S1x1024 .f32) (harg4 : arg4.IsWhole) (arg5 : Memref sig .tc .vmem S1024x512 .bf16) (harg5 : arg5.IsWhole)
  (arg6 : Memref sig .tc .vmem S1024x1536 .bf16) (harg6 : arg6.IsWhole) (arg7 : Memref sig .tc .vmem S1024x2048 .bf16) (harg7 : arg7.IsWhole)
  (arg8 : Memref sig .tc .vmem S1x2048 .f32) (harg8 : arg8.IsWhole) (arg9 : Memref sig .tc .vmem S1x256 .f32) (harg9 : arg9.IsWhole)
  (arg10 : Memref sig .tc .vmem S256x1024 .bf16) (harg10 : arg10.IsWhole) (arg11 : Memref sig .tc .vmem S1x128 .f32) (harg11 : arg11.IsWhole)
  (arg12 : Memref sig .tc .vmem S128x1024 .bf16) (harg12 : arg12.IsWhole) (arg13 : Memref sig .tc .vmem S128x1024 .bf16) (harg13 : arg13.IsWhole)
  (arg14 : Memref sig .tc .vmem S8x512 .f32) (harg14 : arg14.IsWhole) (arg15 : Memref sig .tc .vmem S512x1024 .bf16) (harg15 : arg15.IsWhole)
  (arg16 : Memref sig .tc .vmem S1024x1024 .bf16) (harg16 : arg16.IsWhole) (arg17 : Memref sig .tc .vmem S1024x1024 .bf16) (harg17 : arg17.IsWhole)
  (arg18 : Memref sig .tc .vmem S1024x1024 .bf16) (harg18 : arg18.IsWhole) (arg19 : Memref sig .tc .vmem S1024x1024 .bf16) (harg19 : arg19.IsWhole)
  (arg20 : Memref sig .tc .vmem S1024x1024 .bf16) (harg20 : arg20.IsWhole) (arg21 : Memref sig .tc .vmem S8x512 .f32) (harg21 : arg21.IsWhole)
  (x0 : Vec Ideal S1024x1024 .f32) (x1 : Vec Ideal S1x8x128 .i32) (x2 : Vec Ideal S1x128 .f32) (x3 : Vec Ideal S1x1024 .f32)
  (x4 : Vec Ideal S1024x512 .bf16) (x5 : Vec Ideal S1024x1536 .bf16) (x6 : Vec Ideal S1024x2048 .bf16) (x7 : Vec Ideal S1x2048 .f32)
  (x8 : Vec Ideal S1x256 .f32) (x9 : Vec Ideal S256x1024 .bf16) (x10 : Vec Ideal S1x128 .f32) (x11 : Vec Ideal S128x1024 .bf16)
  (x12 : Vec Ideal S128x1024 .bf16) (x13 : Vec Ideal S8x512 .f32) (x14 : Vec Ideal S512x1024 .bf16)

/-- The product of the two halves the convolution runs over, for a tile of rows. -/
abbrev uT (x0 : Vec Ideal S1024x1024 .f32) (x3 : Vec Ideal S1x1024 .f32) (x5 : Vec Ideal S1024x1536 .bf16) : FVec Ideal S1024x512 .f32 :=
  k0_pay58 (k0_pay2 x0 x3) x5

/-- The second result's tile, from the last and the last but one row before it. -/
abbrev mixAB (x0 : Vec Ideal S1024x1024 .f32) (x3 : Vec Ideal S1x1024 .f32) (x5 : Vec Ideal S1024x1536 .bf16)
    (x6 : Vec Ideal S1024x2048 .bf16) (x7 : Vec Ideal S1x2048 .f32) (x13 : Vec Ideal S8x512 .f32) (x14 : Vec Ideal S512x1024 .bf16)
    (a b : Vec Ideal S1x512 .f32) : FVec Ideal S1024x1024 .bf16 :=
  k0_pay1 (k0_pay67 (k0_pay2 x0 x3) (k0_pay57 (k0_pay2 x0 x3) x5) (uT x0 x3 x5)
    (k0_pay60 (k0_pay2 x0 x3) x5 a) k0_pay61 (k0_pay62 (k0_pay2 x0 x3) x5 a) (k0_pay63 b) x13 x14 x6 x7)

/-- The second result's tile, from the eight rows kept of the tile before it. -/
abbrev mixT (x0 : Vec Ideal S1024x1024 .f32) (x3 : Vec Ideal S1x1024 .f32) (x5 : Vec Ideal S1024x1536 .bf16)
    (x6 : Vec Ideal S1024x2048 .bf16) (x7 : Vec Ideal S1x2048 .f32) (x13 : Vec Ideal S8x512 .f32) (x14 : Vec Ideal S512x1024 .bf16)
    (xs : Vec Ideal S8x512 .f32) : FVec Ideal S1024x1024 .bf16 :=
  mixAB x0 x3 x5 x6 x7 x13 x14 (View.ld xs (Rect.unit ![7, 0] ![1, 512] inb_S8x512_S1x512_7_0))
    (View.ld xs (Rect.unit ![6, 0] ![1, 512] inb_S8x512_S1x512_6_0))

/-- A load of part of a buffer that one store has filled reads what was stored. -/
theorem ld_fill (v : View sig .tc .vmem S8x512 .f32) (w : Vec Ideal S8x512 .f32) (B : Rect S8x512) :
    v.readCov (Val := Elt Ideal) [⟨Rect.unit ![0, 0] S8x512.size inb_S8x512_S8x512_0_0, w⟩] B.toLoadRect = View.ld w B := by
  rw [View.readCov_eq_canon']
  rw [View.canon_cons_unit_lit _ _ _ (by decide)]

/-- The first result's tile where a sequence starts. -/
theorem outA18 (hc0 : cond0_0 i) (y : S1024x1024.Idx) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 y = k0_pay66 (k0_pay2 x0 x3) x6 x7 y := by
  frame_out
  all_goals rfl

/-- The first result's tile elsewhere. -/
theorem outB18 (hc0 : ¬cond0_0 i) (xs0 : Vec Ideal S8x512 .f32) (y : S1024x1024.Idx) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0 y = k0_pay66 (k0_pay2 x0 x3) x6 x7 y := by
  frame_out
  all_goals rfl

/-- The second result's tile where a sequence starts. -/
theorem outA19 (hc0 : cond0_0 i) (y : S1024x1024.Idx) :
    out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 y = mixT x0 x3 x5 x6 x7 x13 x14 (k0_pay59 (F := Ideal)) y := by
  have h7 := ld_fill arg21.view (k0_pay59 (F := Ideal)) (Rect.unit ![7, 0] ![1, 512] inb_S8x512_S1x512_7_0)
  have h6 := ld_fill arg21.view (k0_pay59 (F := Ideal)) (Rect.unit ![6, 0] ![1, 512] inb_S8x512_S1x512_6_0)
  refine Eq.trans ?_ (congrFun (congrArg₂ (mixAB x0 x3 x5 x6 x7 x13 x14) h7 h6) y)
  frame_out
  all_goals rfl

/-- The second result's tile elsewhere. -/
theorem outB19 (hc0 : ¬cond0_0 i) (xs0 : Vec Ideal S8x512 .f32) (y : S1024x1024.Idx) :
    out0_B_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0 y = mixT x0 x3 x5 x6 x7 x13 x14 xs0 y := by
  frame_out
  all_goals rfl

/-- What a tile where a sequence starts hands to the next. -/
theorem soutA (hc0 : cond0_0 i) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 = k0_pay64 (uT x0 x3 x5) := by
  frame_out
  all_goals rfl

end

end Cert.In
-- ==== Proof.InHost.lean ====
module

public import proofs.«01_k».proof.Proof.InBody

@[expose] public section

set_option maxRecDepth 16384

noncomputable section

namespace Cert.In

open Cert.InProjIdeal Cert.InProjIdeal.Gen Idealize.ShloMosaic Idealize.ShloMosaic.TcCoe Idealize.SL.Sem Finset

section

variable (m : (ℓ : Loc nD τ sig) → Buf (Elt Ideal) ℓ) (c : Dev nD)

/-- The activations of all batches. -/
abbrev aX : FVec Ideal S8x2048x1024 .f32 := m ((c : Thread nD τ).loc main_arg0)
/-- The gains of the norm. -/
abbrev aG : FVec Ideal S1x1024 .f32 := m ((c : Thread nD τ).loc main_arg2)
/-- The projection's weights. -/
abbrev aW : FVec Ideal S1024x4000 .f32 := m ((c : Thread nD τ).loc main_arg3)
/-- The gates' biases. -/
abbrev aB : FVec Ideal S1x2048 .f32 := m ((c : Thread nD τ).loc main_arg4)
/-- The convolution's three rows of weights. -/
abbrev aC : FVec Ideal S3x512 .f32 := m ((c : Thread nD τ).loc main_arg9)
/-- The branch's weights. -/
abbrev aWB : FVec Ideal S512x1024 .f32 := m ((c : Thread nD τ).loc main_arg10)

/-- The activations as the call takes them: one row per position. -/
theorem V_x (b : Fin 8) (s : Fin 2048) (k : Fin 1024) (r : Fin 16384) (hr : r.val = b.val * 2048 + s.val) :
    (V m c main_v0 : FVec Ideal S16384x1024 .f32) (ix2 r k) = aX m c (ix3 b s k) := by
  obtain ⟨e1, e2⟩ : r.val / 2048 = b.val ∧ r.val % 2048 = s.val := by omega
  unfold V hostOps0
  after_results_simp
  pointwise []
  simp only [e1, e2, Fin.eta]

/-- The norm's gain as the call takes it. -/
theorem V_g (k : Fin 1024) :
    (V m c main_arg2 : FVec Ideal S1x1024 .f32) (ix2 0 k) = aG m c (ix2 0 k) := by
  unfold V hostOps0
  after_results_simp

/-- The columns for the convolution. -/
theorem V_w2 (k : Fin 1024) (j : Fin 1536) :
    (V m c main_v23 : FVec Ideal S1024x1536 .bf16) (ix2 k j) = aW m c (ix2 k ⟨416 + j.val, by omega⟩) := by
  unfold V hostOps0
  after_results_simp
  pointwise []

/-- The columns for the gates. -/
theorem V_w3 (k : Fin 1024) (j : Fin 2048) :
    (V m c main_v25 : FVec Ideal S1024x2048 .bf16) (ix2 k j) = aW m c (ix2 k ⟨1952 + j.val, by omega⟩) := by
  unfold V hostOps0
  after_results_simp
  pointwise []

/-- The gates' biases as the call takes them. -/
theorem V_b (k : Fin 2048) :
    (V m c main_arg4 : FVec Ideal S1x2048 .f32) (ix2 0 k) = aB m c (ix2 0 k) := by
  unfold V hostOps0
  after_results_simp

/-- The convolution's weights, filled up with zeros. -/
theorem V_c' : V m c main_v44 = concatenate S8x512 0
    [⟨S3x512, aC m c⟩, ⟨S5x512, broadcastInDim S5x512 ![] bcast_S_S5x512 (constant S_ .f32 0x00000000#32)⟩] concatenates_S3x512_S5x512_S8x512_d0 := by
  unfold V hostOps0
  after_results_simp
  rfl

/-- A row of the convolution's weights. -/
theorem V_c (l : Fin 3) (j : Fin 512) (l' : Fin 8) (hl : l'.val = l.val) :
    (V m c main_v44 : FVec Ideal S8x512 .f32) (ix2 l' j) = aC m c (ix2 l j) := by
  rw [V_c']
  pointwise []
  rw [dif_pos (show l'.val < 3 by omega)]
  simp only [hl, Fin.eta]

/-- The branch's weights as the call takes them. -/
theorem V_wb (k : Fin 512) (j : Fin 1024) :
    (V m c main_v45 : FVec Ideal S512x1024 .bf16) (ix2 k j) = aWB m c (ix2 k j) := by
  unfold V hostOps0
  after_results_simp
  pointwise []

/-- Which block window 0 has at a point. -/
theorem idx0 : ∀ t : Fin cfg0.N, (cfg0.win 0).index t = ![t.val, 0] := (by decide +kernel : ∀ t : Fin grid0.N, _)
/-- Which block window 3 has at a point. -/
theorem idx3 : ∀ t : Fin cfg0.N, (cfg0.win 3).index t = ![0, 0] := (by decide +kernel : ∀ t : Fin grid0.N, _)
/-- Which block window 5 has at a point. -/
theorem idx5 : ∀ t : Fin cfg0.N, (cfg0.win 5).index t = ![0, 0] := (by decide +kernel : ∀ t : Fin grid0.N, _)
/-- Which block window 6 has at a point. -/
theorem idx6 : ∀ t : Fin cfg0.N, (cfg0.win 6).index t = ![0, 0] := (by decide +kernel : ∀ t : Fin grid0.N, _)
/-- Which block window 7 has at a point. -/
theorem idx7 : ∀ t : Fin cfg0.N, (cfg0.win 7).index t = ![0, 0] := (by decide +kernel : ∀ t : Fin grid0.N, _)
/-- Which block window 13 has at a point. -/
theorem idx13 : ∀ t : Fin cfg0.N, (cfg0.win 13).index t = ![0, 0] := (by decide +kernel : ∀ t : Fin grid0.N, _)
/-- Which block window 14 has at a point. -/
theorem idx14 : ∀ t : Fin cfg0.N, (cfg0.win 14).index t = ![0, 0] := (by decide +kernel : ∀ t : Fin grid0.N, _)
/-- Which block window 18 has at a point. -/
theorem idx18 : ∀ t : Fin cfg0.N, (cfg0.win 18).index t = ![t.val, 0] := (by decide +kernel : ∀ t : Fin grid0.N, _)
/-- Which block window 19 has at a point. -/
theorem idx19 : ∀ t : Fin cfg0.N, (cfg0.win 19).index t = ![t.val, 0] := (by decide +kernel : ∀ t : Fin grid0.N, _)

/-- A tile's activations. -/
theorem b_x (t : Fin cfg0.N) (b : Fin 8) (s : Fin 2048) (r k : Fin 1024) (hr : t.val * 1024 + r.val = b.val * 2048 + s.val) :
    (iblk m c 0 t : Vec Ideal S1024x1024 .f32) (ix2 r k) = aX m c (ix3 b s k) := by
  have ht : t.val < 16 := t.isLt
  rw [← V_x m c b s k ⟨t.val * 1024 + r.val, by omega⟩ hr]
  blk_ext [iblk, idx0 t]

/-- A tile's gain. -/
theorem b_g (t : Fin cfg0.N) (k : Fin 1024) : (iblk m c 3 t : Vec Ideal S1x1024 .f32) (ix2 0 k) = aG m c (ix2 0 k) := by
  rw [← V_g]
  blk_ext [iblk, idx3 t]

/-- A tile's columns for the convolution. -/
theorem b_w2 (t : Fin cfg0.N) (k : Fin 1024) (j : Fin 1536) :
    (iblk m c 5 t : Vec Ideal S1024x1536 .bf16) (ix2 k j) = aW m c (ix2 k ⟨416 + j.val, by omega⟩) := by
  rw [← V_w2]
  blk_ext [iblk, idx5 t]

/-- A tile's columns for the gates. -/
theorem b_w3 (t : Fin cfg0.N) (k : Fin 1024) (j : Fin 2048) :
    (iblk m c 6 t : Vec Ideal S1024x2048 .bf16) (ix2 k j) = aW m c (ix2 k ⟨1952 + j.val, by omega⟩) := by
  rw [← V_w3]
  blk_ext [iblk, idx6 t]

/-- A tile's biases. -/
theorem b_b (t : Fin cfg0.N) (k : Fin 2048) : (iblk m c 7 t : Vec Ideal S1x2048 .f32) (ix2 0 k) = aB m c (ix2 0 k) := by
  rw [← V_b]
  blk_ext [iblk, idx7 t]

/-- A tile's convolution weights. -/
theorem b_c (t : Fin cfg0.N) (l : Fin 3) (j : Fin 512) (l' : Fin 8) (hl : l'.val = l.val) :
    (iblk m c 13 t : Vec Ideal S8x512 .f32) (ix2 l' j) = aC m c (ix2 l j) := by
  rw [← V_c m c l j l' hl]
  blk_ext [iblk, idx13 t]

/-- A tile's branch weights. -/
theorem b_wb (t : Fin cfg0.N) (k : Fin 512) (j : Fin 1024) :
    (iblk m c 14 t : Vec Ideal S512x1024 .bf16) (ix2 k j) = aWB m c (ix2 k j) := by
  rw [← V_wb]
  blk_ext [iblk, idx14 t]

end

end Cert.In
-- ==== Proof.InRef.lean ====
module

public import proofs.«01_k».proof.Proof.Gen.InProjRefIdeal.Run
public import Idealize.ShloMosaic.Lib.Pipeline.ValueKit
public import Idealize.ShloMosaic.Lib.Pointwise

@[expose] public section

set_option maxRecDepth 16384

/-! The reference's two results, element by element. -/

noncomputable section

namespace Cert.In.Ref

open Cert.InProjRefIdeal Cert.InProjRefIdeal.Gen Idealize.ShloMosaic Idealize.ShloMosaic.TcCoe Idealize.SL.Sem Finset

/-- The normalised activations. -/
def norm (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))

/-- Their projection. -/
def proj (h : FVec Ideal S8x2048x1024 .f32) (w : FVec Ideal S1024x4000 .f32) : FVec Ideal S8x2048x4000 .f32 :=
  Host.dotGeneral dot_S8x2048x1024_S1024x4000_S8x2048x4000_2_0_01_1_n_n none h w

/-- The gates. -/
def gates (p : FVec Ideal S8x2048x4000 .f32) (b : FVec Ideal S1x2048 .f32) : FVec Ideal S8x2048x2048 .f32 :=
  Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf (addf (extractStridedSlice S8x2048x2048 ![0, 0, 1952] p slices_S8x2048x4000_S8x2048x2048_0_0_1952) (broadcastInDim S8x2048x2048 ![0, 1, 2] bcast_S1x1x2048_S8x2048x2048_0_1_2 (broadcastInDim S1x1x2048 ![1, 2] bcast_S1x2048_S1x1x2048_1_2 b))))))

/-- The convolution's input, with two rows of zeros before each sequence. -/
def padded (p : FVec Ideal S8x2048x4000 .f32) : FVec Ideal S8x2050x512 .f32 :=
  pad S8x2050x512 ![0, 2, 0] ![0, 0, 0] ![0, 0, 0] (mulf (extractStridedSlice S8x2048x512 ![0, 0, 512] (extractStridedSlice S8x2048x1536 ![0, 0, 416] p slices_S8x2048x4000_S8x2048x1536_0_0_416) slices_S8x2048x1536_S8x2048x512_0_0_512) (extractStridedSlice S8x2048x512 ![0, 0, 1024] (extractStridedSlice S8x2048x1536 ![0, 0, 416] p slices_S8x2048x4000_S8x2048x1536_0_0_416) slices_S8x2048x1536_S8x2048x512_0_0_1024)) (sitofp .f32 (constantI S_ 32 0#32)) pads_S8x2048x512_S8x2050x512_000_200_000 h_S_

/-- The first result. -/
def first (G : FVec Ideal S8x2048x2048 .f32) : FVec Ideal S16384x1024 .bf16 :=
  truncf .bf16 (shapeCast _ (extractStridedSlice S8x2048x1024 ![0, 0, 0] G slices_S8x2048x2048_S8x2048x1024_0_0_0) shapeCasts_S8x2048x1024_S16384x1024) bitsLt_bf16_f32

/-- The second result. -/
def second (G : FVec Ideal S8x2048x2048 .f32) (p : FVec Ideal S8x2048x4000 .f32) (P : FVec Ideal S8x2050x512 .f32)
    (cw : FVec Ideal S3x512 .f32) (wb : FVec Ideal S512x1024 .f32) : FVec Ideal S16384x1024 .bf16 :=
  truncf .bf16 (shapeCast _ (mulf (extractStridedSlice S8x2048x1024 ![0, 0, 1024] G slices_S8x2048x2048_S8x2048x1024_0_0_1024) (Host.dotGeneral dot_S8x2048x512_S512x1024_S8x2048x1024_2_0_01_1_n_n none (mulf (extractStridedSlice S8x2048x512 ![0, 0, 0] (extractStridedSlice S8x2048x1536 ![0, 0, 416] p slices_S8x2048x4000_S8x2048x1536_0_0_416) slices_S8x2048x1536_S8x2048x512_0_0_0)
    (addf (addf (mulf (broadcastInDim S8x2048x512 ![0, 1, 2] bcast_S1x1x512_S8x2048x512_0_1_2 (broadcastInDim S1x1x512 ![2] bcast_S512_S1x1x512_2 (shapeCast _ (extractStridedSlice S1x512 ![0, 0] cw slices_S3x512_S1x512_0_0) shapeCasts_S1x512_S512))) (extractStridedSlice S8x2048x512 ![0, 0, 0] P slices_S8x2050x512_S8x2048x512_0_0_0))
      (mulf (broadcastInDim S8x2048x512 ![0, 1, 2] bcast_S1x1x512_S8x2048x512_0_1_2 (broadcastInDim S1x1x512 ![2] bcast_S512_S1x1x512_2 (shapeCast _ (extractStridedSlice S1x512 ![1, 0] cw slices_S3x512_S1x512_1_0) shapeCasts_S1x512_S512))) (extractStridedSlice S8x2048x512 ![0, 1, 0] P slices_S8x2050x512_S8x2048x512_0_1_0)))
      (mulf (broadcastInDim S8x2048x512 ![0, 1, 2] bcast_S1x1x512_S8x2048x512_0_1_2 (broadcastInDim S1x1x512 ![2] bcast_S512_S1x1x512_2 (shapeCast _ (extractStridedSlice S1x512 ![2, 0] cw slices_S3x512_S1x512_2_0) shapeCasts_S1x512_S512))) (extractStridedSlice S8x2048x512 ![0, 2, 0] P slices_S8x2050x512_S8x2048x512_0_2_0)))) wb)) shapeCasts_S8x2048x1024_S16384x1024) bitsLt_bf16_f32

section
variable (m : (ℓ : Loc nD τ sig) → Buf (Elt Ideal) ℓ) (c : Dev nD)

/-- The reference's projection, from its arguments. -/
abbrev projOf : FVec Ideal S8x2048x4000 .f32 :=
  proj (norm (m ((c.tc : Thread nD τ).loc main_arg0)) (m ((c.tc : Thread nD τ).loc main_arg2))) (m ((c.tc : Thread nD τ).loc main_arg3))

/-- The reference's gates, from its arguments. -/
abbrev gatesOf : FVec Ideal S8x2048x2048 .f32 := gates (projOf m c) (m ((c.tc : Thread nD τ).loc main_arg4))

/-- The reference's first result, from its arguments. -/
abbrev firstOf : FVec Ideal S16384x1024 .bf16 := first (gatesOf m c)

/-- The reference's second result, from its arguments. -/
abbrev secondOf : FVec Ideal S16384x1024 .bf16 :=
  second (gatesOf m c) (projOf m c) (padded (projOf m c)) (m ((c.tc : Thread nD τ).loc main_arg9)) (m ((c.tc : Thread nD τ).loc main_arg10))

end

/-- A normalised activation. -/
theorem norm_at (x : FVec Ideal S8x2048x1024 .f32) (g : FVec Ideal S1x1024 .f32) (b : Fin 8) (s : Fin 2048) (k : Fin 1024) :
    norm x g (ix3 b s k) = x (ix3 b s k) * Ideal.rsqrt (Ideal.div (∑ l : Fin 1024, x (ix3 b s l) * x (ix3 b s l))
      (Ideal.ofBits FTy.f32 0x44800000#32) + Ideal.ofBits FTy.f32 0x358637BD#32) * g (ix2 0 k) := by
  pointwise [norm]

/-- An element of the projection. -/
theorem proj_at (h : FVec Ideal S8x2048x1024 .f32) (w : FVec Ideal S1024x4000 .f32) (b : Fin 8) (s : Fin 2048) (j : Fin 4000) :
    proj h w (ix3 b s j) = ∑ k : Fin 1024, h (ix3 b s k) * w (ix2 k j) := by
  pointwise [proj]

/-- A gate. -/
theorem gates_at (p : FVec Ideal S8x2048x4000 .f32) (w : FVec Ideal S1x2048 .f32) (b : Fin 8) (s : Fin 2048) (j : Fin 2048) :
    gates p w (ix3 b s j) = Ideal.logistic (p (ix3 b s ⟨1952 + j.val, by omega⟩) + w (ix2 0 j)) := by
  pointwise [gates]
  rw [Ideal.logistic]

/-- The integer zero as a number. -/
theorem zero_int : (FloatOps.sitofp FTy.f32 0#32 : Ideal .f32) = (0 : EReal) := by
  simp [FloatOps.sitofp]

/-- An element of the padded input of the convolution. -/
theorem padded_at (p : FVec Ideal S8x2048x4000 .f32) (b : Fin 8) (s : Fin 2050) (j : Fin 512) :
    padded p (ix3 b s j) = if h : 2 ≤ s.val ∧ s.val - 2 < 2048 then
      p (ix3 b ⟨s.val - 2, h.2⟩ ⟨416 + (512 + j.val), by omega⟩) * p (ix3 b ⟨s.val - 2, h.2⟩ ⟨416 + (1024 + j.val), by omega⟩)
    else 0 := by
  pointwise [padded]
  rw [zero_int]

/-- An element of the first result. -/
theorem first_at (G : FVec Ideal S8x2048x2048 .f32) (r : Fin 16384) (j : Fin 1024) :
    first G (ix2 r j) = G (ix3 ⟨r.val / 2048, by omega⟩ ⟨r.val % 2048, by omega⟩ ⟨j.val, by omega⟩) := by
  pointwise [first]

/-- An element of the second result. -/
theorem second_at (G : FVec Ideal S8x2048x2048 .f32) (p : FVec Ideal S8x2048x4000 .f32) (P : FVec Ideal S8x2050x512 .f32)
    (cw : FVec Ideal S3x512 .f32) (wb : FVec Ideal S512x1024 .f32) (r : Fin 16384) (j : Fin 1024) :
    second G p P cw wb (ix2 r j) = G (ix3 ⟨r.val / 2048, by omega⟩ ⟨r.val % 2048, by omega⟩ ⟨1024 + j.val, by omega⟩) *
      ∑ x : Fin 512, p (ix3 ⟨r.val / 2048, by omega⟩ ⟨r.val % 2048, by omega⟩ ⟨416 + x.val, by omega⟩) *
            (cw (ix2 0 x) * P (ix3 ⟨r.val / 2048, by omega⟩ ⟨r.val % 2048, by omega⟩ x) +
                cw (ix2 1 x) * P (ix3 ⟨r.val / 2048, by omega⟩ ⟨1 + r.val % 2048, by omega⟩ x) +
              cw (ix2 2 x) * P (ix3 ⟨r.val / 2048, by omega⟩ ⟨2 + r.val % 2048, by omega⟩ x)) * wb (ix2 x j) := by
  pointwise [second]

end Cert.In.Ref
-- ==== Proof.InLowRef.lean ====
module

public import proofs.«01_k».proof.Proof.InRef

@[expose] public section

set_option maxRecDepth 16384

/-! The reference's queries, keys and values, element by element. -/

noncomputable section

namespace Cert.In.Ref

open Cert.InProjRefIdeal Cert.InProjRefIdeal.Gen Idealize.ShloMosaic Idealize.ShloMosaic.TcCoe Idealize.SL.Sem Finset

/-- The rotation's frequencies. -/
def freq : FVec Ideal S16 .f32 :=
  Host.powf (broadcastInDim S16 ![] bcast_S_S16 ((constant S_ .f32 0x461C4000#32))) (Host.divf (Host.negf (addf (broadcastInDim S16 ![] bcast_S_S16 ((constant S_ .f32 0x00000000#32))) (mulf (broadcastInDim S16 ![] bcast_S_S16 ((constant S_ .f32 0x40000000#32))) ((sitofp .f32 (iotaInDim S16 32 0)))))) (broadcastInDim S16 ![] bcast_S_S16 ((constant S_ .f32 0x42000000#32))))

/-- The angles of all positions. -/
def ang (P : IVec S8x2048 32) : FVec Ideal S8x2048x16 .f32 :=
  mulf (broadcastInDim S8x2048x16 ![0, 1, 2] bcast_S8x2048x1_S8x2048x16_0_1_2 (broadcastInDim S8x2048x1 ![0, 1] bcast_S8x2048_S8x2048x1_0_1 (sitofp .f32 P))) (broadcastInDim S8x2048x16 ![0, 1, 2] bcast_S1x1x16_S8x2048x16_0_1_2 (broadcastInDim S1x1x16 ![2] bcast_S16_S1x1x16_2 freq))

/-- The queries, from the projection. -/
def quer (p : FVec Ideal S8x2048x4000 .f32) (g : FVec Ideal S1x256 .f32) (w : FVec Ideal S256x768 .f32) : FVec Ideal S8x2048x768 .f32 :=
  (fun l r => Host.dotGeneral dot_S8x2048x256_S256x768_S8x2048x768_2_0_01_1_n_n none l r) (mulf (mulf (extractStridedSlice S8x2048x256 ![0, 0, 0] p slices_S8x2048x4000_S8x2048x256_0_0_0) (broadcastInDim S8x2048x256 ![0, 1, 2] bcast_S8x2048x1_S8x2048x256_0_1_2 (Host.rsqrt (addf (Host.divf (broadcastInDim S8x2048x1 ![0, 1] bcast_S8x2048_S8x2048x1_0_1 (Host.reduceAdd (mulf (extractStridedSlice S8x2048x256 ![0, 0, 0] p slices_S8x2048x4000_S8x2048x256_0_0_0) (extractStridedSlice S8x2048x256 ![0, 0, 0] p slices_S8x2048x4000_S8x2048x256_0_0_0)) ((constant S_ .f32 0x00000000#32)) reducesTo_S8x2048x256_S8x2048_d2 h_S_)) (broadcastInDim S8x2048x1 ![] bcast_S_S8x2048x1 ((constant S_ .f32 0x43800000#32)))) (broadcastInDim S8x2048x1 ![] bcast_S_S8x2048x1 ((constant S_ .f32 0x358637BD#32))))))) (broadcastInDim S8x2048x256 ![0, 1, 2] bcast_S1x1x256_S8x2048x256_0_1_2 (broadcastInDim S1x1x256 ![1, 2] bcast_S1x256_S1x1x256_1_2 g))) w

/-- The keys and values, from the projection. -/
def kval (p : FVec Ideal S8x2048x4000 .f32) (g : FVec Ideal S1x128 .f32) (w : FVec Ideal S128x1024 .f32) : FVec Ideal S8x2048x1024 .f32 :=
  (fun l r => Host.dotGeneral dot_S8x2048x128_S128x1024_S8x2048x1024_2_0_01_1_n_n none l r) (mulf (mulf (extractStridedSlice S8x2048x128 ![0, 0, 256] p slices_S8x2048x4000_S8x2048x128_0_0_256) (broadcastInDim S8x2048x128 ![0, 1, 2] bcast_S8x2048x1_S8x2048x128_0_1_2 (Host.rsqrt (addf (Host.divf (broadcastInDim S8x2048x1 ![0, 1] bcast_S8x2048_S8x2048x1_0_1 (Host.reduceAdd (mulf (extractStridedSlice S8x2048x128 ![0, 0, 256] p slices_S8x2048x4000_S8x2048x128_0_0_256) (extractStridedSlice S8x2048x128 ![0, 0, 256] p slices_S8x2048x4000_S8x2048x128_0_0_256)) ((constant S_ .f32 0x00000000#32)) reducesTo_S8x2048x128_S8x2048_d2 h_S_)) (broadcastInDim S8x2048x1 ![] bcast_S_S8x2048x1 ((constant S_ .f32 0x43000000#32)))) (broadcastInDim S8x2048x1 ![] bcast_S_S8x2048x1 ((constant S_ .f32 0x358637BD#32))))))) (broadcastInDim S8x2048x128 ![0, 1, 2] bcast_S1x1x128_S8x2048x128_0_1_2 (broadcastInDim S1x1x128 ![1, 2] bcast_S1x128_S1x1x128_1_2 g))) w

/-- The queries' turned lanes. -/
def turnQ (q : FVec Ideal S8x2048x768 .f32) (C S : FVec Ideal S8x2048x16 .f32) : FVec Ideal S8x2048x8x32 .f32 :=
  (fun a b => concatenate S8x2048x8x32 3 [⟨S8x2048x8x16, a⟩, ⟨S8x2048x8x16, b⟩] concatenates_S8x2048x8x16_S8x2048x8x16_S8x2048x8x32_d3) (subf (mulf (extractStridedSlice S8x2048x8x16 ![0, 0, 0, 64] (shapeCast _ q shapeCasts_S8x2048x768_S8x2048x8x96) slices_S8x2048x8x96_S8x2048x8x16_0_0_0_64) (broadcastInDim S8x2048x8x16 ![0, 1, 2, 3] bcast_S8x2048x1x16_S8x2048x8x16_0_1_2_3 (broadcastInDim S8x2048x1x16 ![0, 1, 3] bcast_S8x2048x16_S8x2048x1x16_0_1_3 C))) (mulf (extractStridedSlice S8x2048x8x16 ![0, 0, 0, 80] (shapeCast _ q shapeCasts_S8x2048x768_S8x2048x8x96) slices_S8x2048x8x96_S8x2048x8x16_0_0_0_80) (broadcastInDim S8x2048x8x16 ![0, 1, 2, 3] bcast_S8x2048x1x16_S8x2048x8x16_0_1_2_3 (broadcastInDim S8x2048x1x16 ![0, 1, 3] bcast_S8x2048x16_S8x2048x1x16_0_1_3 S)))) (addf (mulf (extractStridedSlice S8x2048x8x16 ![0, 0, 0, 64] (shapeCast _ q shapeCasts_S8x2048x768_S8x2048x8x96) slices_S8x2048x8x96_S8x2048x8x16_0_0_0_64) (broadcastInDim S8x2048x8x16 ![0, 1, 2, 3] bcast_S8x2048x1x16_S8x2048x8x16_0_1_2_3 (broadcastInDim S8x2048x1x16 ![0, 1, 3] bcast_S8x2048x16_S8x2048x1x16_0_1_3 S))) (mulf (extractStridedSlice S8x2048x8x16 ![0, 0, 0, 80] (shapeCast _ q shapeCasts_S8x2048x768_S8x2048x8x96) slices_S8x2048x8x96_S8x2048x8x16_0_0_0_80) (broadcastInDim S8x2048x8x16 ![0, 1, 2, 3] bcast_S8x2048x1x16_S8x2048x8x16_0_1_2_3 (broadcastInDim S8x2048x1x16 ![0, 1, 3] bcast_S8x2048x16_S8x2048x1x16_0_1_3 C))))

/-- The turned lanes all heads' keys share. -/
def turnK (p : FVec Ideal S8x2048x4000 .f32) (C S : FVec Ideal S8x2048x16 .f32) : FVec Ideal S8x2048x32 .f32 :=
  (fun a b => concatenate S8x2048x32 2 [⟨S8x2048x16, a⟩, ⟨S8x2048x16, b⟩] concatenates_S8x2048x16_S8x2048x16_S8x2048x32_d2) (subf (mulf (extractStridedSlice S8x2048x16 ![0, 0, 0] (extractStridedSlice S8x2048x32 ![0, 0, 384] p slices_S8x2048x4000_S8x2048x32_0_0_384) slices_S8x2048x32_S8x2048x16_0_0_0) C) (mulf (extractStridedSlice S8x2048x16 ![0, 0, 16] (extractStridedSlice S8x2048x32 ![0, 0, 384] p slices_S8x2048x4000_S8x2048x32_0_0_384) slices_S8x2048x32_S8x2048x16_0_0_16) S)) (addf (mulf (extractStridedSlice S8x2048x16 ![0, 0, 0] (extractStridedSlice S8x2048x32 ![0, 0, 384] p slices_S8x2048x4000_S8x2048x32_0_0_384) slices_S8x2048x32_S8x2048x16_0_0_0) S) (mulf (extractStridedSlice S8x2048x16 ![0, 0, 16] (extractStridedSlice S8x2048x32 ![0, 0, 384] p slices_S8x2048x4000_S8x2048x32_0_0_384) slices_S8x2048x32_S8x2048x16_0_0_16) C))

/-- The queries, scaled, 128 lanes a head. -/
def outQ (q : FVec Ideal S8x2048x768 .f32) (R : FVec Ideal S8x2048x8x32 .f32) : FVec Ideal S16384x1024 .bf16 :=
  truncf .bf16 (shapeCast _ ((fun a b => concatenate S8x2048x8x128 3 [⟨S8x2048x8x96, a⟩, ⟨S8x2048x8x32, b⟩] concatenates_S8x2048x8x96_S8x2048x8x32_S8x2048x8x128_d3) (mulf ((fun a b => concatenate S8x2048x8x96 3 [⟨S8x2048x8x64, a⟩, ⟨S8x2048x8x32, b⟩] concatenates_S8x2048x8x64_S8x2048x8x32_S8x2048x8x96_d3) (extractStridedSlice S8x2048x8x64 ![0, 0, 0, 0] (shapeCast _ q shapeCasts_S8x2048x768_S8x2048x8x96) slices_S8x2048x8x96_S8x2048x8x64_0_0_0_0) R) (broadcastInDim S8x2048x8x96 ![] bcast_S_S8x2048x8x96 (Host.divf ((constant S_ .f32 0x3F800000#32)) (mulf (Host.log ((constant S_ .f32 0x40000000#32))) (Host.sqrt ((constant S_ .f32 0x42C00000#32))))))) (broadcastInDim S8x2048x8x32 ![] bcast_S_S8x2048x8x32 ((constant S_ .f32 0x00000000#32)))) shapeCasts_S8x2048x8x128_S16384x1024) bitsLt_bf16_f32

/-- The keys, 128 lanes a head. -/
def outK (k : FVec Ideal S8x2048x1024 .f32) (R : FVec Ideal S8x2048x32 .f32) : FVec Ideal S16384x1024 .bf16 :=
  truncf .bf16 (shapeCast _ (concatenate S8x2048x8x128 3 [⟨S8x2048x8x64, (extractStridedSlice S8x2048x8x64 ![0, 0, 0, 0] (shapeCast _ k shapeCasts_S8x2048x1024_S8x2048x8x128) slices_S8x2048x8x128_S8x2048x8x64_0_0_0_0)⟩, ⟨S8x2048x8x32, (broadcastInDim S8x2048x8x32 ![0, 1, 2, 3] bcast_S8x2048x1x32_S8x2048x8x32_0_1_2_3 (broadcastInDim S8x2048x1x32 ![0, 1, 3] bcast_S8x2048x32_S8x2048x1x32_0_1_3 R))⟩, ⟨S8x2048x8x32, (broadcastInDim S8x2048x8x32 ![] bcast_S_S8x2048x8x32 ((constant S_ .f32 0x00000000#32)))⟩] concatenates_S8x2048x8x64_S8x2048x8x32_S8x2048x8x32_S8x2048x8x128_d3) shapeCasts_S8x2048x8x128_S16384x1024) bitsLt_bf16_f32

/-- The values, 128 lanes a head. -/
def outV (k : FVec Ideal S8x2048x1024 .f32) : FVec Ideal S16384x1024 .bf16 :=
  truncf .bf16 (shapeCast _ (concatenate S8x2048x8x128 3 [⟨S8x2048x8x64, (extractStridedSlice S8x2048x8x64 ![0, 0, 0, 64] (shapeCast _ k shapeCasts_S8x2048x1024_S8x2048x8x128) slices_S8x2048x8x128_S8x2048x8x64_0_0_0_64)⟩, ⟨S8x2048x8x1, (broadcastInDim S8x2048x8x1 ![] bcast_S_S8x2048x8x1 ((constant S_ .f32 0x3F800000#32)))⟩, ⟨S8x2048x8x63, (broadcastInDim S8x2048x8x63 ![] bcast_S_S8x2048x8x63 ((constant S_ .f32 0x00000000#32)))⟩] concatenates_S8x2048x8x64_S8x2048x8x1_S8x2048x8x63_S8x2048x8x128_d3) shapeCasts_S8x2048x8x128_S16384x1024) bitsLt_bf16_f32

section
variable (m : (ℓ : Loc nD τ sig) → Buf (Elt Ideal) ℓ) (c : Dev nD)

/-- The reference's angles, from its arguments. -/
abbrev angOf : FVec Ideal S8x2048x16 .f32 := ang (m ((c.tc : Thread nD τ).loc main_arg1))
/-- The reference's queries, from its arguments. -/
abbrev querOf : FVec Ideal S8x2048x768 .f32 :=
  quer (projOf m c) (m ((c.tc : Thread nD τ).loc main_arg5)) (m ((c.tc : Thread nD τ).loc main_arg6))
/-- The reference's keys and values, from its arguments. -/
abbrev kvalOf : FVec Ideal S8x2048x1024 .f32 :=
  kval (projOf m c) (m ((c.tc : Thread nD τ).loc main_arg7)) (m ((c.tc : Thread nD τ).loc main_arg8))

/-- The reference's result of queries, from its arguments. -/
abbrev resQ : FVec Ideal S16384x1024 .bf16 := outQ (querOf m c) (turnQ (querOf m c) (Host.cos (angOf m c)) (Host.sin (angOf m c)))
/-- The reference's result of keys, from its arguments. -/
abbrev resK : FVec Ideal S16384x1024 .bf16 := outK (kvalOf m c) (turnK (projOf m c) (Host.cos (angOf m c)) (Host.sin (angOf m c)))
/-- The reference's result of values, from its arguments. -/
abbrev resV : FVec Ideal S16384x1024 .bf16 := outV (kvalOf m c)

end

/-- An angle. -/
theorem ang_at (P : IVec S8x2048 32) (b : Fin 8) (s : Fin 2048) (j : Fin 16) :
    ang P (ix3 b s j) = FloatOps.sitofp FTy.f32 (P (ix2 b s)) * freq (ix1 j) := by
  pointwise [ang]

/-- A query. -/
theorem quer_at (p : FVec Ideal S8x2048x4000 .f32) (g : FVec Ideal S1x256 .f32) (w : FVec Ideal S256x768 .f32) (b : Fin 8)
    (s : Fin 2048) (j : Fin 768) : quer p g w (ix3 b s j) = ∑ x : Fin 256, p (ix3 b s ⟨x.val, by omega⟩)
      * Ideal.rsqrt (Ideal.div (∑ x : Fin 256, p (ix3 b s ⟨x.val, by omega⟩) * p (ix3 b s ⟨x.val, by omega⟩))
        (Ideal.ofBits FTy.f32 0x43800000#32) + Ideal.ofBits FTy.f32 0x358637BD#32) * g (ix2 0 x) * w (ix2 x j) := by
  pointwise [quer]

/-- A key or value. -/
theorem kval_at (p : FVec Ideal S8x2048x4000 .f32) (g : FVec Ideal S1x128 .f32) (w : FVec Ideal S128x1024 .f32) (b : Fin 8)
    (s : Fin 2048) (j : Fin 1024) : kval p g w (ix3 b s j) = ∑ x : Fin 128, p (ix3 b s ⟨256 + x.val, by omega⟩)
      * Ideal.rsqrt (Ideal.div (∑ x : Fin 128, p (ix3 b s ⟨256 + x.val, by omega⟩) * p (ix3 b s ⟨256 + x.val, by omega⟩))
        (Ideal.ofBits FTy.f32 0x43000000#32) + Ideal.ofBits FTy.f32 0x358637BD#32) * g (ix2 0 x) * w (ix2 x j) := by
  pointwise [kval]

/-- A turned lane of a query. -/
theorem turnQ_at (q : FVec Ideal S8x2048x768 .f32) (C S : FVec Ideal S8x2048x16 .f32) (b : Fin 8)
    (s : Fin 2048) (h : Fin 8) (j : Fin 32) : turnQ q C S (ix4 b s h j) = if e : j.val < 16 then
      q (ix3 b s ⟨h.val * 96 + (64 + j.val), by omega⟩) * C (ix3 b s ⟨j.val, e⟩)
        - q (ix3 b s ⟨h.val * 96 + (80 + j.val), by omega⟩) * S (ix3 b s ⟨j.val, e⟩)
    else q (ix3 b s ⟨h.val * 96 + (64 + (j.val - 16)), by omega⟩) * S (ix3 b s ⟨j.val - 16, by omega⟩)
      + q (ix3 b s ⟨h.val * 96 + (80 + (j.val - 16)), by omega⟩) * C (ix3 b s ⟨j.val - 16, by omega⟩) := by
  pointwise [turnQ]

/-- A turned lane of the keys. -/
theorem turnK_at (p : FVec Ideal S8x2048x4000 .f32) (C S : FVec Ideal S8x2048x16 .f32) (b : Fin 8)
    (s : Fin 2048) (j : Fin 32) : turnK p C S (ix3 b s j) = if e : j.val < 16 then
      p (ix3 b s ⟨384 + j.val, by omega⟩) * C (ix3 b s ⟨j.val, e⟩)
        - p (ix3 b s ⟨384 + (16 + j.val), by omega⟩) * S (ix3 b s ⟨j.val, e⟩)
    else p (ix3 b s ⟨384 + (j.val - 16), by omega⟩) * S (ix3 b s ⟨j.val - 16, by omega⟩)
      + p (ix3 b s ⟨384 + (16 + (j.val - 16)), by omega⟩) * C (ix3 b s ⟨j.val - 16, by omega⟩) := by
  pointwise [turnK]

/-- A lane of a query's result. -/
theorem outQ_at (q : FVec Ideal S8x2048x768 .f32) (R : FVec Ideal S8x2048x8x32 .f32) (r : Fin 16384) (j : Fin 1024) :
    outQ q R (ix2 r j) = if h : j.val % 128 < 96 then
      (if e : j.val % 128 < 64 then q (ix3 ⟨r.val / 2048, by omega⟩ ⟨r.val % 2048, by omega⟩ ⟨j.val / 128 * 96 + j.val % 128, by omega⟩)
        else R (ix4 ⟨r.val / 2048, by omega⟩ ⟨r.val % 2048, by omega⟩ ⟨j.val / 128, by omega⟩ ⟨j.val % 128 - 64, by omega⟩))
      * Ideal.div 1 (Ideal.log (Ideal.ofBits FTy.f32 0x40000000#32) * Ideal.sqrt (Ideal.ofBits FTy.f32 0x42C00000#32))
    else 0 := by
  pointwise [outQ]

/-- A lane of a key's result. -/
theorem outK_at (q : FVec Ideal S8x2048x1024 .f32) (R : FVec Ideal S8x2048x32 .f32) (r : Fin 16384) (j : Fin 1024) :
    outK q R (ix2 r j) = if h : j.val % 128 < 64 then q (ix3 ⟨r.val / 2048, by omega⟩ ⟨r.val % 2048, by omega⟩ j)
    else if h : j.val % 128 - 64 < 32 then R (ix3 ⟨r.val / 2048, by omega⟩ ⟨r.val % 2048, by omega⟩ ⟨j.val % 128 - 64, h⟩) else 0 := by
  pointwise [outK]

/-- A lane of a value's result. -/
theorem outV_at (q : FVec Ideal S8x2048x1024 .f32) (r : Fin 16384) (j : Fin 1024) :
    outV q (ix2 r j) = if h : j.val % 128 < 64 then
      q (ix3 ⟨r.val / 2048, by omega⟩ ⟨r.val % 2048, by omega⟩ ⟨j.val / 128 * 128 + (64 + j.val % 128), by omega⟩)
    else if j.val % 128 - 64 < 1 then 1 else 0 := by
  pointwise [outV]
  rfl

end Cert.In.Ref

namespace Cert.In

open Idealize.ShloMosaic Idealize.ShloMosaic.TcCoe Idealize.SL.Sem Finset Cert.InProjRefIdeal Cert.InProjRefIdeal.Gen

/-! One position's row of each result, as a function of that row of the projection and of the position's angles. -/

section

variable (p : ℕ → EReal) (a : ℕ → EReal)

/-- Lane `n` of the queries. -/
def que (g : FVec Ideal S1x256 .f32) (w : FVec Ideal S256x768 .f32) (n : ℕ) : EReal :=
  if h : n < 768 then ∑ x : Fin 256, p x.val * Ideal.rsqrt (Ideal.div (∑ x : Fin 256, p x.val * p x.val)
    (Ideal.ofBits FTy.f32 0x43800000#32) + Ideal.ofBits FTy.f32 0x358637BD#32) * g (ix2 0 x) * w (ix2 x ⟨n, h⟩) else 0

/-- Lane `n` of the keys and values. -/
def kva (g : FVec Ideal S1x128 .f32) (w : FVec Ideal S128x1024 .f32) (n : ℕ) : EReal :=
  if h : n < 1024 then ∑ x : Fin 128, p (256 + x.val) * Ideal.rsqrt (Ideal.div (∑ x : Fin 128, p (256 + x.val) * p (256 + x.val))
    (Ideal.ofBits FTy.f32 0x43000000#32) + Ideal.ofBits FTy.f32 0x358637BD#32) * g (ix2 0 x) * w (ix2 x ⟨n, h⟩) else 0

/-- Lane `l` of 64 … 95 turned by the angles. -/
def turned (A : ℕ → EReal) (l : ℕ) : EReal :=
  if l < 80 then A l * Ideal.cos (a (l - 64)) - A (l + 16) * Ideal.sin (a (l - 64))
  else A (l - 16) * Ideal.sin (a (l - 80)) + A l * Ideal.cos (a (l - 80))

/-- The scale of the queries, as the reference writes it. -/
def sc : EReal := Ideal.div 1 (Ideal.log (Ideal.ofBits FTy.f32 0x40000000#32) * Ideal.sqrt (Ideal.ofBits FTy.f32 0x42C00000#32))

/-- Lane `l` of head `h` of the queries' result. -/
def rowQ (g : FVec Ideal S1x256 .f32) (w : FVec Ideal S256x768 .f32) (h l : ℕ) : EReal :=
  if l < 96 then (if l < 64 then que p g w (h * 96 + l) else turned a (fun n => que p g w (h * 96 + n)) l) * sc else 0

/-- Lane `l` of head `h` of the keys' result. -/
def rowK (g : FVec Ideal S1x128 .f32) (w : FVec Ideal S128x1024 .f32) (h l : ℕ) : EReal :=
  if l < 64 then kva p g w (h * 128 + l) else if l < 96 then turned a (fun n => p (320 + n)) l else 0

/-- Lane `l` of head `h` of the values' result. -/
def rowV (g : FVec Ideal S1x128 .f32) (w : FVec Ideal S128x1024 .f32) (h l : ℕ) : EReal :=
  if l < 64 then kva p g w (h * 128 + (64 + l)) else if l = 64 then 1 else 0

variable (pr : FVec Ideal S8x2048x4000 .f32) (P : IVec S8x2048 32) (b : Fin 8) (s : Fin 2048) (r : Fin 16384)
  (hr : r.val = b.val * 2048 + s.val)
  (hp : ∀ j : Fin 4000, pr (ix3 b s j) = p j.val) (ha : ∀ j : Fin 16, Ref.ang P (ix3 b s j) = a j.val)

include hp

/-- The reference's queries at a position, before the turn. -/
theorem ref_que (g : FVec Ideal S1x256 .f32) (w : FVec Ideal S256x768 .f32) (j : Fin 768) :
    Ref.quer pr g w (ix3 b s j) = que p g w j.val := by
  rw [Ref.quer_at, que, dif_pos j.isLt]
  simp only [hp, Fin.eta]

/-- The reference's keys and values at a position. -/
theorem ref_kva (g : FVec Ideal S1x128 .f32) (w : FVec Ideal S128x1024 .f32) (j : Fin 1024) :
    Ref.kval pr g w (ix3 b s j) = kva p g w j.val := by
  rw [Ref.kval_at, kva, dif_pos j.isLt]
  simp only [hp, Fin.eta]

include hr

/-- The reference's values at a position. -/
theorem ref_v (g : FVec Ideal S1x128 .f32) (w : FVec Ideal S128x1024 .f32) (j : Fin 1024) :
    Ref.outV (Ref.kval pr g w) (ix2 r j) = rowV p g w (j.val / 128) (j.val % 128) := by
  obtain ⟨e1, e2⟩ : r.val / 2048 = b.val ∧ r.val % 2048 = s.val := by omega
  rw [Ref.outV_at, rowV]
  simp only [e1, e2, Fin.eta, ref_kva p pr b s hp]
  split_ifs <;> first | rfl | omega

include ha

/-- The reference's queries at a position. -/
theorem ref_q (g : FVec Ideal S1x256 .f32) (w : FVec Ideal S256x768 .f32) (j : Fin 1024) :
    Ref.outQ (Ref.quer pr g w) (Ref.turnQ (Ref.quer pr g w) (Host.cos (Ref.ang P)) (Host.sin (Ref.ang P))) (ix2 r j)
      = rowQ p a g w (j.val / 128) (j.val % 128) := by
  obtain ⟨e1, e2⟩ : r.val / 2048 = b.val ∧ r.val % 2048 = s.val := by omega
  have hc : ∀ j : Fin 16, Host.cos (Ref.ang P) (ix3 b s j) = Ideal.cos (a j.val) := fun j => congrArg Ideal.cos (ha j)
  have hs : ∀ j : Fin 16, Host.sin (Ref.ang P) (ix3 b s j) = Ideal.sin (a j.val) := fun j => congrArg Ideal.sin (ha j)
  rw [Ref.outQ_at, rowQ]
  simp only [e1, e2, Fin.eta, Ref.turnQ_at, ref_que p pr b s hp, hc, hs]
  unfold turned
  by_cases h1 : j.val % 128 < 96
  · rw [dif_pos h1, if_pos h1]
    by_cases h2 : j.val % 128 < 64
    · rw [dif_pos h2, if_pos h2]
      rfl
    · rw [dif_neg h2, if_neg h2]
      by_cases h3 : j.val % 128 < 80
      · rw [dif_pos (by omega), if_pos h3]
        rw [show 64 + (j.val % 128 - 64) = j.val % 128 by omega, show 80 + (j.val % 128 - 64) = j.val % 128 + 16 by omega]
        rfl
      · rw [dif_neg (by omega), if_neg h3]
        rw [show 64 + (j.val % 128 - 64 - 16) = j.val % 128 - 16 by omega, show 80 + (j.val % 128 - 64 - 16) = j.val % 128 by omega,
          show j.val % 128 - 64 - 16 = j.val % 128 - 80 by omega]
        rfl
  · rw [dif_neg h1, if_neg h1]

/-- The reference's keys at a position. -/
theorem ref_k (g : FVec Ideal S1x128 .f32) (w : FVec Ideal S128x1024 .f32) (j : Fin 1024) :
    Ref.outK (Ref.kval pr g w) (Ref.turnK pr (Host.cos (Ref.ang P)) (Host.sin (Ref.ang P))) (ix2 r j)
      = rowK p a g w (j.val / 128) (j.val % 128) := by
  obtain ⟨e1, e2⟩ : r.val / 2048 = b.val ∧ r.val % 2048 = s.val := by omega
  have hc : ∀ j : Fin 16, Host.cos (Ref.ang P) (ix3 b s j) = Ideal.cos (a j.val) := fun j => congrArg Ideal.cos (ha j)
  have hs : ∀ j : Fin 16, Host.sin (Ref.ang P) (ix3 b s j) = Ideal.sin (a j.val) := fun j => congrArg Ideal.sin (ha j)
  rw [Ref.outK_at, rowK]
  simp only [e1, e2, Fin.eta, Ref.turnK_at, ref_kva p pr b s hp, hp, hc, hs]
  unfold turned
  by_cases h2 : j.val % 128 < 64
  · rw [dif_pos h2, if_pos h2, show j.val / 128 * 128 + j.val % 128 = j.val by omega]
  · rw [dif_neg h2, if_neg h2]
    by_cases h1 : j.val % 128 < 96
    · rw [dif_pos (by omega), if_pos h1]
      by_cases h3 : j.val % 128 < 80
      · rw [dif_pos (by omega), if_pos h3]
        rw [show 384 + (j.val % 128 - 64) = 320 + j.val % 128 by omega, show 384 + (16 + (j.val % 128 - 64)) = 320 + (j.val % 128 + 16) by omega]
      · rw [dif_neg (by omega), if_neg h3]
        rw [show 384 + (j.val % 128 - 64 - 16) = 320 + (j.val % 128 - 16) by omega, show 384 + (16 + (j.val % 128 - 64 - 16)) = 320 + j.val % 128 by omega,
          show j.val % 128 - 64 - 16 = j.val % 128 - 80 by omega]
    · rw [dif_neg (by omega), if_neg h1]

end

end Cert.In
-- ==== Proof.InLowBody.lean ====
module

public import proofs.«01_k».proof.Proof.Gen.InProjIdeal.Skeleton
public import proofs.«01_k».proof.Proof.InLowRef
public import proofs.«01_k».proof.Proof.Scale
public import Idealize.ShloMosaic.Lib.Pipeline.ValueKit
public import Idealize.ShloMosaic.Lib.Pointwise

@[expose] public section

set_option maxRecDepth 16384

/-! The arithmetic of the kernel's queries, keys and values, read at an element. -/

noncomputable section

namespace Cert.In

open Cert.InProjIdeal Cert.InProjIdeal.Gen Idealize.ShloMosaic Idealize.ShloMosaic.TcCoe Idealize.SL.Sem Finset

/-- A selection by whether two numbers are equal. -/
theorem sel_row (r n : ℕ) (hr : r < 2 ^ 32) (hn : n < 2 ^ 32) (x y : EReal) :
    Scalar.select (IntOp.cmpi .eq (BitVec.ofNat 32 r) (BitVec.ofNat 32 n)) x y = if r = n then x else y := by
  have h : (BitVec.ofNat 32 r == BitVec.ofNat 32 n) = decide (r = n) := by
    rw [Bool.eq_iff_iff]
    simp only [beq_iff_eq, decide_eq_true_eq]
    refine ⟨fun h => ?_, fun h => h ▸ rfl⟩
    have := congrArg BitVec.toNat h
    simpa only [BitVec.toNat_ofNat, Nat.mod_eq_of_lt hr, Nat.mod_eq_of_lt hn] using this
  by_cases hab : r = n <;> simp [Scalar.select, IntOp.cmpi, h, hab]

/-- A selection by whether a lane is before another. -/
theorem sel_slt (a b : ℕ) (ha : a < 2 ^ 31) (hb : b < 2 ^ 31) (x y : EReal) :
    Scalar.select (IntOp.cmpi .slt (BitVec.ofNat 32 a) (BitVec.ofNat 32 b)) x y = if a < b then x else y := by
  have h : (BitVec.ofNat 32 a).slt (BitVec.ofNat 32 b) = decide (a < b) := by
    simp only [BitVec.slt, BitVec.toInt_eq_toNat_cond, BitVec.toNat_ofNat]
    rw [Nat.mod_eq_of_lt (by omega), Nat.mod_eq_of_lt (by omega), if_pos (by omega), if_pos (by omega)]
    simp
  by_cases hab : a < b <;> simp [Scalar.select, IntOp.cmpi, h, hab]

/-- The numbers of the lanes. -/
abbrev lane : IVec S1024x128 32 := iota .tc S1024x128 32 [1] iota_S1024x128_d1_w32

/-- Whether a lane is one the angles turn. -/
theorem turn_lane (r : Fin 1024) (l : Fin 128) (x y : EReal) :
    Scalar.select (k0_pay3 (ix2 r l)) x y = if 64 ≤ l.val ∧ l.val < 96 then x else y := by
  have e : k0_pay3 (ix2 r l) = if 64 ≤ l.val ∧ l.val < 96 then 1#1 else 0#1 := by
    pointwise [k0_pay3]
    revert l
    decide +kernel
  rw [e]
  split_ifs <;> rfl

/-- Whether a lane is before the second half of those the angles turn. -/
theorem half_lane (r : Fin 1024) (l : Fin 128) (x y : EReal) :
    Scalar.select (k0_pay14 lane (ix2 r l)) x y = if l.val < 80 then x else y := by
  pointwise [k0_pay14]
  rw [sel_slt _ _ (by omega) (by omega)]

/-- The angles of a tile. -/
abbrev angT (x1 : Vec Ideal S1x8x128 .i32) (x2 : Vec Ideal S1x128 .f32) : FVec Ideal S1024x128 .f32 :=
  k0_pay13 lane (k0_pay5 x1) (k0_pay6 x1) (k0_pay7 x1) (k0_pay8 x1) (k0_pay9 x1) (k0_pay10 x1) (k0_pay11 x1) (k0_pay12 x1) x2
/-- The cosines of a tile. -/
abbrev cosT (x1 : Vec Ideal S1x8x128 .i32) (x2 : Vec Ideal S1x128 .f32) : FVec Ideal S1024x128 .f32 :=
  k0_pay15 lane k0_pay3 (k0_pay5 x1) (k0_pay6 x1) (k0_pay7 x1) (k0_pay8 x1) (k0_pay9 x1) (k0_pay10 x1) (k0_pay11 x1) (k0_pay12 x1) x2
/-- The signed sines of a tile. -/
abbrev sinT (x1 : Vec Ideal S1x8x128 .i32) (x2 : Vec Ideal S1x128 .f32) : FVec Ideal S1024x128 .f32 :=
  k0_pay16 lane k0_pay3 (k0_pay5 x1) (k0_pay6 x1) (k0_pay7 x1) (k0_pay8 x1) (k0_pay9 x1) (k0_pay10 x1) (k0_pay11 x1) (k0_pay12 x1) x2
/-- The queries' cosines of a tile: the scale alone in the lanes that are not turned. -/
abbrev qcT (x1 : Vec Ideal S1x8x128 .i32) (x2 : Vec Ideal S1x128 .f32) : FVec Ideal S1024x128 .f32 :=
  k0_pay23 (k0_pay21 lane)
    (k0_pay22 lane k0_pay3 (k0_pay5 x1) (k0_pay6 x1) (k0_pay7 x1) (k0_pay8 x1) (k0_pay9 x1) (k0_pay10 x1) (k0_pay11 x1) (k0_pay12 x1) x2)
    (Named.named κ "scale" 0x3E16C740#32)

/-- A row's number within its 128 rows. -/
theorem low_bits : ∀ r : Fin 1024, IntOp.andi (BitVec.ofNat 32 r.val) 127#32 = BitVec.ofNat 32 (r.val % 128) := by
  decide +kernel

/-- An angle: the row's position times the lane's frequency. -/
theorem ang_at (x1 : Vec Ideal S1x8x128 .i32) (x2 : Vec Ideal S1x128 .f32) (r : Fin 1024) (l : Fin 128) :
    angT x1 x2 (ix2 r l) = FloatOps.sitofp FTy.f32 (x1 (ix3 0 ⟨r.val / 128, by omega⟩ ⟨r.val % 128, by omega⟩)) * x2 (ix2 0 l) := by
  pointwise [k0_pay13, k0_pay5, k0_pay6, k0_pay7, k0_pay8, k0_pay9, k0_pay10, k0_pay11, k0_pay12, k0_pay4]
  rw [low_bits]
  refine congrArg (· * _) ((Finset.sum_eq_single (⟨r.val % 128, by omega⟩ : Fin 128) ?_ ?_).trans ?_)
  · intro x _ hx
    rw [sel_row _ _ (by omega) (by omega), if_neg fun h => hx (Fin.ext h)]
  · intro h
    exact absurd (Finset.mem_univ _) h
  · rw [sel_row _ _ (by simp only; omega) (by omega), if_pos rfl]
    have key : ∀ k : Fin 8, k.val = r.val / 128 → (FloatOps.sitofp FTy.f32 (x1 (ix3 0 k ⟨r.val % 128, by omega⟩)) : Ideal .f32)
        = FloatOps.sitofp FTy.f32 (x1 (ix3 0 ⟨r.val / 128, by omega⟩ ⟨r.val % 128, by omega⟩)) := by
      intro k hk
      rw [show k = ⟨r.val / 128, by omega⟩ from Fin.ext hk]
    split_ifs
    · exact key 0 (by show 0 = _; omega)
    · exact key 1 (by show 1 = _; omega)
    · exact key 2 (by show 2 = _; omega)
    · exact key 3 (by show 3 = _; omega)
    · exact key 4 (by show 4 = _; omega)
    · exact key 5 (by show 5 = _; omega)
    · exact key 6 (by show 6 = _; omega)
    · exact key 7 (by show 7 = _; omega)

/-- A cosine, zero in the lanes that are not turned. -/
theorem cos_at (x1 : Vec Ideal S1x8x128 .i32) (x2 : Vec Ideal S1x128 .f32) (r : Fin 1024) (l : Fin 128) :
    cosT x1 x2 (ix2 r l) = if 64 ≤ l.val ∧ l.val < 96 then Ideal.cos (angT x1 x2 (ix2 r l)) else 0 := by
  pointwise [k0_pay15]
  rw [turn_lane]

/-- A signed sine, zero in the lanes that are not turned. -/
theorem sin_at (x1 : Vec Ideal S1x8x128 .i32) (x2 : Vec Ideal S1x128 .f32) (r : Fin 1024) (l : Fin 128) :
    sinT x1 x2 (ix2 r l) = if 64 ≤ l.val ∧ l.val < 96 then
      (if l.val < 80 then -Ideal.sin (angT x1 x2 (ix2 r l)) else Ideal.sin (angT x1 x2 (ix2 r l))) else 0 := by
  pointwise [k0_pay16, k0_pay14]
  rw [turn_lane, sel_slt _ _ (by omega) (by omega)]
  split_ifs <;> simp

/-- The scale of the queries is the named constant. -/
theorem scale_named : (Named.named (F := Ideal) κ "scale" (φ := .f32) 0x3E16C740#32) = sc :=
  Eq.trans (b := (((Real.log 2 * Real.sqrt 96)⁻¹ : ℝ) : EReal)) rfl Cert.Attn.cst_eq.symm

/-- A cosine of the queries. -/
theorem qc_at (x1 : Vec Ideal S1x8x128 .i32) (x2 : Vec Ideal S1x128 .f32) (r : Fin 1024) (l : Fin 128) :
    qcT x1 x2 (ix2 r l) = if l.val < 64 then sc else cosT x1 x2 (ix2 r l) * sc := by
  pointwise [k0_pay23, k0_pay22, k0_pay21]
  rw [sel_slt _ _ (by omega) (by omega), scale_named]

/-- A signed sine of the queries. -/
theorem qs_at (v : FVec Ideal S1024x128 .f32) (r : Fin 1024) (l : Fin 128) :
    k0_pay24 v (ix2 r l) = v (ix2 r l) * sc := by
  pointwise [k0_pay24]
  rw [scale_named]

/-- Multiplying a sum by the scale. -/
theorem add_mul_sc (x y : EReal) : (x + y) * sc = x * sc + y * sc := by
  rw [show sc = (((Real.log 2 * Real.sqrt 96)⁻¹ : ℝ) : EReal) from Cert.Attn.cst_eq]
  refine EReal.right_distrib_of_nonneg_of_ne_top (EReal.coe_nonneg.2 ?_) (EReal.coe_ne_top _) x y
  have := Real.log_nonneg (show (1 : ℝ) ≤ 2 by norm_num)
  positivity

section

variable (x1 : Vec Ideal S1x8x128 .i32) (x2 : Vec Ideal S1x128 .f32) (r : Fin 1024) (a : ℕ → EReal)
  (h1 : ∀ l : Fin 128, 64 ≤ l.val → l.val < 80 → angT x1 x2 (ix2 r l) = a (l.val - 64))
  (h2 : ∀ l : Fin 128, 80 ≤ l.val → l.val < 96 → angT x1 x2 (ix2 r l) = a (l.val - 80))

include h1 h2

/-- A lane turned by the tile's cosines and signed sines is the reference's turned lane. -/
theorem turn_at (A : ℕ → EReal) (l : Fin 128) (hl : 64 ≤ l.val ∧ l.val < 96) :
    A l.val * cosT x1 x2 (ix2 r l) + (if l.val < 80 then A (l.val + 16) else A (l.val - 16)) * sinT x1 x2 (ix2 r l)
      = turned a A l.val := by
  rw [cos_at, sin_at, if_pos hl, if_pos hl, turned]
  by_cases h : l.val < 80
  · rw [if_pos h, if_pos h, if_pos h, h1 l hl.1 h, mul_neg, ← sub_eq_add_neg]
  · rw [if_neg h, if_neg h, if_neg h, h2 l (by omega) hl.2, add_comm]

/-- A lane of the shared part of the keys. -/
theorem krot_at (v15 : FVec Ideal S1024x1024 .bf16) (w1 : Vec Ideal S1024x512 .bf16) (p : ℕ → EReal)
    (hp : ∀ j : Fin 512, 384 ≤ j.val → k0_pay17 v15 w1 (ix2 r j) = if 448 ≤ j.val ∧ j.val < 480 then p (j.val - 64) else 0) (l : Fin 128) :
    k0_pay20 v15 lane k0_pay3 (k0_pay5 x1) (k0_pay6 x1) (k0_pay7 x1) (k0_pay8 x1) (k0_pay9 x1) (k0_pay10 x1) (k0_pay11 x1) (k0_pay12 x1) x2 w1
        (ix2 r l) = if 64 ≤ l.val ∧ l.val < 96 then turned a (fun n => p (320 + n)) l.val else 0 := by
  pointwise [k0_pay20, k0_pay14]
  rw [sel_slt _ _ (by omega) (by omega)]
  by_cases h : 64 ≤ l.val ∧ l.val < 96
  · rw [if_pos h, ← turn_at x1 x2 r a h1 h2 _ l h]
    by_cases h' : l.val < 80
    · rw [if_pos h', if_pos h', hp _ (by simp only; omega), hp _ (by simp only; omega), if_pos (by simp only; omega), if_pos (by simp only; omega)]
      simp only [show 384 + l.val - 64 = 320 + l.val by omega, show 384 + (l.val + 128 - 112) % 128 - 64 = 320 + (l.val + 16) by omega]
    · rw [if_neg h', if_neg h', hp _ (by simp only; omega), hp _ (by simp only; omega), if_pos (by simp only; omega), if_pos (by simp only; omega)]
      simp only [show 384 + l.val - 64 = 320 + l.val by omega, show 384 + (l.val + 128 - 16) % 128 - 64 = 320 + (l.val - 16) by omega]
  · have hc : cosT x1 x2 (ix2 r l) = 0 := by rw [cos_at, if_neg h]
    have hs : sinT x1 x2 (ix2 r l) = 0 := by rw [sin_at, if_neg h]
    have e : ∀ x y : EReal, x * cosT x1 x2 (ix2 r l) + y * sinT x1 x2 (ix2 r l) = 0 := by
      intro x y
      rw [hc, hs, mul_zero, mul_zero, add_zero]
    rw [if_neg h]
    exact e _ _

end

/-- A head's lanes of the queries from 128 columns of them. -/
theorem headQ_at (o : ℕ) (lt : IVec S1024x128 1) (qc qs : FVec Ideal S1024x128 .f32) (qq : FVec Ideal S1024x1024 .f32)
    (hs : S1024x1024.Slices ![0, o] S1024x128) (ho : o + 128 ≤ 1024) (r : Fin 1024) (l : Fin 128) :
    truncf .bf16 (addf (mulf (extractStridedSlice S1024x128 ![0, o] qq hs) qc)
      (mulf (select lt (dynamicRotate 1 112#32 none (extractStridedSlice S1024x128 ![0, o] qq hs) rotates_S1024x128_d1)
        (dynamicRotate 1 16#32 none (extractStridedSlice S1024x128 ![0, o] qq hs) rotates_S1024x128_d1)) qs)) bitsLt_bf16_f32 (ix2 r l)
    = qq (ix2 r ⟨o + l.val, by omega⟩) * qc (ix2 r l)
      + Scalar.select (lt (ix2 r l)) (qq (ix2 r ⟨o + (l.val + 128 - 112) % 128, by omega⟩))
          (qq (ix2 r ⟨o + (l.val + 128 - 16) % 128, by omega⟩)) * qs (ix2 r l) := by
  pointwise []

/-- A head's lanes of the keys or values from 128 columns of them. -/
theorem headK_at (o : ℕ) (k : FVec Ideal S1024x128 .f32) (kk : FVec Ideal S1024x1024 .f32)
    (hs : S1024x1024.Slices ![0, o] S1024x128) (ho : o + 128 ≤ 1024) (r : Fin 1024) (l : Fin 128) :
    truncf .bf16 (addf (extractStridedSlice S1024x128 ![0, o] kk hs) k) bitsLt_bf16_f32 (ix2 r l)
    = kk (ix2 r ⟨o + l.val, by omega⟩) + k (ix2 r l) := by
  pointwise []

/-- A head's lanes of the queries are the reference's. -/
theorem headQ_row (h : ℕ) (hh : h < 8) (x1 : Vec Ideal S1x8x128 .i32) (x2 : Vec Ideal S1x128 .f32) (r : Fin 1024) (p a : ℕ → EReal)
    (h1 : ∀ l : Fin 128, 64 ≤ l.val → l.val < 80 → angT x1 x2 (ix2 r l) = a (l.val - 64))
    (h2 : ∀ l : Fin 128, 80 ≤ l.val → l.val < 96 → angT x1 x2 (ix2 r l) = a (l.val - 80))
    (g : FVec Ideal S1x256 .f32) (w : FVec Ideal S256x768 .f32) (qq : FVec Ideal S1024x1024 .f32)
    (hq : ∀ (c : Fin 1024) (l : ℕ), c.val = 128 * h + l → l < 128 → qq (ix2 r c) = if l < 96 then que p g w (h * 96 + l) else 0)
    (l : Fin 128) :
    qq (ix2 r ⟨128 * h + l.val, by omega⟩) * qcT x1 x2 (ix2 r l)
      + Scalar.select (k0_pay14 lane (ix2 r l)) (qq (ix2 r ⟨128 * h + (l.val + 128 - 112) % 128, by omega⟩))
          (qq (ix2 r ⟨128 * h + (l.val + 128 - 16) % 128, by omega⟩)) * k0_pay24 (sinT x1 x2) (ix2 r l)
    = rowQ p a g w h l.val := by
  have hl := l.isLt
  rw [qc_at, qs_at, hq ⟨128 * h + l.val, by omega⟩ l.val rfl l.isLt, rowQ]
  by_cases h3 : 64 ≤ l.val ∧ l.val < 96
  · rw [if_pos h3.2, if_neg (by omega), if_pos h3.2, if_neg (by omega), ← turn_at x1 x2 r a h1 h2 _ l h3, ← mul_assoc, ← mul_assoc, ← add_mul_sc]
    refine congrArg (fun z : EReal => (que p g w (h * 96 + l.val) * cosT x1 x2 (ix2 r l) + z * sinT x1 x2 (ix2 r l)) * sc) ?_
    rw [half_lane]
    by_cases h4 : l.val < 80
    · rw [if_pos h4, if_pos h4, hq _ (l.val + 16) (by simp only; omega) (by omega), if_pos (by omega)]
    · rw [if_neg h4, if_neg h4, hq _ (l.val - 16) (by simp only; omega) (by omega), if_pos (by omega)]
  · have hc : cosT x1 x2 (ix2 r l) = 0 := by rw [cos_at, if_neg h3]
    have hs : sinT x1 x2 (ix2 r l) = 0 := by rw [sin_at, if_neg h3]
    rw [hc, hs, zero_mul, mul_zero, add_zero]
    by_cases h4 : l.val < 64
    · rw [if_pos (by omega), if_pos h4, if_pos (by omega), if_pos h4]
    · rw [if_neg (by omega), if_neg (by omega), if_neg (by omega), zero_mul]

end Cert.In
-- ==== Proof.InPoint.lean ====
module

public import proofs.«01_k».proof.Proof.InHost
public import proofs.«01_k».proof.Proof.InLowBody

@[expose] public section

set_option maxRecDepth 16384

/-! Both sides of the input projection, element by element, as the same expression of the arguments. -/

noncomputable section

namespace Cert.In

open Cert.InProjIdeal Cert.InProjIdeal.Gen Idealize.ShloMosaic Idealize.ShloMosaic.TcCoe Idealize.SL.Sem Finset

section

variable (X : FVec Ideal S8x2048x1024 .f32) (g : FVec Ideal S1x1024 .f32) (W : FVec Ideal S1024x4000 .f32)
  (B : FVec Ideal S1x2048 .f32) (C : FVec Ideal S3x512 .f32) (WB : FVec Ideal S512x1024 .f32)

/-- A normalised activation. -/
def nrm (b : Fin 8) (s : Fin 2048) (k : Fin 1024) : EReal :=
  X (ix3 b s k) * Ideal.rsqrt (Ideal.div (∑ x : Fin 1024, X (ix3 b s x) * X (ix3 b s x)) (Ideal.ofBits FTy.f32 0x44800000#32)
    + Ideal.ofBits FTy.f32 0x358637BD#32) * g (ix2 0 k)

/-- A column of the projection. -/
def prj (b : Fin 8) (s : Fin 2048) (j : Fin 4000) : EReal := ∑ k : Fin 1024, nrm X g b s k * W (ix2 k j)

/-- What the convolution runs over. -/
def cv (b : Fin 8) (s : Fin 2048) (j : Fin 512) : EReal :=
  prj X g W b s ⟨928 + j.val, by omega⟩ * prj X g W b s ⟨1440 + j.val, by omega⟩

/-- The same `d` positions before, zero before the sequence's start. -/
def lag (d : ℕ) (b : Fin 8) (s : Fin 2048) (j : Fin 512) : EReal :=
  if d ≤ s.val then cv X g W b ⟨s.val - d, by omega⟩ j else 0

/-- A gate. -/
def gt (b : Fin 8) (s : Fin 2048) (j : Fin 2048) : EReal :=
  Ideal.logistic (prj X g W b s ⟨1952 + j.val, by omega⟩ + B (ix2 0 j))

/-- An element of the second result. -/
def mix (b : Fin 8) (s : Fin 2048) (j : Fin 1024) : EReal :=
  gt X g W B b s ⟨1024 + j.val, by omega⟩ * ∑ x : Fin 512, prj X g W b s ⟨416 + x.val, by omega⟩
    * (C (ix2 0 x) * lag X g W 2 b s x + C (ix2 1 x) * lag X g W 1 b s x + C (ix2 2 x) * cv X g W b s x) * WB (ix2 x j)

/-- The reference's projection. -/
theorem ref_prj (b : Fin 8) (s : Fin 2048) (j : Fin 4000) : Ref.proj (Ref.norm X g) W (ix3 b s j) = prj X g W b s j := by
  rw [Ref.proj_at]
  exact sum_congr rfl fun k _ => congrArg (· * _) (Ref.norm_at X g b s k)

/-- The reference's gates. -/
theorem ref_gt (b : Fin 8) (s : Fin 2048) (j : Fin 2048) :
    Ref.gates (Ref.proj (Ref.norm X g) W) B (ix3 b s j) = gt X g W B b s j := by
  rw [Ref.gates_at, ref_prj]
  rfl

/-- The reference's padded input of the convolution: its row `s + 2 - d` is the input `d` positions before `s`. -/
theorem ref_lag (d : ℕ) (b : Fin 8) (s : Fin 2048) (p : Fin 2050) (hp : p.val + d = s.val + 2) (j : Fin 512) :
    Ref.padded (Ref.proj (Ref.norm X g) W) (ix3 b p j) = lag X g W d b s j := by
  rw [Ref.padded_at]
  unfold lag cv
  by_cases h : d ≤ s.val
  · rw [dif_pos (by omega), if_pos h]
    simp only [ref_prj, show p.val - 2 = s.val - d by omega, ← Nat.add_assoc]
  · rw [dif_neg (by omega), if_neg h]

/-- The reference's first result. -/
theorem ref_first (b : Fin 8) (s : Fin 2048) (r : Fin 16384) (hr : r.val = b.val * 2048 + s.val) (j : Fin 1024) :
    Ref.first (Ref.gates (Ref.proj (Ref.norm X g) W) B) (ix2 r j) = gt X g W B b s ⟨j.val, by omega⟩ := by
  obtain ⟨e1, e2⟩ : r.val / 2048 = b.val ∧ r.val % 2048 = s.val := by omega
  rw [Ref.first_at, ref_gt]
  simp only [e1, e2, Fin.eta]

/-- The reference's second result. -/
theorem ref_second (b : Fin 8) (s : Fin 2048) (r : Fin 16384) (hr : r.val = b.val * 2048 + s.val) (j : Fin 1024) :
    Ref.second (Ref.gates (Ref.proj (Ref.norm X g) W) B) (Ref.proj (Ref.norm X g) W) (Ref.padded (Ref.proj (Ref.norm X g) W)) C WB (ix2 r j)
      = mix X g W B C WB b s j := by
  obtain ⟨e1, e2⟩ : r.val / 2048 = b.val ∧ r.val % 2048 = s.val := by omega
  rw [Ref.second_at]
  simp only [e1, e2, Fin.eta, ref_gt, ref_prj]
  unfold mix
  refine congrArg _ (sum_congr rfl fun x _ => ?_)
  rw [ref_lag X g W 2 b s ⟨s.val, by omega⟩ rfl, ref_lag X g W 1 b s ⟨1 + s.val, by omega⟩ (by simp only; omega),
    ref_lag X g W 0 b s ⟨2 + s.val, by omega⟩ (by simp only; omega)]
  rfl

end

section

variable (m : (ℓ : Loc nD τ sig) → Buf (Elt Ideal) ℓ) (c : Dev nD) (t : Fin cfg0.N) (b : Fin 8) (s : Fin 2048) (r : Fin 1024)
  (hr : t.val * 1024 + r.val = b.val * 2048 + s.val)

include hr

/-- A tile's normalised activations. -/
theorem t_nrm (k : Fin 1024) : k0_pay2 (F := Ideal) (iblk m c 0 t) (iblk m c 3 t) (ix2 r k) = nrm (aX m c) (aG m c) b s k := by
  pointwise [k0_pay2]
  simp only [b_x m c t b s r _ hr, b_g]
  rfl

/-- A tile's columns for the convolution. -/
theorem t_prj (j : Fin 1536) (j' : Fin 4000) (hj : j'.val = 416 + j.val) :
    k0_pay56 (F := Ideal) (k0_pay2 (iblk m c 0 t) (iblk m c 3 t)) (iblk m c 5 t) (ix2 r j) = prj (aX m c) (aG m c) (aW m c) b s j' := by
  have e : j' = ⟨416 + j.val, by omega⟩ := Fin.ext hj
  rw [e]
  pointwise [k0_pay56]
  simp only [t_nrm m c t b s r hr, b_w2]
  rfl

/-- What a tile's convolution runs over. -/
theorem t_cv (j : Fin 512) : uT (iblk m c 0 t) (iblk m c 3 t) (iblk m c 5 t) (ix2 r j) = cv (aX m c) (aG m c) (aW m c) b s j := by
  pointwise [k0_pay58]
  rw [t_prj m c t b s r hr _ ⟨928 + j.val, by omega⟩ (by simp only; omega),
    t_prj m c t b s r hr _ ⟨1440 + j.val, by omega⟩ (by simp only; omega)]
  rfl

/-- A tile's gates. -/
theorem t_gt (j : Fin 2048) : k0_pay65 (F := Ideal) (k0_pay2 (iblk m c 0 t) (iblk m c 3 t)) (iblk m c 6 t) (iblk m c 7 t) (ix2 r j)
    = gt (aX m c) (aG m c) (aW m c) (aB m c) b s j := by
  pointwise [k0_pay65]
  simp only [t_nrm m c t b s r hr, b_w3, b_b]
  rfl

/-- A tile of the first result. -/
theorem t_first (j : Fin 1024) : k0_pay66 (F := Ideal) (k0_pay2 (iblk m c 0 t) (iblk m c 3 t)) (iblk m c 6 t) (iblk m c 7 t) (ix2 r j)
    = gt (aX m c) (aG m c) (aW m c) (aB m c) b s ⟨j.val, by omega⟩ := by
  pointwise [k0_pay66]
  rw [t_gt m c t b s r hr]

end

section

variable (m : (ℓ : Loc nD τ sig) → Buf (Elt Ideal) ℓ) (c : Dev nD) (t : Fin cfg0.N)

/-- What a tile reads of the two rows before it. -/
def Carried (xs : Vec Ideal S8x512 .f32) : Prop :=
  ∀ (b : Fin 8) (s : Fin 2048), t.val * 1024 = b.val * 2048 + s.val → ∀ x : Fin 512,
    xs (ix2 7 x) = lag (aX m c) (aG m c) (aW m c) 1 b s x ∧ xs (ix2 6 x) = lag (aX m c) (aG m c) (aW m c) 2 b s x

/-- The input of the convolution, one position further before the next position. -/
theorem lag_succ (d : ℕ) (b : Fin 8) (s s' : Fin 2048) (hs : s'.val = s.val + 1) (x : Fin 512) :
    lag (aX m c) (aG m c) (aW m c) (d + 1) b s' x = lag (aX m c) (aG m c) (aW m c) d b s x := by
  unfold lag
  by_cases h : d ≤ s.val
  · rw [if_pos h, if_pos (by omega)]
    simp only [show s'.val - (d + 1) = s.val - d by omega]
  · rw [if_neg h, if_neg (by omega)]

/-- A row of the tile gives the input of the convolution `d` positions before the row `d` further down. -/
theorem t_lag (d : ℕ) (b : Fin 8) (s : Fin 2048) (r q : Fin 1024) (hr : t.val * 1024 + r.val = b.val * 2048 + s.val)
    (hq : q.val + d = r.val) (x : Fin 512) :
    uT (iblk m c 0 t) (iblk m c 3 t) (iblk m c 5 t) (ix2 q x) = lag (aX m c) (aG m c) (aW m c) d b s x := by
  have hd : d ≤ s.val := by omega
  rw [t_cv m c t b ⟨s.val - d, by omega⟩ q (by simp only; omega)]
  unfold lag
  rw [if_pos hd]

/-- A tile of the second result. -/
theorem t_second (xs : Vec Ideal S8x512 .f32) (H : Carried m c t xs) (b : Fin 8) (s : Fin 2048) (r : Fin 1024)
    (hr : t.val * 1024 + r.val = b.val * 2048 + s.val) (j : Fin 1024) :
    mixT (iblk m c 0 t) (iblk m c 3 t) (iblk m c 5 t) (iblk m c 6 t) (iblk m c 7 t) (iblk m c 13 t) (iblk m c 14 t) xs (ix2 r j)
      = mix (aX m c) (aG m c) (aW m c) (aB m c) (aC m c) (aWB m c) b s j := by
  have h1 : ∀ x : Fin 512, k0_pay60 (F := Ideal) (k0_pay2 (iblk m c 0 t) (iblk m c 3 t)) (iblk m c 5 t)
      (View.ld xs (Rect.unit ![7, 0] ![1, 512] inb_S8x512_S1x512_7_0)) (ix2 r x) = lag (aX m c) (aG m c) (aW m c) 1 b s x := by
    intro x
    pointwise [k0_pay60]
    rw [sel_row _ 0 (by omega) (by omega)]
    by_cases h : r.val = 0
    · rw [if_pos h]
      exact (H b s (by omega) x).1
    · rw [if_neg h]
      exact t_lag m c t 1 b s r ⟨(r.val + 1024 - 1) % 1024, by omega⟩ hr (by simp only; omega) x
  have h2 : ∀ x : Fin 512, Scalar.select (k0_pay61 (ix2 r x)) (k0_pay63 (F := Ideal) (View.ld xs (Rect.unit ![6, 0] ![1, 512] inb_S8x512_S1x512_6_0)) (ix2 0 x))
      (k0_pay62 (F := Ideal) (k0_pay2 (iblk m c 0 t) (iblk m c 3 t)) (iblk m c 5 t)
        (View.ld xs (Rect.unit ![7, 0] ![1, 512] inb_S8x512_S1x512_7_0)) (ix2 r x)) = lag (aX m c) (aG m c) (aW m c) 2 b s x := by
    intro x
    pointwise [k0_pay61, k0_pay62, k0_pay63]
    rw [sel_row _ 0 (by omega) (by omega), sel_row _ 1 (by omega) (by omega)]
    by_cases h : r.val = 0
    · rw [if_pos h]
      exact (H b s (by omega) x).2
    · rw [if_neg h]
      by_cases h' : r.val = 1
      · rw [if_pos h', lag_succ m c 1 b ⟨s.val - 1, by omega⟩ s (by simp only; omega)]
        exact (H b ⟨s.val - 1, by omega⟩ (by simp only; omega) x).1
      · rw [if_neg h']
        exact t_lag m c t 2 b s r ⟨(r.val + 1024 - 2) % 1024, by omega⟩ hr (by simp only; omega) x
  have h3 : ∀ x : Fin 512, k0_pay57 (F := Ideal) (k0_pay2 (iblk m c 0 t) (iblk m c 3 t)) (iblk m c 5 t) (ix2 r x)
      = prj (aX m c) (aG m c) (aW m c) b s ⟨416 + x.val, by omega⟩ := by
    intro x
    pointwise [k0_pay57]
    rw [t_prj m c t b s r hr _ ⟨416 + x.val, by omega⟩ (by simp only)]
  pointwise [k0_pay1, k0_pay67]
  simp only [h1, h2, h3, t_cv m c t b s r hr, t_gt m c t b s r hr, b_c m c t 0 _ 0 rfl, b_c m c t 1 _ 1 rfl, b_c m c t 2 _ 2 rfl, b_wb]
  rfl

/-- Before a sequence's first tile there is nothing. -/
theorem carried_zero (h : t.val % 2 = 0) : Carried m c t (k0_pay59 (F := Ideal)) := by
  intro b s hs x
  unfold lag
  rw [if_neg (by omega), if_neg (by omega)]
  constructor <;> pointwise [k0_pay59]

/-- The last rows of the tile before. -/
theorem carried_tile (t' : Fin cfg0.N) (h : t.val % 2 = 1) (ht : t'.val + 1 = t.val) :
    Carried m c t (k0_pay64 (uT (iblk m c 0 t') (iblk m c 3 t') (iblk m c 5 t'))) := by
  intro b s hs x
  have hs' : 1024 ≤ s.val := by omega
  constructor
  · pointwise [k0_pay64]
    rw [lag_succ m c 0 b ⟨s.val - 1, by omega⟩ s (by simp only; omega)]
    exact t_lag m c t' 0 b ⟨s.val - 1, by omega⟩ 1023 1023 (by show t'.val * 1024 + 1023 = b.val * 2048 + (s.val - 1); omega) rfl x
  · pointwise [k0_pay64]
    rw [lag_succ m c 1 b ⟨s.val - 1, by omega⟩ s (by simp only; omega),
      lag_succ m c 0 b ⟨s.val - 2, by omega⟩ ⟨s.val - 1, by omega⟩ (by simp only; omega)]
    exact t_lag m c t' 0 b ⟨s.val - 2, by omega⟩ 1022 1022 (by show t'.val * 1024 + 1022 = b.val * 2048 + (s.val - 2); omega) rfl x

end

end Cert.In
-- ==== Proof.InFinal.lean ====
module

public import proofs.«01_k».proof.Proof.InPoint

@[expose] public section

set_option maxRecDepth 16384

/-! The input projection's two last results are the reference's. -/

noncomputable section

namespace Cert.In

open Cert.InProjIdeal Cert.InProjIdeal.Gen Idealize.ShloMosaic Idealize.ShloMosaic.TcCoe Idealize.SL.Sem Finset

variable (m : (ℓ : Loc nD τ sig) → Buf (Elt Ideal) ℓ) (c : Dev nD)

/-- The first of the two results, of the arguments. -/
def arrF : FVec Ideal S16384x1024 .bf16 := Ref.first (Ref.gates (Ref.proj (Ref.norm (aX m c) (aG m c)) (aW m c)) (aB m c))

/-- The second of the two results, of the arguments. -/
def arrS : FVec Ideal S16384x1024 .bf16 :=
  Ref.second (Ref.gates (Ref.proj (Ref.norm (aX m c) (aG m c)) (aW m c)) (aB m c)) (Ref.proj (Ref.norm (aX m c) (aG m c)) (aW m c))
    (Ref.padded (Ref.proj (Ref.norm (aX m c) (aG m c)) (aW m c))) (aC m c) (aWB m c)

section

variable (t : Fin cfg0.N)

/-- What the first tile of a sequence hands on: its last rows. -/
theorem handed (h0 : t.val % 2 = 0) :
    (outsAt0 m c t.val t.isLt).2.2.2.2.2 = k0_pay64 (uT (iblk m c 0 t) (iblk m c 3 t) (iblk m c 5 t)) := by
  rw [outsAt0_A m c t h0]
  dsimp only
  exact soutA ..

/-- A point's element of the first result. -/
theorem point_first (r j : Fin 1024) (hr : t.val * 1024 + r.val < 16384) :
    (outsAt0 m c t.val t.isLt).2.2.2.1 (ix2 r j) = arrF m c (ix2 ⟨t.val * 1024 + r.val, hr⟩ j) := by
  refine Eq.trans ?_ (ref_first (aX m c) (aG m c) (aW m c) (aB m c) ⟨t.val / 2, by omega⟩ ⟨t.val % 2 * 1024 + r.val, by omega⟩ _ (by simp only; omega) j).symm
  refine Eq.trans ?_ (t_first m c t ⟨t.val / 2, by omega⟩ ⟨t.val % 2 * 1024 + r.val, by omega⟩ r (by simp only; omega) j)
  by_cases h0 : t.val % 2 = 0
  · rw [outsAt0_A m c t h0]
    dsimp only
    exact outA18 ..
  · rw [outsAt0_B m c t h0]
    dsimp only
    exact outB18 ..

/-- A point's element of the second result. -/
theorem point_second (r j : Fin 1024) (hr : t.val * 1024 + r.val < 16384) :
    (outsAt0 m c t.val t.isLt).2.2.2.2.1 (ix2 r j) = arrS m c (ix2 ⟨t.val * 1024 + r.val, hr⟩ j) := by
  refine Eq.trans ?_ (ref_second (aX m c) (aG m c) (aW m c) (aB m c) (aC m c) (aWB m c) ⟨t.val / 2, by omega⟩ ⟨t.val % 2 * 1024 + r.val, by omega⟩ _ (by simp only; omega) j).symm
  by_cases h0 : t.val % 2 = 0
  · refine Eq.trans ?_ (t_second m c t _ (carried_zero m c t h0) ⟨t.val / 2, by omega⟩ ⟨t.val % 2 * 1024 + r.val, by omega⟩ r (by simp only; omega) j)
    rw [outsAt0_A m c t h0]
    dsimp only
    exact outA19 ..
  · have ht : t.val < 16 := t.isLt
    have h1 : t.val - 1 < cfg0.N := lt_of_le_of_lt (Nat.sub_le _ _) t.isLt
    refine Eq.trans ?_ (t_second m c t _ (carried_tile m c t ⟨t.val - 1, h1⟩ (by omega) (by simp only; omega)) ⟨t.val / 2, by omega⟩ ⟨t.val % 2 * 1024 + r.val, by omega⟩ r (by simp only; omega) j)
    rw [outsAt0_B m c t h0, ← handed m c ⟨t.val - 1, h1⟩ (by simp only; omega)]
    dsimp only
    exact outB19 ..

end

/-- The first of the two results. -/
theorem arr_first : (dats m 0 c).arrAt 18 cfg0.N = arrF m c := by
  refine (dats m 0 c).arrAt_eq_of_covers 18 _ (by decide +kernel) fun t hf y => ?_
  blk_simp
  rw [after0_18]
  have ht : t.val < 16 := t.isLt
  have hy : (y 0).val < 1024 := (y 0).isLt
  refine (congrArg (outsAt0 m c t.val t.isLt).2.2.2.1 (eq_ix2 y)).trans ((point_first m c t (y 0) (y 1) (by omega)).trans (congrArg (arrF m c) ?_))
  blk_ext [idx18 t]

/-- The second of the two results. -/
theorem arr_second : (dats m 0 c).arrAt 19 cfg0.N = arrS m c := by
  refine (dats m 0 c).arrAt_eq_of_covers 19 _ (by decide +kernel) fun t hf y => ?_
  blk_simp
  rw [after0_19]
  have ht : t.val < 16 := t.isLt
  have hy : (y 0).val < 1024 := (y 0).isLt
  refine (congrArg (outsAt0 m c t.val t.isLt).2.2.2.2.1 (eq_ix2 y)).trans ((point_second m c t (y 0) (y 1) (by omega)).trans (congrArg (arrS m c) ?_))
  blk_ext [idx19 t]

end Cert.In
-- ==== Proof.InLowHost.lean ====
module

public import proofs.«01_k».proof.Proof.InHost
public import proofs.«01_k».proof.Proof.InLowRef

@[expose] public section

set_option maxRecDepth 16384

/-! What the call takes for the queries, keys and values: positions, frequencies and weights in 128 lanes a head. -/

noncomputable section

namespace Cert.In

open Cert.InProjIdeal Cert.InProjIdeal.Gen Idealize.ShloMosaic Idealize.ShloMosaic.TcCoe Idealize.SL.Sem Finset

section

variable (m : (ℓ : Loc nD τ sig) → Buf (Elt Ideal) ℓ) (c : Dev nD)

/-- The positions. -/
abbrev aP : IVec S8x2048 32 := m ((c : Thread nD τ).loc main_arg1)
/-- The gains of the queries' norm. -/
abbrev aGQ : FVec Ideal S1x256 .f32 := m ((c : Thread nD τ).loc main_arg5)
/-- The queries' weights. -/
abbrev aWQ : FVec Ideal S256x768 .f32 := m ((c : Thread nD τ).loc main_arg6)
/-- The gains of the keys' and values' norm. -/
abbrev aGK : FVec Ideal S1x128 .f32 := m ((c : Thread nD τ).loc main_arg7)
/-- The keys' and values' weights. -/
abbrev aWK : FVec Ideal S128x1024 .f32 := m ((c : Thread nD τ).loc main_arg8)

/-- The positions as the call takes them: 8 rows of 128 a tile. -/
theorem V_p (b : Fin 8) (s : Fin 2048) (t : Fin 16) (u : Fin 8) (l : Fin 128)
    (h : t.val * 1024 + u.val * 128 + l.val = b.val * 2048 + s.val) :
    (V m c main_v1 : IVec S16x8x128 32) (ix3 t u l) = aP m c (ix2 b s) := by
  obtain ⟨e1, e2⟩ : (t.val * 1024 + u.val * 128 + l.val) / 2048 = b.val ∧ (t.val * 1024 + u.val * 128 + l.val) % 2048 = s.val := by omega
  unfold V hostOps0
  after_results_simp
  pointwise []
  refine congrArg (aP m c) (congrArg₂ ix2 (Fin.ext ?_) (Fin.ext ?_)) <;> simp only <;> omega

/-- The frequencies as the call takes them. -/
theorem V_f' : V m c main_v15 = concatenate S1x128 1 [⟨S1x64, broadcastInDim S1x64 ![] bcast_S_S1x64 (constant S_ .f32 0x00000000#32)⟩,
    ⟨S1x16, shapeCast S1x16 Ref.freq shapeCasts_S16_S1x16⟩, ⟨S1x16, shapeCast S1x16 Ref.freq shapeCasts_S16_S1x16⟩,
    ⟨S1x32, broadcastInDim S1x32 ![] bcast_S_S1x32 (constant S_ .f32 0x00000000#32)⟩] concatenates_S1x64_S1x16_S1x16_S1x32_S1x128_d1 := by
  unfold V hostOps0
  after_results_simp
  rfl

/-- A lane's frequency, from 16 of them. -/
theorem f_at (f : FVec Ideal S16 .f32) (l : Fin 128) (j : Fin 16) (h : l.val = 64 + j.val ∨ l.val = 80 + j.val) :
    concatenate S1x128 1 [⟨S1x64, broadcastInDim S1x64 ![] bcast_S_S1x64 (constant (F := Ideal) S_ .f32 0x00000000#32)⟩,
      ⟨S1x16, shapeCast S1x16 f shapeCasts_S16_S1x16⟩, ⟨S1x16, shapeCast S1x16 f shapeCasts_S16_S1x16⟩,
      ⟨S1x32, broadcastInDim S1x32 ![] bcast_S_S1x32 (constant (F := Ideal) S_ .f32 0x00000000#32)⟩]
      concatenates_S1x64_S1x16_S1x16_S1x32_S1x128_d1 (ix2 0 l) = f (ix1 j) := by
  pointwise []
  have hj := j.isLt
  rw [dif_neg (by omega)]
  rcases h with h | h
  · rw [dif_pos (by omega)]
    exact congrArg f (congrArg ix1 (Fin.ext (by simp only; omega)))
  · rw [dif_neg (by omega), dif_pos (by omega)]
    exact congrArg f (congrArg ix1 (Fin.ext (by simp only; omega)))

/-- A lane's frequency. -/
theorem V_f (l : Fin 128) (j : Fin 16) (h : l.val = 64 + j.val ∨ l.val = 80 + j.val) :
    (V m c main_v15 : FVec Ideal S1x128 .f32) (ix2 0 l) = Ref.freq (ix1 j) := by
  rw [V_f']
  exact f_at _ l j h

/-- The gain of the queries' norm as the call takes it. -/
theorem V_gq (k : Fin 256) : (V m c main_arg5 : FVec Ideal S1x256 .f32) (ix2 0 k) = aGQ m c (ix2 0 k) := by
  unfold V hostOps0
  after_results_simp

/-- The gain of the keys' and values' norm as the call takes it. -/
theorem V_gk (k : Fin 128) : (V m c main_arg7 : FVec Ideal S1x128 .f32) (ix2 0 k) = aGK m c (ix2 0 k) := by
  unfold V hostOps0
  after_results_simp

/-- The columns for the queries, keys and values. -/
theorem V_w1' : V m c main_v21 = truncf .bf16 (concatenate S1024x512 1 [⟨S1024x384, extractStridedSlice S1024x384 ![0, 0] (aW m c) slices_S1024x4000_S1024x384_0_0⟩,
    ⟨S1024x64, broadcastInDim S1024x64 ![] bcast_S_S1024x64 (constant S_ .f32 0x00000000#32)⟩,
    ⟨S1024x32, extractStridedSlice S1024x32 ![0, 384] (aW m c) slices_S1024x4000_S1024x32_0_384⟩,
    ⟨S1024x32, broadcastInDim S1024x32 ![] bcast_S_S1024x32 (constant S_ .f32 0x00000000#32)⟩] concatenates_S1024x384_S1024x64_S1024x32_S1024x32_S1024x512_d1) bitsLt_bf16_f32 := by
  unfold V hostOps0
  after_results_simp
  rfl

/-- A column for the queries, keys and values, from the projection's weights. -/
theorem w1_at (w : FVec Ideal S1024x4000 .f32) (k : Fin 1024) (j : Fin 512) :
    truncf (F := Ideal) .bf16 (concatenate S1024x512 1 [⟨S1024x384, extractStridedSlice S1024x384 ![0, 0] w slices_S1024x4000_S1024x384_0_0⟩,
      ⟨S1024x64, broadcastInDim S1024x64 ![] bcast_S_S1024x64 (constant S_ .f32 0x00000000#32)⟩,
      ⟨S1024x32, extractStridedSlice S1024x32 ![0, 384] w slices_S1024x4000_S1024x32_0_384⟩,
      ⟨S1024x32, broadcastInDim S1024x32 ![] bcast_S_S1024x32 (constant S_ .f32 0x00000000#32)⟩] concatenates_S1024x384_S1024x64_S1024x32_S1024x32_S1024x512_d1)
      bitsLt_bf16_f32 (ix2 k j)
    = if j.val < 384 then w (ix2 k ⟨j.val, by omega⟩) else if 448 ≤ j.val ∧ j.val < 480 then w (ix2 k ⟨j.val - 64, by omega⟩) else 0 := by
  pointwise []
  by_cases h1 : j.val < 384
  · rw [dif_pos h1, if_pos h1]
  · rw [dif_neg h1, if_neg h1]
    by_cases h2 : j.val - 384 < 64
    · rw [dif_pos h2]
      exact (if_neg (by omega)).symm
    · rw [dif_neg h2]
      by_cases h3 : j.val - 384 - 64 < 32
      · rw [dif_pos h3]
        exact Eq.trans (congrArg w (congrArg (ix2 k) (Fin.ext (by simp only; omega)))) (if_pos (by omega)).symm
      · rw [dif_neg h3]
        exact (if_neg (by omega)).symm

/-- A column for the queries, keys and values. -/
theorem V_w1 (k : Fin 1024) (j : Fin 512) :
    (V m c main_v21 : FVec Ideal S1024x512 .bf16) (ix2 k j) = if j.val < 384 then aW m c (ix2 k ⟨j.val, by omega⟩)
      else if 448 ≤ j.val ∧ j.val < 480 then aW m c (ix2 k ⟨j.val - 64, by omega⟩) else 0 := by
  rw [V_w1']
  exact w1_at _ k j

/-- The queries' weights as the call takes them. -/
theorem V_wq' : V m c main_v30 = truncf .bf16 (shapeCast S256x1024 (concatenate S256x8x128 2
    [⟨S256x8x96, shapeCast S256x8x96 (aWQ m c) shapeCasts_S256x768_S256x8x96⟩,
     ⟨S256x8x32, broadcastInDim S256x8x32 ![] bcast_S_S256x8x32 (constant S_ .f32 0x00000000#32)⟩]
    concatenates_S256x8x96_S256x8x32_S256x8x128_d2) shapeCasts_S256x8x128_S256x1024) bitsLt_bf16_f32 := by
  unfold V hostOps0
  after_results_simp
  rfl

/-- A queries' weight, 128 lanes a head. -/
theorem wq_at (w : FVec Ideal S256x768 .f32) (k : Fin 256) (j : Fin 1024) :
    truncf (F := Ideal) .bf16 (shapeCast S256x1024 (concatenate S256x8x128 2
      [⟨S256x8x96, shapeCast S256x8x96 w shapeCasts_S256x768_S256x8x96⟩,
       ⟨S256x8x32, broadcastInDim S256x8x32 ![] bcast_S_S256x8x32 (constant S_ .f32 0x00000000#32)⟩]
      concatenates_S256x8x96_S256x8x32_S256x8x128_d2) shapeCasts_S256x8x128_S256x1024) bitsLt_bf16_f32 (ix2 k j)
    = if h : j.val % 128 < 96 then w (ix2 k ⟨j.val / 128 * 96 + j.val % 128, by omega⟩) else 0 := by
  pointwise []

/-- A queries' weight. -/
theorem V_wq (k : Fin 256) (j : Fin 1024) : (V m c main_v30 : FVec Ideal S256x1024 .bf16) (ix2 k j)
    = if h : j.val % 128 < 96 then aWQ m c (ix2 k ⟨j.val / 128 * 96 + j.val % 128, by omega⟩) else 0 := by
  rw [V_wq']
  exact wq_at _ k j

/-- The keys' weights as the call takes them. -/
theorem V_wk' : V m c main_v36 = truncf .bf16 (shapeCast S128x1024 (concatenate S128x8x128 2
    [⟨S128x8x64, extractStridedSlice S128x8x64 ![0, 0, 0] (shapeCast S128x8x128 (aWK m c) shapeCasts_S128x1024_S128x8x128) slices_S128x8x128_S128x8x64_0_0_0⟩,
     ⟨S128x8x64, broadcastInDim S128x8x64 ![] bcast_S_S128x8x64 (constant S_ .f32 0x00000000#32)⟩]
    concatenates_S128x8x64_S128x8x64_S128x8x128_d2) shapeCasts_S128x8x128_S128x1024) bitsLt_bf16_f32 := by
  unfold V hostOps0
  after_results_simp
  rfl

/-- The values' weights as the call takes them. -/
theorem V_wv' : V m c main_v42 = truncf .bf16 (shapeCast S128x1024 (concatenate S128x8x128 2
    [⟨S128x8x64, extractStridedSlice S128x8x64 ![0, 0, 64] (shapeCast S128x8x128 (aWK m c) shapeCasts_S128x1024_S128x8x128) slices_S128x8x128_S128x8x64_0_0_64⟩,
     ⟨S128x8x64, broadcastInDim S128x8x64 ![] bcast_S_S128x8x64 (constant S_ .f32 0x00000000#32)⟩]
    concatenates_S128x8x64_S128x8x64_S128x8x128_d2) shapeCasts_S128x8x128_S128x1024) bitsLt_bf16_f32 := by
  unfold V hostOps0
  after_results_simp
  rfl

/-- A keys' or values' weight, 128 lanes a head of which 64 are taken from lane `o` on. -/
theorem wk_at (o : ℕ) (ho : o + 64 ≤ 128) (hs : S128x8x128.Slices ![0, 0, o] S128x8x64) (w : FVec Ideal S128x1024 .f32) (k : Fin 128) (j : Fin 1024) :
    truncf (F := Ideal) .bf16 (shapeCast S128x1024 (concatenate S128x8x128 2
      [⟨S128x8x64, extractStridedSlice S128x8x64 ![0, 0, o] (shapeCast S128x8x128 w shapeCasts_S128x1024_S128x8x128) hs⟩,
       ⟨S128x8x64, broadcastInDim S128x8x64 ![] bcast_S_S128x8x64 (constant S_ .f32 0x00000000#32)⟩]
      concatenates_S128x8x64_S128x8x64_S128x8x128_d2) shapeCasts_S128x8x128_S128x1024) bitsLt_bf16_f32 (ix2 k j)
    = if h : j.val % 128 < 64 then w (ix2 k ⟨j.val / 128 * 128 + (o + j.val % 128), by omega⟩) else 0 := by
  pointwise []

/-- A keys' weight. -/
theorem V_wk (k : Fin 128) (j : Fin 1024) : (V m c main_v36 : FVec Ideal S128x1024 .bf16) (ix2 k j)
    = if h : j.val % 128 < 64 then aWK m c (ix2 k ⟨j.val / 128 * 128 + (0 + j.val % 128), by omega⟩) else 0 := by
  rw [V_wk']
  exact wk_at 0 (by omega) _ _ k j

/-- A values' weight. -/
theorem V_wv (k : Fin 128) (j : Fin 1024) : (V m c main_v42 : FVec Ideal S128x1024 .bf16) (ix2 k j)
    = if h : j.val % 128 < 64 then aWK m c (ix2 k ⟨j.val / 128 * 128 + (64 + j.val % 128), by omega⟩) else 0 := by
  rw [V_wv']
  exact wk_at 64 (by omega) _ _ k j

/-- Which block window 1 has at a point. -/
theorem idx1 : ∀ t : Fin cfg0.N, (cfg0.win 1).index t = ![t.val, 0, 0] := (by decide +kernel : ∀ t : Fin grid0.N, _)
/-- Which block window 2 has at a point. -/
theorem idx2 : ∀ t : Fin cfg0.N, (cfg0.win 2).index t = ![0, 0] := (by decide +kernel : ∀ t : Fin grid0.N, _)
/-- Which block window 4 has at a point. -/
theorem idx4 : ∀ t : Fin cfg0.N, (cfg0.win 4).index t = ![0, 0] := (by decide +kernel : ∀ t : Fin grid0.N, _)
/-- Which block window 8 has at a point. -/
theorem idx8 : ∀ t : Fin cfg0.N, (cfg0.win 8).index t = ![0, 0] := (by decide +kernel : ∀ t : Fin grid0.N, _)
/-- Which block window 9 has at a point. -/
theorem idx9 : ∀ t : Fin cfg0.N, (cfg0.win 9).index t = ![0, 0] := (by decide +kernel : ∀ t : Fin grid0.N, _)
/-- Which block window 10 has at a point. -/
theorem idx10 : ∀ t : Fin cfg0.N, (cfg0.win 10).index t = ![0, 0] := (by decide +kernel : ∀ t : Fin grid0.N, _)
/-- Which block window 11 has at a point. -/
theorem idx11 : ∀ t : Fin cfg0.N, (cfg0.win 11).index t = ![0, 0] := (by decide +kernel : ∀ t : Fin grid0.N, _)
/-- Which block window 12 has at a point. -/
theorem idx12 : ∀ t : Fin cfg0.N, (cfg0.win 12).index t = ![0, 0] := (by decide +kernel : ∀ t : Fin grid0.N, _)
/-- Which block window 15 has at a point. -/
theorem idx15 : ∀ t : Fin cfg0.N, (cfg0.win 15).index t = ![t.val, 0] := (by decide +kernel : ∀ t : Fin grid0.N, _)
/-- Which block window 16 has at a point. -/
theorem idx16 : ∀ t : Fin cfg0.N, (cfg0.win 16).index t = ![t.val, 0] := (by decide +kernel : ∀ t : Fin grid0.N, _)
/-- Which block window 17 has at a point. -/
theorem idx17 : ∀ t : Fin cfg0.N, (cfg0.win 17).index t = ![t.val, 0] := (by decide +kernel : ∀ t : Fin grid0.N, _)

/-- A tile's positions. -/
theorem b_p (t : Fin cfg0.N) (b : Fin 8) (s : Fin 2048) (u : Fin 8) (l : Fin 128)
    (h : t.val * 1024 + u.val * 128 + l.val = b.val * 2048 + s.val) :
    (iblk m c 1 t : Vec Ideal S1x8x128 .i32) (ix3 0 u l) = aP m c (ix2 b s) := by
  have ht : t.val < 16 := t.isLt
  rw [← V_p m c b s ⟨t.val, ht⟩ u l h]
  blk_ext [iblk, idx1 t]

/-- A tile's frequencies. -/
theorem b_f (t : Fin cfg0.N) (l : Fin 128) (j : Fin 16) (h : l.val = 64 + j.val ∨ l.val = 80 + j.val) :
    (iblk m c 2 t : Vec Ideal S1x128 .f32) (ix2 0 l) = Ref.freq (ix1 j) := by
  rw [← V_f m c l j h]
  blk_ext [iblk, idx2 t]

/-- A tile's columns for the queries, keys and values. -/
theorem b_w1 (t : Fin cfg0.N) (k : Fin 1024) (j : Fin 512) : (iblk m c 4 t : Vec Ideal S1024x512 .bf16) (ix2 k j)
    = if j.val < 384 then aW m c (ix2 k ⟨j.val, by omega⟩)
      else if 448 ≤ j.val ∧ j.val < 480 then aW m c (ix2 k ⟨j.val - 64, by omega⟩) else 0 := by
  refine Eq.trans ?_ (V_w1 m c k j)
  blk_ext [iblk, idx4 t]

/-- A tile's gain of the queries' norm. -/
theorem b_gq (t : Fin cfg0.N) (k : Fin 256) : (iblk m c 8 t : Vec Ideal S1x256 .f32) (ix2 0 k)
    = aGQ m c (ix2 0 k) := by
  refine Eq.trans ?_ (V_gq m c k)
  blk_ext [iblk, idx8 t]

/-- A tile's weights of the queries. -/
theorem b_wq (t : Fin cfg0.N) (k : Fin 256) (j : Fin 1024) : (iblk m c 9 t : Vec Ideal S256x1024 .bf16) (ix2 k j)
    = if h : j.val % 128 < 96 then aWQ m c (ix2 k ⟨j.val / 128 * 96 + j.val % 128, by omega⟩) else 0 := by
  refine Eq.trans ?_ (V_wq m c k j)
  blk_ext [iblk, idx9 t]

/-- A tile's gain of the keys' and values' norm. -/
theorem b_gk (t : Fin cfg0.N) (k : Fin 128) : (iblk m c 10 t : Vec Ideal S1x128 .f32) (ix2 0 k)
    = aGK m c (ix2 0 k) := by
  refine Eq.trans ?_ (V_gk m c k)
  blk_ext [iblk, idx10 t]

/-- A tile's weights of the keys. -/
theorem b_wk (t : Fin cfg0.N) (k : Fin 128) (j : Fin 1024) : (iblk m c 11 t : Vec Ideal S128x1024 .bf16) (ix2 k j)
    = if h : j.val % 128 < 64 then aWK m c (ix2 k ⟨j.val / 128 * 128 + (0 + j.val % 128), by omega⟩) else 0 := by
  refine Eq.trans ?_ (V_wk m c k j)
  blk_ext [iblk, idx11 t]

/-- A tile's weights of the values. -/
theorem b_wv (t : Fin cfg0.N) (k : Fin 128) (j : Fin 1024) : (iblk m c 12 t : Vec Ideal S128x1024 .bf16) (ix2 k j)
    = if h : j.val % 128 < 64 then aWK m c (ix2 k ⟨j.val / 128 * 128 + (64 + j.val % 128), by omega⟩) else 0 := by
  refine Eq.trans ?_ (V_wv m c k j)
  blk_ext [iblk, idx12 t]

end

end Cert.In
-- ==== Proof.InLowTile.lean ====
module

public import proofs.«01_k».proof.Proof.InBody
public import proofs.«01_k».proof.Proof.InLowBody

@[expose] public section

set_option maxRecDepth 16384

/-! What a point leaves in its tiles of queries, keys and values: eight heads of 128 lanes each. -/

noncomputable section

namespace Cert.In

open Cert.InProjIdeal Cert.InProjIdeal.Gen Idealize.ShloMosaic Idealize.ShloMosaic.TcCoe Idealize.SL.Sem Finset

section

variable (c : Dev nD) (i : grid0.Coords) (arg1 : Memref sig .tc .vmem S1024x1024 .f32) (harg1 : arg1.IsWhole)
  (arg2 : Memref sig .tc .vmem S1x8x128 .i32) (harg2 : arg2.IsWhole) (arg3 : Memref sig .tc .vmem S1x128 .f32) (harg3 : arg3.IsWhole)
  (arg4 : Memref sig .tc .vmem S1x1024 .f32) (harg4 : arg4.IsWhole) (arg5 : Memref sig .tc .vmem S1024x512 .bf16) (harg5 : arg5.IsWhole)
  (arg6 : Memref sig .tc .vmem S1024x1536 .bf16) (harg6 : arg6.IsWhole) (arg7 : Memref sig .tc .vmem S1024x2048 .bf16) (harg7 : arg7.IsWhole)
  (arg8 : Memref sig .tc .vmem S1x2048 .f32) (harg8 : arg8.IsWhole) (arg9 : Memref sig .tc .vmem S1x256 .f32) (harg9 : arg9.IsWhole)
  (arg10 : Memref sig .tc .vmem S256x1024 .bf16) (harg10 : arg10.IsWhole) (arg11 : Memref sig .tc .vmem S1x128 .f32) (harg11 : arg11.IsWhole)
  (arg12 : Memref sig .tc .vmem S128x1024 .bf16) (harg12 : arg12.IsWhole) (arg13 : Memref sig .tc .vmem S128x1024 .bf16) (harg13 : arg13.IsWhole)
  (arg14 : Memref sig .tc .vmem S8x512 .f32) (harg14 : arg14.IsWhole) (arg15 : Memref sig .tc .vmem S512x1024 .bf16) (harg15 : arg15.IsWhole)
  (arg16 : Memref sig .tc .vmem S1024x1024 .bf16) (harg16 : arg16.IsWhole) (arg17 : Memref sig .tc .vmem S1024x1024 .bf16) (harg17 : arg17.IsWhole)
  (arg18 : Memref sig .tc .vmem S1024x1024 .bf16) (harg18 : arg18.IsWhole) (arg19 : Memref sig .tc .vmem S1024x1024 .bf16) (harg19 : arg19.IsWhole)
  (arg20 : Memref sig .tc .vmem S1024x1024 .bf16) (harg20 : arg20.IsWhole) (arg21 : Memref sig .tc .vmem S8x512 .f32) (harg21 : arg21.IsWhole)
  (x0 : Vec Ideal S1024x1024 .f32) (x1 : Vec Ideal S1x8x128 .i32) (x2 : Vec Ideal S1x128 .f32) (x3 : Vec Ideal S1x1024 .f32)
  (x4 : Vec Ideal S1024x512 .bf16) (x5 : Vec Ideal S1024x1536 .bf16) (x6 : Vec Ideal S1024x2048 .bf16) (x7 : Vec Ideal S1x2048 .f32)
  (x8 : Vec Ideal S1x256 .f32) (x9 : Vec Ideal S256x1024 .bf16) (x10 : Vec Ideal S1x128 .f32) (x11 : Vec Ideal S128x1024 .bf16)
  (x12 : Vec Ideal S128x1024 .bf16) (x13 : Vec Ideal S8x512 .f32) (x14 : Vec Ideal S512x1024 .bf16)

/-- A tile's queries before the turn. -/
abbrev qqT (x0 : Vec Ideal S1024x1024 .f32) (x3 : Vec Ideal S1x1024 .f32) (x4 : Vec Ideal S1024x512 .bf16) (x8 : Vec Ideal S1x256 .f32)
    (x9 : Vec Ideal S256x1024 .bf16) : FVec Ideal S1024x1024 .f32 := k0_pay25 (k0_pay18 (k0_pay2 x0 x3) x4) x8 x9
/-- A tile's keys without the part the heads share. -/
abbrev kkT (x0 : Vec Ideal S1024x1024 .f32) (x3 : Vec Ideal S1x1024 .f32) (x4 : Vec Ideal S1024x512 .bf16) (x10 : Vec Ideal S1x128 .f32)
    (x11 : Vec Ideal S128x1024 .bf16) : FVec Ideal S1024x1024 .f32 := k0_pay27 (k0_pay19 (k0_pay2 x0 x3) x4) x10 x11
/-- A tile's values without the lane of ones. -/
abbrev vvT (x0 : Vec Ideal S1024x1024 .f32) (x3 : Vec Ideal S1x1024 .f32) (x4 : Vec Ideal S1024x512 .bf16) (x10 : Vec Ideal S1x128 .f32)
    (x12 : Vec Ideal S128x1024 .bf16) : FVec Ideal S1024x1024 .f32 :=
  k0_pay29 (k0_pay26 (k0_pay19 (k0_pay2 x0 x3) x4) x10) (k0_pay28 x12) (constant S1024x1024 .f32 0x00000000#32)
/-- A tile's shared part of the keys. -/
abbrev krT (x0 : Vec Ideal S1024x1024 .f32) (x1 : Vec Ideal S1x8x128 .i32) (x2 : Vec Ideal S1x128 .f32) (x3 : Vec Ideal S1x1024 .f32)
    (x4 : Vec Ideal S1024x512 .bf16) : FVec Ideal S1024x128 .f32 :=
  k0_pay20 (k0_pay2 x0 x3) lane k0_pay3 (k0_pay5 x1) (k0_pay6 x1) (k0_pay7 x1) (k0_pay8 x1) (k0_pay9 x1) (k0_pay10 x1) (k0_pay11 x1) (k0_pay12 x1) x2 x4

/-- A head of queries from all of them. -/
abbrev hQ (o : ℕ) (hs : S1024x1024.Slices ![0, o] S1024x128) (lt : IVec S1024x128 1) (qc qs : FVec Ideal S1024x128 .f32)
    (qq : FVec Ideal S1024x1024 .f32) : FVec Ideal S1024x128 .bf16 :=
  truncf .bf16 (addf (mulf (extractStridedSlice S1024x128 ![0, o] qq hs) qc)
    (mulf (select lt (dynamicRotate 1 112#32 none (extractStridedSlice S1024x128 ![0, o] qq hs) rotates_S1024x128_d1)
      (dynamicRotate 1 16#32 none (extractStridedSlice S1024x128 ![0, o] qq hs) rotates_S1024x128_d1)) qs)) bitsLt_bf16_f32
/-- A head of keys or values from all of them. -/
abbrev hK (o : ℕ) (hs : S1024x1024.Slices ![0, o] S1024x128) (k : FVec Ideal S1024x128 .f32)
    (kk : FVec Ideal S1024x1024 .f32) : FVec Ideal S1024x128 .bf16 :=
  truncf .bf16 (addf (extractStridedSlice S1024x128 ![0, o] kk hs) k) bitsLt_bf16_f32

/-- A point's tile of queries where a sequence starts. -/
theorem outA15 (hc0 : cond0_0 i) (y : S1024x1024.Idx) (R : ℕ → ℕ → EReal)
    (H : ∀ (h : ℕ) (hs : S1024x1024.Slices ![0, 128 * h] S1024x128) (l : Fin 128), h < 8 →
      hQ (128 * h) hs (k0_pay14 lane) (qcT x1 x2) (k0_pay24 (sinT x1 x2)) (qqT x0 x3 x4 x8 x9) (ix2 (y 0) l) = R h l.val) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 y = R ((y 1).val / 128) ((y 1).val % 128) := by
  have hp : ∀ (h : ℕ) (hs : S1024x1024.Slices ![0, 128 * h] S1024x128) (x : S1024x128.Idx), h < 8 → (y 0).val = (x 0).val →
      (y 1).val = 128 * h + (x 1).val →
      hQ (128 * h) hs (k0_pay14 lane) (qcT x1 x2) (k0_pay24 (sinT x1 x2)) (qqT x0 x3 x4 x8 x9) x = R ((y 1).val / 128) ((y 1).val % 128) := by
    intro h hs x hh e0 e1
    have hx : (x 1).val < 128 := (x 1).isLt
    have e : x = ix2 (y 0) (x 1) := (eq_ix2 x).trans (congrArg (ix2 · (x 1)) (Fin.ext e0.symm))
    rw [show (y 1).val / 128 = h by omega, show (y 1).val % 128 = (x 1).val by omega]
    exact (congrArg _ e).trans (H h hs (x 1) hh)
  frame_out
  canon_tiles x hx
  · exact hp 7 slices_S1024x1024_o0_896_S1024x128 x (by omega) (by omega) (by omega)
  · exact hp 6 slices_S1024x1024_o0_768_S1024x128 x (by omega) (by omega) (by omega)
  · exact hp 5 slices_S1024x1024_o0_640_S1024x128 x (by omega) (by omega) (by omega)
  · exact hp 4 slices_S1024x1024_o0_512_S1024x128 x (by omega) (by omega) (by omega)
  · exact hp 3 slices_S1024x1024_o0_384_S1024x128 x (by omega) (by omega) (by omega)
  · exact hp 2 slices_S1024x1024_o0_256_S1024x128 x (by omega) (by omega) (by omega)
  · exact hp 1 slices_S1024x1024_o0_128_S1024x128 x (by omega) (by omega) (by omega)
  · exact hp 0 slices_S1024x1024_o0_0_S1024x128 x (by omega) (by omega) (by omega)

/-- A point's tile of queries elsewhere. -/
theorem outB15 (hc0 : ¬cond0_0 i) (xs0 : Vec Ideal S8x512 .f32) (y : S1024x1024.Idx) (R : ℕ → ℕ → EReal)
    (H : ∀ (h : ℕ) (hs : S1024x1024.Slices ![0, 128 * h] S1024x128) (l : Fin 128), h < 8 →
      hQ (128 * h) hs (k0_pay14 lane) (qcT x1 x2) (k0_pay24 (sinT x1 x2)) (qqT x0 x3 x4 x8 x9) (ix2 (y 0) l) = R h l.val) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0 y = R ((y 1).val / 128) ((y 1).val % 128) := by
  have hp : ∀ (h : ℕ) (hs : S1024x1024.Slices ![0, 128 * h] S1024x128) (x : S1024x128.Idx), h < 8 → (y 0).val = (x 0).val →
      (y 1).val = 128 * h + (x 1).val →
      hQ (128 * h) hs (k0_pay14 lane) (qcT x1 x2) (k0_pay24 (sinT x1 x2)) (qqT x0 x3 x4 x8 x9) x = R ((y 1).val / 128) ((y 1).val % 128) := by
    intro h hs x hh e0 e1
    have hx : (x 1).val < 128 := (x 1).isLt
    have e : x = ix2 (y 0) (x 1) := (eq_ix2 x).trans (congrArg (ix2 · (x 1)) (Fin.ext e0.symm))
    rw [show (y 1).val / 128 = h by omega, show (y 1).val % 128 = (x 1).val by omega]
    exact (congrArg _ e).trans (H h hs (x 1) hh)
  frame_out
  canon_tiles x hx
  · exact hp 7 slices_S1024x1024_o0_896_S1024x128 x (by omega) (by omega) (by omega)
  · exact hp 6 slices_S1024x1024_o0_768_S1024x128 x (by omega) (by omega) (by omega)
  · exact hp 5 slices_S1024x1024_o0_640_S1024x128 x (by omega) (by omega) (by omega)
  · exact hp 4 slices_S1024x1024_o0_512_S1024x128 x (by omega) (by omega) (by omega)
  · exact hp 3 slices_S1024x1024_o0_384_S1024x128 x (by omega) (by omega) (by omega)
  · exact hp 2 slices_S1024x1024_o0_256_S1024x128 x (by omega) (by omega) (by omega)
  · exact hp 1 slices_S1024x1024_o0_128_S1024x128 x (by omega) (by omega) (by omega)
  · exact hp 0 slices_S1024x1024_o0_0_S1024x128 x (by omega) (by omega) (by omega)

/-- A point's tile of keys where a sequence starts. -/
theorem outA16 (hc0 : cond0_0 i) (y : S1024x1024.Idx) (R : ℕ → ℕ → EReal)
    (H : ∀ (h : ℕ) (hs : S1024x1024.Slices ![0, 128 * h] S1024x128) (l : Fin 128), h < 8 →
      hK (128 * h) hs (krT x0 x1 x2 x3 x4) (kkT x0 x3 x4 x10 x11) (ix2 (y 0) l) = R h l.val) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 y = R ((y 1).val / 128) ((y 1).val % 128) := by
  have hp : ∀ (h : ℕ) (hs : S1024x1024.Slices ![0, 128 * h] S1024x128) (x : S1024x128.Idx), h < 8 → (y 0).val = (x 0).val →
      (y 1).val = 128 * h + (x 1).val →
      hK (128 * h) hs (krT x0 x1 x2 x3 x4) (kkT x0 x3 x4 x10 x11) x = R ((y 1).val / 128) ((y 1).val % 128) := by
    intro h hs x hh e0 e1
    have hx : (x 1).val < 128 := (x 1).isLt
    have e : x = ix2 (y 0) (x 1) := (eq_ix2 x).trans (congrArg (ix2 · (x 1)) (Fin.ext e0.symm))
    rw [show (y 1).val / 128 = h by omega, show (y 1).val % 128 = (x 1).val by omega]
    exact (congrArg _ e).trans (H h hs (x 1) hh)
  frame_out
  canon_tiles x hx
  · exact hp 7 slices_S1024x1024_o0_896_S1024x128 x (by omega) (by omega) (by omega)
  · exact hp 6 slices_S1024x1024_o0_768_S1024x128 x (by omega) (by omega) (by omega)
  · exact hp 5 slices_S1024x1024_o0_640_S1024x128 x (by omega) (by omega) (by omega)
  · exact hp 4 slices_S1024x1024_o0_512_S1024x128 x (by omega) (by omega) (by omega)
  · exact hp 3 slices_S1024x1024_o0_384_S1024x128 x (by omega) (by omega) (by omega)
  · exact hp 2 slices_S1024x1024_o0_256_S1024x128 x (by omega) (by omega) (by omega)
  · exact hp 1 slices_S1024x1024_o0_128_S1024x128 x (by omega) (by omega) (by omega)
  · exact hp 0 slices_S1024x1024_o0_0_S1024x128 x (by omega) (by omega) (by omega)

/-- A point's tile of keys elsewhere. -/
theorem outB16 (hc0 : ¬cond0_0 i) (xs0 : Vec Ideal S8x512 .f32) (y : S1024x1024.Idx) (R : ℕ → ℕ → EReal)
    (H : ∀ (h : ℕ) (hs : S1024x1024.Slices ![0, 128 * h] S1024x128) (l : Fin 128), h < 8 →
      hK (128 * h) hs (krT x0 x1 x2 x3 x4) (kkT x0 x3 x4 x10 x11) (ix2 (y 0) l) = R h l.val) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0 y = R ((y 1).val / 128) ((y 1).val % 128) := by
  have hp : ∀ (h : ℕ) (hs : S1024x1024.Slices ![0, 128 * h] S1024x128) (x : S1024x128.Idx), h < 8 → (y 0).val = (x 0).val →
      (y 1).val = 128 * h + (x 1).val →
      hK (128 * h) hs (krT x0 x1 x2 x3 x4) (kkT x0 x3 x4 x10 x11) x = R ((y 1).val / 128) ((y 1).val % 128) := by
    intro h hs x hh e0 e1
    have hx : (x 1).val < 128 := (x 1).isLt
    have e : x = ix2 (y 0) (x 1) := (eq_ix2 x).trans (congrArg (ix2 · (x 1)) (Fin.ext e0.symm))
    rw [show (y 1).val / 128 = h by omega, show (y 1).val % 128 = (x 1).val by omega]
    exact (congrArg _ e).trans (H h hs (x 1) hh)
  frame_out
  canon_tiles x hx
  · exact hp 7 slices_S1024x1024_o0_896_S1024x128 x (by omega) (by omega) (by omega)
  · exact hp 6 slices_S1024x1024_o0_768_S1024x128 x (by omega) (by omega) (by omega)
  · exact hp 5 slices_S1024x1024_o0_640_S1024x128 x (by omega) (by omega) (by omega)
  · exact hp 4 slices_S1024x1024_o0_512_S1024x128 x (by omega) (by omega) (by omega)
  · exact hp 3 slices_S1024x1024_o0_384_S1024x128 x (by omega) (by omega) (by omega)
  · exact hp 2 slices_S1024x1024_o0_256_S1024x128 x (by omega) (by omega) (by omega)
  · exact hp 1 slices_S1024x1024_o0_128_S1024x128 x (by omega) (by omega) (by omega)
  · exact hp 0 slices_S1024x1024_o0_0_S1024x128 x (by omega) (by omega) (by omega)

/-- A point's tile of values where a sequence starts. -/
theorem outA17 (hc0 : cond0_0 i) (y : S1024x1024.Idx) (R : ℕ → ℕ → EReal)
    (H : ∀ (h : ℕ) (hs : S1024x1024.Slices ![0, 128 * h] S1024x128) (l : Fin 128), h < 8 →
      hK (128 * h) hs (k0_pay30 lane) (vvT x0 x3 x4 x10 x12) (ix2 (y 0) l) = R h l.val) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 y = R ((y 1).val / 128) ((y 1).val % 128) := by
  have hp : ∀ (h : ℕ) (hs : S1024x1024.Slices ![0, 128 * h] S1024x128) (x : S1024x128.Idx), h < 8 → (y 0).val = (x 0).val →
      (y 1).val = 128 * h + (x 1).val →
      hK (128 * h) hs (k0_pay30 lane) (vvT x0 x3 x4 x10 x12) x = R ((y 1).val / 128) ((y 1).val % 128) := by
    intro h hs x hh e0 e1
    have hx : (x 1).val < 128 := (x 1).isLt
    have e : x = ix2 (y 0) (x 1) := (eq_ix2 x).trans (congrArg (ix2 · (x 1)) (Fin.ext e0.symm))
    rw [show (y 1).val / 128 = h by omega, show (y 1).val % 128 = (x 1).val by omega]
    exact (congrArg _ e).trans (H h hs (x 1) hh)
  frame_out
  canon_tiles x hx
  · exact hp 7 slices_S1024x1024_o0_896_S1024x128 x (by omega) (by omega) (by omega)
  · exact hp 6 slices_S1024x1024_o0_768_S1024x128 x (by omega) (by omega) (by omega)
  · exact hp 5 slices_S1024x1024_o0_640_S1024x128 x (by omega) (by omega) (by omega)
  · exact hp 4 slices_S1024x1024_o0_512_S1024x128 x (by omega) (by omega) (by omega)
  · exact hp 3 slices_S1024x1024_o0_384_S1024x128 x (by omega) (by omega) (by omega)
  · exact hp 2 slices_S1024x1024_o0_256_S1024x128 x (by omega) (by omega) (by omega)
  · exact hp 1 slices_S1024x1024_o0_128_S1024x128 x (by omega) (by omega) (by omega)
  · exact hp 0 slices_S1024x1024_o0_0_S1024x128 x (by omega) (by omega) (by omega)

/-- A point's tile of values elsewhere. -/
theorem outB17 (hc0 : ¬cond0_0 i) (xs0 : Vec Ideal S8x512 .f32) (y : S1024x1024.Idx) (R : ℕ → ℕ → EReal)
    (H : ∀ (h : ℕ) (hs : S1024x1024.Slices ![0, 128 * h] S1024x128) (l : Fin 128), h < 8 →
      hK (128 * h) hs (k0_pay30 lane) (vvT x0 x3 x4 x10 x12) (ix2 (y 0) l) = R h l.val) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 xs0 y = R ((y 1).val / 128) ((y 1).val % 128) := by
  have hp : ∀ (h : ℕ) (hs : S1024x1024.Slices ![0, 128 * h] S1024x128) (x : S1024x128.Idx), h < 8 → (y 0).val = (x 0).val →
      (y 1).val = 128 * h + (x 1).val →
      hK (128 * h) hs (k0_pay30 lane) (vvT x0 x3 x4 x10 x12) x = R ((y 1).val / 128) ((y 1).val % 128) := by
    intro h hs x hh e0 e1
    have hx : (x 1).val < 128 := (x 1).isLt
    have e : x = ix2 (y 0) (x 1) := (eq_ix2 x).trans (congrArg (ix2 · (x 1)) (Fin.ext e0.symm))
    rw [show (y 1).val / 128 = h by omega, show (y 1).val % 128 = (x 1).val by omega]
    exact (congrArg _ e).trans (H h hs (x 1) hh)
  frame_out
  canon_tiles x hx
  · exact hp 7 slices_S1024x1024_o0_896_S1024x128 x (by omega) (by omega) (by omega)
  · exact hp 6 slices_S1024x1024_o0_768_S1024x128 x (by omega) (by omega) (by omega)
  · exact hp 5 slices_S1024x1024_o0_640_S1024x128 x (by omega) (by omega) (by omega)
  · exact hp 4 slices_S1024x1024_o0_512_S1024x128 x (by omega) (by omega) (by omega)
  · exact hp 3 slices_S1024x1024_o0_384_S1024x128 x (by omega) (by omega) (by omega)
  · exact hp 2 slices_S1024x1024_o0_256_S1024x128 x (by omega) (by omega) (by omega)
  · exact hp 1 slices_S1024x1024_o0_128_S1024x128 x (by omega) (by omega) (by omega)
  · exact hp 0 slices_S1024x1024_o0_0_S1024x128 x (by omega) (by omega) (by omega)

end

end Cert.In
-- ==== Proof.InLowPoint.lean ====
module

public import proofs.«01_k».proof.Proof.InPoint
public import proofs.«01_k».proof.Proof.InLowHost
public import proofs.«01_k».proof.Proof.InLowTile

@[expose] public section

set_option maxRecDepth 16384

/-! A point's tiles of queries, keys and values, element by element, as the reference's rows. -/

noncomputable section

namespace Cert.In

open Cert.InProjIdeal Cert.InProjIdeal.Gen Idealize.ShloMosaic Idealize.ShloMosaic.TcCoe Idealize.SL.Sem Finset

section

variable (m : (ℓ : Loc nD τ sig) → Buf (Elt Ideal) ℓ) (c : Dev nD) (t : Fin cfg0.N) (b : Fin 8) (s : Fin 2048) (r : Fin 1024)
  (hr : t.val * 1024 + r.val = b.val * 2048 + s.val)

/-- A position's row of the projection. -/
def pN (n : ℕ) : EReal := if h : n < 4000 then prj (aX m c) (aG m c) (aW m c) b s ⟨n, h⟩ else 0

/-- A position's angles. -/
def aN (j : ℕ) : EReal := if h : j < 16 then FloatOps.sitofp (F := Ideal) FTy.f32 (aP m c (ix2 b s)) * Ref.freq (ix1 ⟨j, h⟩) else 0

include hr

/-- A tile's columns for the queries, keys and values. -/
theorem t_p1 (j : Fin 512) : k0_pay17 (F := Ideal) (k0_pay2 (iblk m c 0 t) (iblk m c 3 t)) (iblk m c 4 t) (ix2 r j)
    = if j.val < 384 then pN m c b s j.val else if 448 ≤ j.val ∧ j.val < 480 then pN m c b s (j.val - 64) else 0 := by
  pointwise [k0_pay17]
  simp only [t_nrm m c t b s r hr, b_w1]
  by_cases h1 : j.val < 384
  · simp only [if_pos h1, pN]
    rw [dif_pos (by omega)]
    rfl
  · simp only [if_neg h1, pN]
    by_cases h2 : 448 ≤ j.val ∧ j.val < 480
    · simp only [if_pos h2]
      rw [dif_pos (by omega)]
      rfl
    · simp only [if_neg h2, mul_zero, sum_const_zero]

/-- A tile's queries before the turn. -/
theorem t_qq (j : Fin 1024) : qqT (iblk m c 0 t) (iblk m c 3 t) (iblk m c 4 t) (iblk m c 8 t) (iblk m c 9 t) (ix2 r j)
    = if j.val % 128 < 96 then que (pN m c b s) (aGQ m c) (aWQ m c) (j.val / 128 * 96 + j.val % 128) else 0 := by
  have e : ∀ x : Fin 256, k0_pay18 (F := Ideal) (k0_pay2 (iblk m c 0 t) (iblk m c 3 t)) (iblk m c 4 t) (ix2 r x) = pN m c b s x.val := by
    intro x
    pointwise [k0_pay18]
    rw [t_p1 m c t b s r hr, if_pos (by simp only; omega)]
  pointwise [k0_pay25]
  simp only [e, b_gq, b_wq]
  by_cases h : j.val % 128 < 96
  · simp only [dif_pos h, if_pos h]
    rw [que, dif_pos (by omega)]
  · simp only [dif_neg h, if_neg h, mul_zero, sum_const_zero]

/-- A tile's normalised columns for the keys and values. -/
theorem t_kn (x : Fin 128) : k0_pay26 (F := Ideal) (k0_pay19 (k0_pay2 (iblk m c 0 t) (iblk m c 3 t)) (iblk m c 4 t)) (iblk m c 10 t) (ix2 r x)
    = pN m c b s (256 + x.val) * Ideal.rsqrt (Ideal.div (∑ x : Fin 128, pN m c b s (256 + x.val) * pN m c b s (256 + x.val))
      (Ideal.ofBits FTy.f32 0x43000000#32) + Ideal.ofBits FTy.f32 0x358637BD#32) * aGK m c (ix2 0 x) := by
  have e : ∀ x : Fin 128, k0_pay19 (F := Ideal) (k0_pay2 (iblk m c 0 t) (iblk m c 3 t)) (iblk m c 4 t) (ix2 r x) = pN m c b s (256 + x.val) := by
    intro x
    pointwise [k0_pay19]
    rw [t_p1 m c t b s r hr, if_pos (by simp only; omega)]
  pointwise [k0_pay26]
  simp only [e, b_gk]

/-- A tile's keys without the part the heads share. -/
theorem t_kk (j : Fin 1024) : kkT (iblk m c 0 t) (iblk m c 3 t) (iblk m c 4 t) (iblk m c 10 t) (iblk m c 11 t) (ix2 r j)
    = if j.val % 128 < 64 then kva (pN m c b s) (aGK m c) (aWK m c) (j.val / 128 * 128 + (0 + j.val % 128)) else 0 := by
  pointwise [k0_pay27]
  simp only [t_kn m c t b s r hr, b_wk]
  by_cases h : j.val % 128 < 64
  · simp only [dif_pos h, if_pos h]
    rw [kva, dif_pos (by omega)]
    simp only [Nat.zero_add]
  · simp only [dif_neg h, if_neg h, mul_zero, sum_const_zero]

/-- A tile's values without the lane of ones. -/
theorem t_vv (j : Fin 1024) : vvT (iblk m c 0 t) (iblk m c 3 t) (iblk m c 4 t) (iblk m c 10 t) (iblk m c 12 t) (ix2 r j)
    = if j.val % 128 < 64 then kva (pN m c b s) (aGK m c) (aWK m c) (j.val / 128 * 128 + (64 + j.val % 128)) else 0 := by
  pointwise [k0_pay29, k0_pay28]
  simp only [t_kn m c t b s r hr, b_wv]
  by_cases h : j.val % 128 < 64
  · simp only [dif_pos h, if_pos h]
    rw [kva, dif_pos (by omega)]
  · simp only [dif_neg h, if_neg h, mul_zero, sum_const_zero]

/-- A tile's angles, in the lanes they turn. -/
theorem t_ang (l : Fin 128) (j : ℕ) (hj : j < 16) (h : l.val = 64 + j ∨ l.val = 80 + j) :
    angT (iblk m c 1 t) (iblk m c 2 t) (ix2 r l) = aN m c b s j := by
  rw [ang_at, b_p m c t b s ⟨r.val / 128, by omega⟩ ⟨r.val % 128, by omega⟩ (by simp only; omega), b_f m c t l ⟨j, hj⟩ h, aN, dif_pos hj]

/-- The angles in the first half of the lanes they turn. -/
theorem t_ang1 (l : Fin 128) (h : 64 ≤ l.val) (h' : l.val < 80) : angT (iblk m c 1 t) (iblk m c 2 t) (ix2 r l) = aN m c b s (l.val - 64) :=
  t_ang m c t b s r hr l _ (by omega) (by omega)

/-- The angles in the second half of the lanes they turn. -/
theorem t_ang2 (l : Fin 128) (h : 80 ≤ l.val) (h' : l.val < 96) : angT (iblk m c 1 t) (iblk m c 2 t) (ix2 r l) = aN m c b s (l.val - 80) :=
  t_ang m c t b s r hr l _ (by omega) (by omega)

/-- A head of a tile's queries. -/
theorem t_q (h : ℕ) (hs : S1024x1024.Slices ![0, 128 * h] S1024x128) (l : Fin 128) (hh : h < 8) :
    hQ (128 * h) hs (k0_pay14 lane) (qcT (iblk m c 1 t) (iblk m c 2 t)) (k0_pay24 (sinT (iblk m c 1 t) (iblk m c 2 t)))
      (qqT (iblk m c 0 t) (iblk m c 3 t) (iblk m c 4 t) (iblk m c 8 t) (iblk m c 9 t)) (ix2 r l)
    = rowQ (pN m c b s) (aN m c b s) (aGQ m c) (aWQ m c) h l.val := by
  refine (headQ_at (128 * h) _ _ _ _ hs (by omega) r l).trans ?_
  refine headQ_row h hh _ _ r _ _ (t_ang1 m c t b s r hr) (t_ang2 m c t b s r hr) _ _ _ (fun k n hk hn => ?_) l
  rw [t_qq m c t b s r hr, show k.val % 128 = n by omega, show k.val / 128 = h by omega]

/-- A head of a tile's keys. -/
theorem t_k (h : ℕ) (hs : S1024x1024.Slices ![0, 128 * h] S1024x128) (l : Fin 128) (hh : h < 8) :
    hK (128 * h) hs (krT (iblk m c 0 t) (iblk m c 1 t) (iblk m c 2 t) (iblk m c 3 t) (iblk m c 4 t))
      (kkT (iblk m c 0 t) (iblk m c 3 t) (iblk m c 4 t) (iblk m c 10 t) (iblk m c 11 t)) (ix2 r l)
    = rowK (pN m c b s) (aN m c b s) (aGK m c) (aWK m c) h l.val := by
  have hl := l.isLt
  refine (headK_at (128 * h) _ _ hs (by omega) r l).trans ?_
  refine (congrArg₂ (· + ·) (t_kk m c t b s r hr _) (krot_at _ _ r _ (t_ang1 m c t b s r hr) (t_ang2 m c t b s r hr) _ _ (pN m c b s)
    (fun j hj => (t_p1 m c t b s r hr j).trans (if_neg (by omega))) l)).trans ?_
  simp only
  rw [show (128 * h + l.val) % 128 = l.val by omega, show (128 * h + l.val) / 128 = h by omega, Nat.zero_add, rowK]
  by_cases h1 : l.val < 64
  · rw [if_pos h1, if_pos h1, if_neg (by omega), add_zero]
  · rw [if_neg h1, if_neg h1, zero_add]
    by_cases h2 : l.val < 96
    · rw [if_pos h2, if_pos (by omega)]
    · rw [if_neg h2, if_neg (by omega)]

/-- A head of a tile's values. -/
theorem t_v (h : ℕ) (hs : S1024x1024.Slices ![0, 128 * h] S1024x128) (l : Fin 128) (hh : h < 8) :
    hK (128 * h) hs (k0_pay30 lane)
      (vvT (iblk m c 0 t) (iblk m c 3 t) (iblk m c 4 t) (iblk m c 10 t) (iblk m c 12 t)) (ix2 r l)
    = rowV (pN m c b s) (aGK m c) (aWK m c) h l.val := by
  have hl := l.isLt
  refine (headK_at (128 * h) _ _ hs (by omega) r l).trans ?_
  have e1 : k0_pay30 (F := Ideal) lane (ix2 r l) = if l.val = 64 then 1 else 0 := by
    pointwise [k0_pay30]
    rw [sel_row _ _ (by omega) (by omega)]
  rw [t_vv m c t b s r hr, e1]
  rw [show (128 * h + l.val) % 128 = l.val by omega, show (128 * h + l.val) / 128 = h by omega, rowV]
  by_cases h1 : l.val < 64
  · rw [if_pos h1, if_pos h1, if_neg (by omega), add_zero]
  · rw [if_neg h1, if_neg h1, zero_add]

end

end Cert.In
-- ==== Proof.InLowFinal.lean ====
module

public import proofs.«01_k».proof.Proof.InFinal
public import proofs.«01_k».proof.Proof.InLowPoint

@[expose] public section

set_option maxRecDepth 16384

/-! The input projection's queries, keys and values are the reference's. -/

noncomputable section

namespace Cert.In

open Cert.InProjIdeal Cert.InProjIdeal.Gen Idealize.ShloMosaic Idealize.ShloMosaic.TcCoe Idealize.SL.Sem Finset

variable (m : (ℓ : Loc nD τ sig) → Buf (Elt Ideal) ℓ) (c : Dev nD)

/-- The reference's projection of the arguments. -/
abbrev aPr : FVec Ideal Cert.InProjRefIdeal.S8x2048x4000 .f32 := Ref.proj (Ref.norm (aX m c) (aG m c)) (aW m c)

/-- The queries, of the arguments. -/
def arrQ : FVec Ideal S16384x1024 .bf16 :=
  Ref.outQ (Ref.quer (aPr m c) (aGQ m c) (aWQ m c))
    (Ref.turnQ (Ref.quer (aPr m c) (aGQ m c) (aWQ m c)) (Host.cos (Ref.ang (aP m c))) (Host.sin (Ref.ang (aP m c))))
/-- The keys, of the arguments. -/
def arrK : FVec Ideal S16384x1024 .bf16 :=
  Ref.outK (Ref.kval (aPr m c) (aGK m c) (aWK m c)) (Ref.turnK (aPr m c) (Host.cos (Ref.ang (aP m c))) (Host.sin (Ref.ang (aP m c))))
/-- The values, of the arguments. -/
def arrV : FVec Ideal S16384x1024 .bf16 := Ref.outV (Ref.kval (aPr m c) (aGK m c) (aWK m c))

/-- The reference's projection at a position is that position's row. -/
theorem pr_row (b : Fin 8) (s : Fin 2048) (j : Fin 4000) : aPr m c (ix3 b s j) = pN m c b s j.val := by
  refine (ref_prj (aX m c) (aG m c) (aW m c) b s j).trans ?_
  rw [pN, dif_pos j.isLt]

/-- The reference's angles at a position are that position's. -/
theorem ang_row (b : Fin 8) (s : Fin 2048) (j : Fin 16) : Ref.ang (aP m c) (ix3 b s j) = aN m c b s j.val := by
  rw [Ref.ang_at, aN, dif_pos j.isLt]

section

variable (t : Fin cfg0.N)

/-- A point's element of the queries. -/
theorem point_q (r j : Fin 1024) (hr : t.val * 1024 + r.val < 16384) :
    (outsAt0 m c t.val t.isLt).1 (ix2 r j) = arrQ m c (ix2 ⟨t.val * 1024 + r.val, hr⟩ j) := by
  obtain ⟨B, hB⟩ : ∃ B : Fin 8, B.val = t.val / 2 := ⟨⟨t.val / 2, by omega⟩, rfl⟩
  obtain ⟨S, hS⟩ : ∃ S : Fin 2048, S.val = t.val % 2 * 1024 + r.val := ⟨⟨t.val % 2 * 1024 + r.val, by omega⟩, rfl⟩
  have e : t.val * 1024 + r.val = B.val * 2048 + S.val := by omega
  refine Eq.trans ?_ (ref_q (pN m c B S) (aN m c B S) (aPr m c) (aP m c) B S ⟨t.val * 1024 + r.val, hr⟩ (e) (pr_row m c B S) (ang_row m c B S) (aGQ m c) (aWQ m c) j).symm
  by_cases h0 : t.val % 2 = 0
  · rw [outsAt0_A m c t h0]
    dsimp only
    exact outA15 (y := ix2 r j) (R := rowQ (pN m c B S) (aN m c B S) (aGQ m c) (aWQ m c)) (H := fun h hs l hh => t_q m c t B S r e h hs l hh) ..
  · rw [outsAt0_B m c t h0]
    dsimp only
    exact outB15 (y := ix2 r j) (R := rowQ (pN m c B S) (aN m c B S) (aGQ m c) (aWQ m c)) (H := fun h hs l hh => t_q m c t B S r e h hs l hh) ..

/-- A point's element of the keys. -/
theorem point_k (r j : Fin 1024) (hr : t.val * 1024 + r.val < 16384) :
    (outsAt0 m c t.val t.isLt).2.1 (ix2 r j) = arrK m c (ix2 ⟨t.val * 1024 + r.val, hr⟩ j) := by
  obtain ⟨B, hB⟩ : ∃ B : Fin 8, B.val = t.val / 2 := ⟨⟨t.val / 2, by omega⟩, rfl⟩
  obtain ⟨S, hS⟩ : ∃ S : Fin 2048, S.val = t.val % 2 * 1024 + r.val := ⟨⟨t.val % 2 * 1024 + r.val, by omega⟩, rfl⟩
  have e : t.val * 1024 + r.val = B.val * 2048 + S.val := by omega
  refine Eq.trans ?_ (ref_k (pN m c B S) (aN m c B S) (aPr m c) (aP m c) B S ⟨t.val * 1024 + r.val, hr⟩ (e) (pr_row m c B S) (ang_row m c B S) (aGK m c) (aWK m c) j).symm
  by_cases h0 : t.val % 2 = 0
  · rw [outsAt0_A m c t h0]
    dsimp only
    exact outA16 (y := ix2 r j) (R := rowK (pN m c B S) (aN m c B S) (aGK m c) (aWK m c)) (H := fun h hs l hh => t_k m c t B S r e h hs l hh) ..
  · rw [outsAt0_B m c t h0]
    dsimp only
    exact outB16 (y := ix2 r j) (R := rowK (pN m c B S) (aN m c B S) (aGK m c) (aWK m c)) (H := fun h hs l hh => t_k m c t B S r e h hs l hh) ..

/-- A point's element of the values. -/
theorem point_v (r j : Fin 1024) (hr : t.val * 1024 + r.val < 16384) :
    (outsAt0 m c t.val t.isLt).2.2.1 (ix2 r j) = arrV m c (ix2 ⟨t.val * 1024 + r.val, hr⟩ j) := by
  obtain ⟨B, hB⟩ : ∃ B : Fin 8, B.val = t.val / 2 := ⟨⟨t.val / 2, by omega⟩, rfl⟩
  obtain ⟨S, hS⟩ : ∃ S : Fin 2048, S.val = t.val % 2 * 1024 + r.val := ⟨⟨t.val % 2 * 1024 + r.val, by omega⟩, rfl⟩
  have e : t.val * 1024 + r.val = B.val * 2048 + S.val := by omega
  refine Eq.trans ?_ (ref_v (pN m c B S) (aPr m c) B S ⟨t.val * 1024 + r.val, hr⟩ (e) (pr_row m c B S) (aGK m c) (aWK m c) j).symm
  by_cases h0 : t.val % 2 = 0
  · rw [outsAt0_A m c t h0]
    dsimp only
    exact outA17 (y := ix2 r j) (R := rowV (pN m c B S) (aGK m c) (aWK m c)) (H := fun h hs l hh => t_v m c t B S r e h hs l hh) ..
  · rw [outsAt0_B m c t h0]
    dsimp only
    exact outB17 (y := ix2 r j) (R := rowV (pN m c B S) (aGK m c) (aWK m c)) (H := fun h hs l hh => t_v m c t B S r e h hs l hh) ..

end

/-- The queries. -/
theorem arr_q : (dats m 0 c).arrAt 15 cfg0.N = arrQ m c := by
  refine (dats m 0 c).arrAt_eq_of_covers 15 _ (by decide +kernel) fun t hf y => ?_
  blk_simp
  rw [after0_15]
  have ht : t.val < 16 := t.isLt
  have hy : (y 0).val < 1024 := (y 0).isLt
  refine (congrArg (outsAt0 m c t.val t.isLt).1 (eq_ix2 y)).trans ((point_q m c t (y 0) (y 1) (by omega)).trans (congrArg (arrQ m c) ?_))
  blk_ext [idx15 t]

/-- The keys. -/
theorem arr_k : (dats m 0 c).arrAt 16 cfg0.N = arrK m c := by
  refine (dats m 0 c).arrAt_eq_of_covers 16 _ (by decide +kernel) fun t hf y => ?_
  blk_simp
  rw [after0_16]
  have ht : t.val < 16 := t.isLt
  have hy : (y 0).val < 1024 := (y 0).isLt
  refine (congrArg (outsAt0 m c t.val t.isLt).2.1 (eq_ix2 y)).trans ((point_k m c t (y 0) (y 1) (by omega)).trans (congrArg (arrK m c) ?_))
  blk_ext [idx16 t]

/-- The values. -/
theorem arr_v : (dats m 0 c).arrAt 17 cfg0.N = arrV m c := by
  refine (dats m 0 c).arrAt_eq_of_covers 17 _ (by decide +kernel) fun t hf y => ?_
  blk_simp
  rw [after0_17]
  have ht : t.val < 16 := t.isLt
  have hy : (y 0).val < 1024 := (y 0).isLt
  refine (congrArg (outsAt0 m c t.val t.isLt).2.2.1 (eq_ix2 y)).trans ((point_v m c t (y 0) (y 1) (by omega)).trans (congrArg (arrV m c) ?_))
  blk_ext [idx17 t]

end Cert.In
-- ==== Proof.PoMath.lean ====
module

public import proofs.«01_k».proof.Proof.Scale
public import proofs.«01_k».proof.Proof.Heads

@[expose] public section

/-! The attention over the memory of one row, in the two forms the kernel and the reference compute, and why they agree. -/

noncomputable section

namespace Cert.Po

open Idealize.ShloMosaic Finset

/-- A score before scaling: a head's part of the query against the same part of a key. -/
def score (q : Fin 512 → EReal) (k : Fin 512 → EReal) (h : Fin 4) : EReal :=
  ∑ x : Fin 128, q ⟨h.val * 128 + x.val, by omega⟩ * k ⟨h.val * 128 + x.val, by omega⟩

/-- The kernel's form: the weighted values over the sum of the weights. -/
def late {n : ℕ} (s v : Fin n → EReal) : EReal :=
  Ideal.div (∑ m, Ideal.exp (s m - univ.fold max ⊥ s) * v m) (∑ m, Ideal.exp (s m - univ.fold max ⊥ s))

/-- The reference's form: the values weighted by the weights over their sum. -/
def early {n : ℕ} (s v : Fin n → EReal) : EReal :=
  ∑ m, v m * Ideal.div (Ideal.exp (s m - univ.fold max ⊥ s)) (∑ m, Ideal.exp (s m - univ.fold max ⊥ s))

/-- The largest of real numbers is real or minus infinity. -/
theorem fold_real {n : ℕ} (s : Fin n → EReal) (hs : ∀ m, Cert.Attn.IsReal (s m)) (hn : 0 < n) :
    Cert.Attn.IsReal (univ.fold max ⊥ s) := by
  have hle : ∀ m, s m ≤ univ.fold max ⊥ s := fun m => (Finset.le_fold_max _).2 (Or.inr ⟨m, mem_univ _, le_rfl⟩)
  have ht : univ.fold max ⊥ s < ⊤ := (Finset.fold_max_lt _).2 ⟨bot_lt_top, fun m _ => lt_top_iff_ne_top.2 (hs m).ne_top⟩
  have hb : univ.fold max ⊥ s ≠ ⊥ := fun hh => (hs ⟨0, hn⟩).ne_bot (le_bot_iff.1 (hh ▸ hle _))
  lift univ.fold max ⊥ s to ℝ using ⟨ht.ne, hb⟩ with M
  exact ⟨M, rfl⟩

/-- The two forms agree where the scores are real. -/
theorem late_eq_early {n : ℕ} (s v : Fin n → EReal) (hs : ∀ m, Cert.Attn.IsReal (s m)) (hn : 0 < n) : late s v = early s v := by
  obtain ⟨M, hM⟩ := fold_real s hs hn
  unfold late early
  rw [hM]
  have he : ∀ m, ∃ r : ℝ, 0 < r ∧ Ideal.exp (s m - (M : EReal)) = r := fun m => by
    obtain ⟨x, hx⟩ := hs m
    exact ⟨Real.exp (x - M), Real.exp_pos _, by rw [hx, ← EReal.coe_sub, Ideal.exp_coe]⟩
  choose r hr0 hr using he
  simp only [hr]
  have hS : (∑ m, (r m : EReal)) = ((∑ m, r m : ℝ) : EReal) := (Cert.Attn.coe_sum univ r).symm
  have hp : 0 < ∑ m, r m := sum_pos (fun m _ => hr0 m) ⟨⟨0, hn⟩, mem_univ _⟩
  have h0 : (0 : EReal) ≤ ((1 / ∑ m, r m : ℝ) : EReal) := by exact_mod_cast (one_div_pos.2 hp).le
  rw [hS]
  simp only [Ideal.div_coe hp.ne']
  rw [mul_comm, Cert.Attn.mul_sum' _ _ h0 (EReal.coe_ne_top _)]
  refine sum_congr rfl fun m _ => ?_
  rw [← mul_assoc, mul_comm _ (v m), mul_comm ((1 / ∑ m, r m : ℝ) : EReal)]

/-- The word of 128. -/
theorem ofBits_128 : Ideal.ofBits .f32 0x43000000#32 = ((128 : ℝ) : EReal) := by
  simp [Ideal.ofBits, Ideal.ieee, ← EReal.coe_mul]
  norm_num

/-- The scale of the scores, a real number. -/
abbrev root : EReal := (((Real.sqrt 128)⁻¹ : ℝ) : EReal)

/-- Queries scaled beforehand give the score over the root of 128. -/
theorem score_scaled (q k : Fin 512 → EReal) (h : Fin 4) :
    score (fun l => q l * root) k h = Ideal.div (score q k h) (Ideal.sqrt (Ideal.ofBits .f32 0x43000000#32)) := by
  have hp : 0 < Real.sqrt 128 := Real.sqrt_pos.2 (by norm_num)
  have h0 : (0 : EReal) ≤ root := EReal.coe_nonneg.2 (inv_pos.2 hp).le
  rw [ofBits_128, Ideal.sqrt_coe, if_neg (by norm_num), Ideal.div_coe hp.ne', one_div]
  refine Eq.trans (Eq.trans (sum_congr rfl fun x _ => ?_) (Cert.Attn.mul_sum' _ _ h0 (EReal.coe_ne_top _) _).symm) (mul_comm _ _)
  show q _ * root * k _ = _
  rw [mul_comm _ root, mul_assoc]

/-- A row normalised to root mean square one and scaled. -/
def nrm (x g : Fin 1024 → EReal) (k : Fin 1024) : EReal :=
  x k * Ideal.rsqrt (Ideal.div (∑ l, x l * x l) (Ideal.ofBits FTy.f32 0x44800000#32) + Ideal.ofBits FTy.f32 0x358637BD#32) * g k

/-- The product of an extended real with itself is not negative. -/
theorem sq_nonneg' (x : EReal) : 0 ≤ x * x := by
  induction x with
  | bot => simp
  | top => simp
  | coe r => exact_mod_cast mul_self_nonneg r

/-- The sum of the squares of a row with an infinite entry. -/
theorem sq_sum_top (x : Fin 1024 → EReal) (k : Fin 1024) (hk : ¬ Cert.Attn.IsReal (x k)) : (∑ l, x l * x l) = ⊤ := by
  have e : x k * x k = ⊤ := by
    generalize x k = y at hk
    induction y with
    | bot => simp
    | top => simp
    | coe r => exact absurd ⟨r, rfl⟩ hk
  exact top_le_iff.1 (e ▸ single_le_sum (f := fun l => x l * x l) (fun l _ => sq_nonneg' (x l)) (mem_univ k))

/-- A row normalised is real where the gains are: a row with an infinite entry becomes zero. -/
theorem nrm_real (x g : Fin 1024 → EReal) (hg : ∀ k, Cert.Attn.IsReal (g k)) (k : Fin 1024) : Cert.Attn.IsReal (nrm x g k) := by
  have e1 : Ideal.ofBits .f32 0x44800000#32 = ((1024 : ℝ) : EReal) := by
    simp [Ideal.ofBits, Ideal.ieee, ← EReal.coe_mul]
    norm_num
  obtain ⟨ε, he, hε⟩ : ∃ ε : ℝ, Ideal.ofBits .f32 0x358637BD#32 = (ε : EReal) ∧ 0 < ε := by
    refine ⟨(2 : ℝ) ^ (-20 : ℤ) * (1 + 407485 / 8388608), ?_, by positivity⟩
    simp [Ideal.ofBits, Ideal.ieee, ← EReal.coe_mul]
    norm_num
  unfold nrm
  refine Cert.Attn.IsReal.mul ?_ (hg k)
  by_cases hx : ∀ k, Cert.Attn.IsReal (x k)
  · choose y hy using hx
    have hp : 0 < (∑ l, y l * y l) * (1 / 1024) + ε :=
      add_pos_of_nonneg_of_pos (mul_nonneg (sum_nonneg fun l _ => mul_self_nonneg _) (by norm_num)) hε
    refine ((hy k).symm ▸ ⟨y k, rfl⟩ : Cert.Attn.IsReal (x k)).mul ?_
    simp only [hy, e1, he, ← EReal.coe_mul, ← Cert.Attn.coe_sum, Ideal.div_coe (by norm_num : (1024 : ℝ) ≠ 0), ← EReal.coe_add]
    rw [Ideal.rsqrt_coe, if_neg hp.not_gt, if_neg hp.ne']
    exact ⟨_, rfl⟩
  · obtain ⟨i, hi⟩ := not_forall.1 hx
    rw [sq_sum_top x i hi, e1, he, Ideal.div_coe (by norm_num : (1024 : ℝ) ≠ 0), EReal.top_mul_coe_of_pos (by norm_num), EReal.top_add_coe]
    refine ⟨0, (mul_zero (x k)).trans ?_⟩
    simp

end Cert.Po
-- ==== Proof.PoRows.lean ====
module

public import proofs.«01_k».proof.Proof.Gen.PostIdeal.Skeleton
public import proofs.«01_k».proof.Proof.PoMath
public import Idealize.ShloMosaic.Lib.Pipeline.ValueKit
public import Idealize.ShloMosaic.Lib.Pointwise

@[expose] public section

set_option maxRecDepth 16384

/-! The tiles the layer after attention stores, element by element. -/

noncomputable section

namespace Cert.Po

open Cert.PostIdeal Cert.PostIdeal.Gen Idealize.ShloMosaic Idealize.ShloMosaic.TcCoe Idealize.SL.Sem Finset

/-- The first head's columns of the memory's keys or values. -/
abbrev cols0 (w : Vec Ideal S256x512 .bf16) : Vec Ideal S256x128 .bf16 := View.ld w (Rect.unit ![0, 0] ![256, 128] inb_S256x512_S256x128_0_0)
/-- The second head's columns. -/
abbrev cols1 (w : Vec Ideal S256x512 .bf16) : Vec Ideal S256x128 .bf16 := View.ld w (Rect.unit ![0, 128] ![256, 128] inb_S256x512_S256x128_0_128)
/-- The third head's columns. -/
abbrev cols2 (w : Vec Ideal S256x512 .bf16) : Vec Ideal S256x128 .bf16 := View.ld w (Rect.unit ![0, 256] ![256, 128] inb_S256x512_S256x128_0_256)
/-- The fourth head's columns. -/
abbrev cols3 (w : Vec Ideal S256x512 .bf16) : Vec Ideal S256x128 .bf16 := View.ld w (Rect.unit ![0, 384] ![256, 128] inb_S256x512_S256x128_0_384)

section
variable (a : FVec Ideal S1024x1024 .f32) (b d : FVec Ideal S1024x1024 .bf16) (x6 : Vec Ideal S1x1024 .f32) (x7 : Vec Ideal S1024x512 .bf16)
  (x11 : Vec Ideal S512x1024 .bf16) (x12 : Vec Ideal S1x1024 .f32) (km vm : Vec Ideal S256x512 .bf16)

/-- The first result's tile, from the keys and values of the memory. -/
abbrev sumT : FVec Ideal S1024x1024 .f32 :=
  k0_pay17 (k0_pay9 a b d) (k0_pay11 a b d x6 x7 (cols0 km) (cols0 vm)) (k0_pay13 (k0_pay12 a b d x6 x7) (cols1 km) (cols1 vm))
    (k0_pay14 (k0_pay10 a b d x6 x7) (cols2 km) (cols2 vm)) (k0_pay15 (k0_pay10 a b d x6 x7) (cols3 km)) (k0_pay16 (k0_pay10 a b d x6 x7) (cols3 km))
    (cols3 vm) x11

/-- The second result's tile, likewise. -/
abbrev normT : FVec Ideal S128x8x1024 .f32 :=
  k0_pay19 (k0_pay9 a b d) (k0_pay11 a b d x6 x7 (cols0 km) (cols0 vm)) (k0_pay13 (k0_pay12 a b d x6 x7) (cols1 km) (cols1 vm))
    (k0_pay14 (k0_pay10 a b d x6 x7) (cols2 km) (cols2 vm)) (k0_pay15 (k0_pay10 a b d x6 x7) (cols3 km)) (k0_pay16 (k0_pay10 a b d x6 x7) (cols3 km))
    (cols3 vm) x11 x12
end

/-- The keys kept for a sequence. -/
theorem key_at (x8 : Vec Ideal S256x1024 .f32) (x9 : Vec Ideal S1x1024 .f32) (x10 : Vec Ideal S1024x1024 .bf16) (m : Fin 256) (l : Fin 512) :
    k0_pay4 (F := Ideal) x8 x9 x10 (ix2 m l)
      = ∑ k : Fin 1024, nrm (fun k => x8 (ix2 m k)) (fun k => x9 (ix2 0 k)) k * x10 (ix2 k (⟨l.val, by omega⟩ : Fin 1024)) := by
  pointwise [k0_pay4, k0_pay3]
  rfl

/-- The values kept for a sequence. -/
theorem val_at (x8 : Vec Ideal S256x1024 .f32) (x9 : Vec Ideal S1x1024 .f32) (x10 : Vec Ideal S1024x1024 .bf16) (m : Fin 256) (l : Fin 512) :
    k0_pay5 (F := Ideal) x8 x9 x10 (ix2 m l)
      = ∑ k : Fin 1024, nrm (fun k => x8 (ix2 m k)) (fun k => x9 (ix2 0 k)) k * x10 (ix2 k (⟨512 + l.val, by omega⟩ : Fin 1024)) := by
  pointwise [k0_pay5, k0_pay3]
  rfl

/-- A mixed activation. -/
theorem mix_at (x0 : Vec Ideal S1024x1024 .f32) (x1 : Vec Ideal S1024x512 .bf16) (x4 : Vec Ideal S512x1024 .bf16)
    (x2 x3 x5 : Vec Ideal S1024x1024 .bf16) (r j : Fin 1024) :
    k0_pay9 (F := Ideal) (k0_pay6 x0) (k0_pay7 x1 x4 x2 x3) (k0_pay8 x5) (ix2 r j)
      = x0 (ix2 r j) + ∑ k : Fin 1024, (x2 (ix2 r k) * (∑ l : Fin 512, x1 (ix2 r l) * x4 (ix2 l k)) + x3 (ix2 r k)) * x5 (ix2 k j) := by
  pointwise [k0_pay9, k0_pay6, k0_pay7, k0_pay8]

section
variable (a : FVec Ideal S1024x1024 .f32) (b d : FVec Ideal S1024x1024 .bf16) (x6 : Vec Ideal S1x1024 .f32) (x7 : Vec Ideal S1024x512 .bf16)
  (x11 : Vec Ideal S512x1024 .bf16) (x12 : Vec Ideal S1x1024 .f32) (km vm : Vec Ideal S256x512 .bf16)

/-- A scaled query. -/
theorem query_at (r : Fin 1024) (l : Fin 512) :
    k0_pay10 (F := Ideal) a b d x6 x7 (ix2 r l)
      = (∑ k : Fin 1024, nrm (fun k => k0_pay9 (F := Ideal) a b d (ix2 r k)) (fun k => x6 (ix2 0 k)) k * x7 (ix2 k l)) * root := by
  pointwise [k0_pay10]
  rfl

/-- A row of scaled queries. -/
abbrev qrow (r : Fin 1024) (l : Fin 512) : EReal := k0_pay10 (F := Ideal) a b d x6 x7 (ix2 r l)

/-- The attention over the memory for one row and one column. -/
abbrev head (r : Fin 1024) (l : Fin 512) : EReal :=
  late (fun m : Fin 256 => score (qrow a b d x6 x7 r) (fun l => km (ix2 m l)) ⟨l.val / 128, by omega⟩) (fun m => vm (ix2 m l))

/-- Any reading of one head's queries, keys and values gives that head. -/
theorem head_of (r : Fin 1024) (l : Fin 512) (o : ℕ) (ho : o = l.val / 128 * 128) (hb : ∀ x : Fin 128, o + x.val < 512) (qf : Fin 128 → EReal)
    (kf : Fin 256 → Fin 128 → EReal) (vf : Fin 256 → EReal) (hq : ∀ x, qf x = qrow a b d x6 x7 r ⟨o + x.val, hb x⟩)
    (hk : ∀ m x, kf m x = km (ix2 m ⟨o + x.val, hb x⟩)) (hv : ∀ m, vf m = vm (ix2 m l)) :
    late (fun m => ∑ x, qf x * kf m x) vf = head a b d x6 x7 km vm r l := by
  subst ho
  obtain rfl : vf = fun m => vm (ix2 m l) := funext hv
  have e : (fun m => ∑ x, qf x * kf m x)
      = fun m : Fin 256 => score (qrow a b d x6 x7 r) (fun l => km (ix2 m l)) ⟨l.val / 128, by omega⟩ :=
    funext fun m => sum_congr rfl fun x _ => by rw [hq, hk]
  rw [e]

/-- A load of one head's columns. -/
theorem cols_at (w : Vec Ideal S256x512 .bf16) (o : ℕ) (inb) (m : Fin 256) (x : Fin 128) (hb : o + x.val < 512) :
    View.ld (Val := Elt Ideal) w (Rect.unit (s := S256x512) ![0, o] ![256, 128] inb) (ix2 m x) = w (ix2 m ⟨o + x.val, hb⟩) := by
  refine congrArg w (funext fun i => Fin.ext ?_)
  fin_cases i <;> simp [Rect.unit, ix2]

/-- The first head. -/
theorem head0 (r : Fin 1024) (l : Fin 512) (h : l.val < 128) :
    k0_pay11 (F := Ideal) a b d x6 x7 (cols0 km) (cols0 vm) (ix2 r ⟨l.val, h⟩) = head a b d x6 x7 km vm r l := by
  refine Eq.trans ?_ (head_of a b d x6 x7 km vm r l 0 (by omega) (fun x => by omega)
    (fun x => k0_pay10 (F := Ideal) a b d x6 x7 (ix2 r ⟨x.val, by omega⟩)) (fun m x => cols0 km (ix2 m x)) (fun m => cols0 vm (ix2 m ⟨l.val, h⟩))
    (fun x => ?_) (fun m x => cols_at km 0 _ m x _) (fun m => ?_))
  · pointwise [k0_pay11]
    rw [Cert.Attn.neg_inf]
    rfl
  · simp only [Nat.zero_add]
  · refine (cols_at vm 0 _ m _ (by omega)).trans ?_
    simp only [Nat.zero_add, Fin.eta]

/-- The second head. -/
theorem head1 (r : Fin 1024) (l : Fin 512) (h0 : 128 ≤ l.val) (h : l.val - 128 < 128) :
    k0_pay13 (F := Ideal) (k0_pay12 a b d x6 x7) (cols1 km) (cols1 vm) (ix2 r ⟨l.val - 128, h⟩) = head a b d x6 x7 km vm r l := by
  refine Eq.trans ?_ (head_of a b d x6 x7 km vm r l 128 (by omega) (fun x => by omega)
    (fun x => k0_pay10 (F := Ideal) a b d x6 x7 (ix2 r ⟨128 + x.val, by omega⟩)) (fun m x => cols1 km (ix2 m x)) (fun m => cols1 vm (ix2 m ⟨l.val - 128, h⟩))
    (fun x => rfl) (fun m x => cols_at km 128 _ m x _) (fun m => ?_))
  · pointwise [k0_pay13, k0_pay12]
    rw [Cert.Attn.neg_inf]
    rfl
  · refine (cols_at vm 128 _ m _ (by omega)).trans ?_
    have e : 128 + (l.val - 128) = l.val := by omega
    simp only [e, Fin.eta]

/-- The third head. -/
theorem head2 (r : Fin 1024) (l : Fin 512) (h0 : 256 ≤ l.val) (h : l.val - 128 - 128 < 128) :
    k0_pay14 (F := Ideal) (k0_pay10 a b d x6 x7) (cols2 km) (cols2 vm) (ix2 r ⟨l.val - 128 - 128, h⟩) = head a b d x6 x7 km vm r l := by
  refine Eq.trans ?_ (head_of a b d x6 x7 km vm r l 256 (by omega) (fun x => by omega)
    (fun x => k0_pay10 (F := Ideal) a b d x6 x7 (ix2 r ⟨256 + x.val, by omega⟩)) (fun m x => cols2 km (ix2 m x)) (fun m => cols2 vm (ix2 m ⟨l.val - 128 - 128, h⟩))
    (fun x => rfl) (fun m x => cols_at km 256 _ m x _) (fun m => ?_))
  · pointwise [k0_pay14]
    rw [Cert.Attn.neg_inf]
    rfl
  · refine (cols_at vm 256 _ m _ (by omega)).trans ?_
    have e : 256 + (l.val - 128 - 128) = l.val := by omega
    simp only [e, Fin.eta]

/-- The fourth head. -/
theorem head3 (r : Fin 1024) (l : Fin 512) (h0 : 384 ≤ l.val) (h : l.val - 128 - 128 - 128 < 128) :
    Ideal.div (∑ x : Fin 256, k0_pay16 (F := Ideal) (k0_pay10 a b d x6 x7) (cols3 km) (ix2 r x) * cols3 vm (ix2 x ⟨l.val - 128 - 128 - 128, h⟩))
      (∑ x : Fin 256, k0_pay15 (F := Ideal) (k0_pay10 a b d x6 x7) (cols3 km) (ix2 r x)) = head a b d x6 x7 km vm r l := by
  refine Eq.trans ?_ (head_of a b d x6 x7 km vm r l 384 (by omega) (fun x => by omega)
    (fun x => k0_pay10 (F := Ideal) a b d x6 x7 (ix2 r ⟨384 + x.val, by omega⟩)) (fun m x => cols3 km (ix2 m x)) (fun m => cols3 vm (ix2 m ⟨l.val - 128 - 128 - 128, h⟩))
    (fun x => rfl) (fun m x => cols_at km 384 _ m x _) (fun m => ?_))
  · pointwise [k0_pay15, k0_pay16]
    rw [Cert.Attn.neg_inf]
    rfl
  · refine (cols_at vm 384 _ m _ (by omega)).trans ?_
    have e : 384 + (l.val - 128 - 128 - 128) = l.val := by omega
    simp only [e, Fin.eta]

/-- The first result's tile from its four heads, one beside the other. -/
theorem joined_at (y : FVec Ideal S1024x1024 .f32) (p0 p1 p2 : FVec Ideal S1024x128 .bf16) (e : FVec Ideal S1024x256 .f32)
    (e' : FVec Ideal S1024x256 .bf16) (w : Vec Ideal S256x128 .bf16) (r j : Fin 1024) :
    k0_pay17 (F := Ideal) y p0 p1 p2 e e' w x11 (ix2 r j)
      = y (ix2 r j) + ∑ l : Fin 512, (if h : l.val < 128 then p0 (ix2 r ⟨l.val, h⟩) else
          if h : l.val - 128 < 128 then p1 (ix2 r ⟨l.val - 128, h⟩) else
            if h : l.val - 128 - 128 < 128 then p2 (ix2 r ⟨l.val - 128 - 128, h⟩) else
              Ideal.div (∑ x : Fin 256, e' (ix2 r x) * w (ix2 x (⟨l.val - 128 - 128 - 128, by omega⟩ : Fin 128))) (∑ x : Fin 256, e (ix2 r x)))
        * x11 (ix2 l j) := by
  pointwise [k0_pay17]

/-- An element of the first result's tile. -/
theorem sum_at (r j : Fin 1024) :
    sumT a b d x6 x7 x11 km vm (ix2 r j)
      = k0_pay9 (F := Ideal) a b d (ix2 r j) + ∑ l : Fin 512, head a b d x6 x7 km vm r l * x11 (ix2 l j) := by
  refine (joined_at x11 _ _ _ _ _ _ _ r j).trans (congrArg (k0_pay9 (F := Ideal) a b d (ix2 r j) + ·) (sum_congr rfl fun l _ => congrArg (· * x11 (ix2 l j)) ?_))
  by_cases h0 : l.val < 128
  · rw [dif_pos h0]
    exact head0 a b d x6 x7 km vm r l h0
  rw [dif_neg h0]
  by_cases h1 : l.val - 128 < 128
  · rw [dif_pos h1]
    exact head1 a b d x6 x7 km vm r l (by omega) h1
  rw [dif_neg h1]
  by_cases h2 : l.val - 128 - 128 < 128
  · rw [dif_pos h2]
    exact head2 a b d x6 x7 km vm r l (by omega) h2
  rw [dif_neg h2]
  exact head3 a b d x6 x7 km vm r l (by omega) (by omega)

/-- An element of the second result's tile. -/
theorem norm_at (p : Fin 128) (k : Fin 8) (j : Fin 1024) :
    normT a b d x6 x7 x11 x12 km vm (ix3 p k j)
      = nrm (fun j => sumT a b d x6 x7 x11 km vm (ix2 (⟨p.val * 8 + k.val, by omega⟩ : Fin 1024) j)) (fun j => x12 (ix2 0 j)) j := by
  unfold normT
  pointwise [k0_pay19, k0_pay18]
  rfl

end

end Cert.Po
-- ==== Proof.PoBody.lean ====
module

public import proofs.«01_k».proof.Proof.Gen.PostIdeal.Value
public import proofs.«01_k».proof.Proof.PoRows
public import Idealize.ShloMosaic.Lib.Pipeline.ValueKit
public import Idealize.ShloMosaic.Lib.Pipeline.ReadBack
public import Idealize.ShloMosaic.Lib.Pointwise

@[expose] public section

set_option maxRecDepth 16384

/-! What the layer after attention stores at a point, as one term per result. -/

noncomputable section

namespace Cert.Po

open Cert.PostIdeal Cert.PostIdeal.Gen Idealize.ShloMosaic Idealize.ShloMosaic.TcCoe Idealize.SL.Sem Finset

/-- A load of part of a buffer that one store has filled reads what was stored. -/
theorem ld_fill (v : View sig .tc .vmem S256x512 .bf16) (w : Vec Ideal S256x512 .bf16) (B : Rect S256x512) :
    v.readCov (Val := Elt Ideal) [⟨Rect.unit ![0, 0] S256x512.size inb_S256x512_S256x512_0_0, w⟩] B.toLoadRect = View.ld w B := by
  rw [View.readCov_eq_canon']
  rw [View.canon_cons_unit_lit _ _ _ (by decide)]

section

variable (c : Dev nD) (i : grid0.Coords) (arg1 : Memref sig .tc .vmem S1024x1024 .f32) (harg1 : arg1.IsWhole)
  (arg2 : Memref sig .tc .vmem S1024x512 .bf16) (harg2 : arg2.IsWhole) (arg3 : Memref sig .tc .vmem S1024x1024 .bf16) (harg3 : arg3.IsWhole)
  (arg4 : Memref sig .tc .vmem S1024x1024 .bf16) (harg4 : arg4.IsWhole) (arg5 : Memref sig .tc .vmem S512x1024 .bf16) (harg5 : arg5.IsWhole)
  (arg6 : Memref sig .tc .vmem S1024x1024 .bf16) (harg6 : arg6.IsWhole) (arg7 : Memref sig .tc .vmem S1x1024 .f32) (harg7 : arg7.IsWhole)
  (arg8 : Memref sig .tc .vmem S1024x512 .bf16) (harg8 : arg8.IsWhole) (arg9 : Memref sig .tc .vmem S256x1024 .f32) (harg9 : arg9.IsWhole)
  (arg10 : Memref sig .tc .vmem S1x1024 .f32) (harg10 : arg10.IsWhole) (arg11 : Memref sig .tc .vmem S1024x1024 .bf16) (harg11 : arg11.IsWhole)
  (arg12 : Memref sig .tc .vmem S512x1024 .bf16) (harg12 : arg12.IsWhole) (arg13 : Memref sig .tc .vmem S1x1024 .f32) (harg13 : arg13.IsWhole)
  (arg14 : Memref sig .tc .vmem S1024x128 .bf16) (harg14 : arg14.IsWhole) (arg15 : Memref sig .tc .vmem S1x128 .f32) (harg15 : arg15.IsWhole)
  (arg16 : Memref sig .tc .vmem S1024x1024 .f32) (harg16 : arg16.IsWhole) (arg17 : Memref sig .tc .vmem S128x8x1024 .f32) (harg17 : arg17.IsWhole)
  (arg18 : Memref sig .tc .vmem S8x1024 .f32) (harg18 : arg18.IsWhole) (arg19 : Memref sig .tc .vmem S1024x128 .f32) (harg19 : arg19.IsWhole)
  (arg20 : Memref sig .tc .vmem S8x128 .i32) (harg20 : arg20.IsWhole) (arg21 : Memref sig .tc .vmem S1x128 .f32) (harg21 : arg21.IsWhole)
  (arg22 : Memref sig .tc .vmem S256x512 .bf16) (harg22 : arg22.IsWhole) (arg23 : Memref sig .tc .vmem S256x512 .bf16) (harg23 : arg23.IsWhole)
  (x0 : Vec Ideal S1024x1024 .f32) (x1 : Vec Ideal S1024x512 .bf16) (x2 : Vec Ideal S1024x1024 .bf16) (x3 : Vec Ideal S1024x1024 .bf16)
  (x4 : Vec Ideal S512x1024 .bf16) (x5 : Vec Ideal S1024x1024 .bf16) (x6 : Vec Ideal S1x1024 .f32) (x7 : Vec Ideal S1024x512 .bf16)
  (x8 : Vec Ideal S256x1024 .f32) (x9 : Vec Ideal S1x1024 .f32) (x10 : Vec Ideal S1024x1024 .bf16) (x11 : Vec Ideal S512x1024 .bf16)
  (x12 : Vec Ideal S1x1024 .f32) (x13 : Vec Ideal S1024x128 .bf16) (x14 : Vec Ideal S1x128 .f32)

/-- The first result's tile where a sequence starts first. -/
theorem outA15 (hc0 : cond0_0 i) (hc1 : cond0_1 i) (y : S1024x1024.Idx) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 y
      = sumT (k0_pay6 x0) (k0_pay7 x1 x4 x2 x3) (k0_pay8 x5) x6 x7 x11 (k0_pay4 x8 x9 x10) (k0_pay5 x8 x9 x10) y := by
  frame_out
  rw [ld_fill arg22.view (k0_pay4 x8 x9 x10) (Rect.unit ![0, 0] ![256, 128] inb_S256x512_S256x128_0_0),
    ld_fill arg22.view (k0_pay4 x8 x9 x10) (Rect.unit ![0, 128] ![256, 128] inb_S256x512_S256x128_0_128),
    ld_fill arg22.view (k0_pay4 x8 x9 x10) (Rect.unit ![0, 256] ![256, 128] inb_S256x512_S256x128_0_256),
    ld_fill arg22.view (k0_pay4 x8 x9 x10) (Rect.unit ![0, 384] ![256, 128] inb_S256x512_S256x128_0_384),
    ld_fill arg23.view (k0_pay5 x8 x9 x10) (Rect.unit ![0, 0] ![256, 128] inb_S256x512_S256x128_0_0),
    ld_fill arg23.view (k0_pay5 x8 x9 x10) (Rect.unit ![0, 128] ![256, 128] inb_S256x512_S256x128_0_128),
    ld_fill arg23.view (k0_pay5 x8 x9 x10) (Rect.unit ![0, 256] ![256, 128] inb_S256x512_S256x128_0_256),
    ld_fill arg23.view (k0_pay5 x8 x9 x10) (Rect.unit ![0, 384] ![256, 128] inb_S256x512_S256x128_0_384)]

/-- The first result's tile in the second half of a sequence. -/
theorem outB15 (hc0 : ¬cond0_0 i) (hc1 : ¬cond0_1 i) (xs0 : Vec Ideal S1x128 .f32) (xs1 xs2 : Vec Ideal S256x512 .bf16) (y : S1024x1024.Idx) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 y
      = sumT (k0_pay6 x0) (k0_pay7 x1 x4 x2 x3) (k0_pay8 x5) x6 x7 x11 xs1 xs2 y := by
  frame_out

/-- The first result's tile in the first half of a later sequence. -/
theorem outC15 (hc0 : ¬cond0_0 i) (hc1 : cond0_1 i) (xs0 : Vec Ideal S1x128 .f32) (y : S1024x1024.Idx) :
    out0_C_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 y
      = sumT (k0_pay6 x0) (k0_pay7 x1 x4 x2 x3) (k0_pay8 x5) x6 x7 x11 (k0_pay4 x8 x9 x10) (k0_pay5 x8 x9 x10) y := by
  frame_out
  rw [ld_fill arg22.view (k0_pay4 x8 x9 x10) (Rect.unit ![0, 0] ![256, 128] inb_S256x512_S256x128_0_0),
    ld_fill arg22.view (k0_pay4 x8 x9 x10) (Rect.unit ![0, 128] ![256, 128] inb_S256x512_S256x128_0_128),
    ld_fill arg22.view (k0_pay4 x8 x9 x10) (Rect.unit ![0, 256] ![256, 128] inb_S256x512_S256x128_0_256),
    ld_fill arg22.view (k0_pay4 x8 x9 x10) (Rect.unit ![0, 384] ![256, 128] inb_S256x512_S256x128_0_384),
    ld_fill arg23.view (k0_pay5 x8 x9 x10) (Rect.unit ![0, 0] ![256, 128] inb_S256x512_S256x128_0_0),
    ld_fill arg23.view (k0_pay5 x8 x9 x10) (Rect.unit ![0, 128] ![256, 128] inb_S256x512_S256x128_0_128),
    ld_fill arg23.view (k0_pay5 x8 x9 x10) (Rect.unit ![0, 256] ![256, 128] inb_S256x512_S256x128_0_256),
    ld_fill arg23.view (k0_pay5 x8 x9 x10) (Rect.unit ![0, 384] ![256, 128] inb_S256x512_S256x128_0_384)]

/-- The second result's tile where a sequence starts first. -/
theorem outA16 (hc0 : cond0_0 i) (hc1 : cond0_1 i) (y : S128x8x1024.Idx) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 y
      = normT (k0_pay6 x0) (k0_pay7 x1 x4 x2 x3) (k0_pay8 x5) x6 x7 x11 x12 (k0_pay4 x8 x9 x10) (k0_pay5 x8 x9 x10) y := by
  frame_out
  rw [ld_fill arg22.view (k0_pay4 x8 x9 x10) (Rect.unit ![0, 0] ![256, 128] inb_S256x512_S256x128_0_0),
    ld_fill arg22.view (k0_pay4 x8 x9 x10) (Rect.unit ![0, 128] ![256, 128] inb_S256x512_S256x128_0_128),
    ld_fill arg22.view (k0_pay4 x8 x9 x10) (Rect.unit ![0, 256] ![256, 128] inb_S256x512_S256x128_0_256),
    ld_fill arg22.view (k0_pay4 x8 x9 x10) (Rect.unit ![0, 384] ![256, 128] inb_S256x512_S256x128_0_384),
    ld_fill arg23.view (k0_pay5 x8 x9 x10) (Rect.unit ![0, 0] ![256, 128] inb_S256x512_S256x128_0_0),
    ld_fill arg23.view (k0_pay5 x8 x9 x10) (Rect.unit ![0, 128] ![256, 128] inb_S256x512_S256x128_0_128),
    ld_fill arg23.view (k0_pay5 x8 x9 x10) (Rect.unit ![0, 256] ![256, 128] inb_S256x512_S256x128_0_256),
    ld_fill arg23.view (k0_pay5 x8 x9 x10) (Rect.unit ![0, 384] ![256, 128] inb_S256x512_S256x128_0_384)]

/-- The second result's tile in the second half of a sequence. -/
theorem outB16 (hc0 : ¬cond0_0 i) (hc1 : ¬cond0_1 i) (xs0 : Vec Ideal S1x128 .f32) (xs1 xs2 : Vec Ideal S256x512 .bf16) (y : S128x8x1024.Idx) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 y
      = normT (k0_pay6 x0) (k0_pay7 x1 x4 x2 x3) (k0_pay8 x5) x6 x7 x11 x12 xs1 xs2 y := by
  frame_out

/-- The second result's tile in the first half of a later sequence. -/
theorem outC16 (hc0 : ¬cond0_0 i) (hc1 : cond0_1 i) (xs0 : Vec Ideal S1x128 .f32) (y : S128x8x1024.Idx) :
    out0_C_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 y
      = normT (k0_pay6 x0) (k0_pay7 x1 x4 x2 x3) (k0_pay8 x5) x6 x7 x11 x12 (k0_pay4 x8 x9 x10) (k0_pay5 x8 x9 x10) y := by
  frame_out
  rw [ld_fill arg22.view (k0_pay4 x8 x9 x10) (Rect.unit ![0, 0] ![256, 128] inb_S256x512_S256x128_0_0),
    ld_fill arg22.view (k0_pay4 x8 x9 x10) (Rect.unit ![0, 128] ![256, 128] inb_S256x512_S256x128_0_128),
    ld_fill arg22.view (k0_pay4 x8 x9 x10) (Rect.unit ![0, 256] ![256, 128] inb_S256x512_S256x128_0_256),
    ld_fill arg22.view (k0_pay4 x8 x9 x10) (Rect.unit ![0, 384] ![256, 128] inb_S256x512_S256x128_0_384),
    ld_fill arg23.view (k0_pay5 x8 x9 x10) (Rect.unit ![0, 0] ![256, 128] inb_S256x512_S256x128_0_0),
    ld_fill arg23.view (k0_pay5 x8 x9 x10) (Rect.unit ![0, 128] ![256, 128] inb_S256x512_S256x128_0_128),
    ld_fill arg23.view (k0_pay5 x8 x9 x10) (Rect.unit ![0, 256] ![256, 128] inb_S256x512_S256x128_0_256),
    ld_fill arg23.view (k0_pay5 x8 x9 x10) (Rect.unit ![0, 384] ![256, 128] inb_S256x512_S256x128_0_384)]

/-- The memory's keys kept for the second half. -/
theorem soutA1 (hc0 : cond0_0 i) (hc1 : cond0_1 i) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = k0_pay4 x8 x9 x10 := by
  frame_out

/-- The memory's values kept for the second half. -/
theorem soutA2 (hc0 : cond0_0 i) (hc1 : cond0_1 i) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = k0_pay5 x8 x9 x10 := by
  frame_out

/-- The memory's keys kept for the second half. -/
theorem soutC1 (hc0 : ¬cond0_0 i) (hc1 : cond0_1 i) (xs0 : Vec Ideal S1x128 .f32) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 = k0_pay4 x8 x9 x10 := by
  frame_out

/-- The memory's values kept for the second half. -/
theorem soutC2 (hc0 : ¬cond0_0 i) (hc1 : cond0_1 i) (xs0 : Vec Ideal S1x128 .f32) :
    sout0_C_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 = k0_pay5 x8 x9 x10 := by
  frame_out

end

end Cert.Po
-- ==== Proof.PoHost.lean ====
module

public import proofs.«01_k».proof.Proof.PoBody

@[expose] public section

set_option maxRecDepth 16384

/-! The blocks a point of the layer after attention reads, as elements of the arguments. -/

noncomputable section

namespace Cert.Po

open Cert.PostIdeal Cert.PostIdeal.Gen Idealize.ShloMosaic Idealize.ShloMosaic.TcCoe Idealize.SL.Sem Finset

section

variable (m : (ℓ : Loc nD τ sig) → Buf (Elt Ideal) ℓ) (c : Dev nD)

/-- The activations. -/
abbrev aX : FVec Ideal S8x2048x1024 .f32 := m ((c : Thread nD τ).loc main_arg0)
/-- The attention's results. -/
abbrev aO : FVec Ideal S8x2048x512 .f32 := m ((c : Thread nD τ).loc main_arg1)
/-- The first branch's gates. -/
abbrev aGa : FVec Ideal S8x2048x1024 .f32 := m ((c : Thread nD τ).loc main_arg2)
/-- The other branch, gated. -/
abbrev aMb : FVec Ideal S8x2048x1024 .f32 := m ((c : Thread nD τ).loc main_arg3)
/-- The memory. -/
abbrev aMem : FVec Ideal S8x256x1024 .f32 := m ((c : Thread nD τ).loc main_arg4)
/-- The first branch's weights. -/
abbrev aWb : FVec Ideal S512x1024 .f32 := m ((c : Thread nD τ).loc main_arg5)
/-- The mix's weights. -/
abbrev aWo : FVec Ideal S1024x1024 .f32 := m ((c : Thread nD τ).loc main_arg6)
/-- The gains before the queries. -/
abbrev aGx : FVec Ideal S1x1024 .f32 := m ((c : Thread nD τ).loc main_arg7)
/-- The queries' weights. -/
abbrev aWq : FVec Ideal S1024x512 .f32 := m ((c : Thread nD τ).loc main_arg8)
/-- The memory's gains. -/
abbrev aGm : FVec Ideal S1x1024 .f32 := m ((c : Thread nD τ).loc main_arg9)
/-- The keys' and values' weights. -/
abbrev aWkv : FVec Ideal S1024x1024 .f32 := m ((c : Thread nD τ).loc main_arg10)
/-- The weights after the memory. -/
abbrev aWm : FVec Ideal S512x1024 .f32 := m ((c : Thread nD τ).loc main_arg11)
/-- The gains before the experts. -/
abbrev aGe : FVec Ideal S1x1024 .f32 := m ((c : Thread nD τ).loc main_arg12)

/-- The activations as the call takes them: one row per position. -/
theorem V_x (b : Fin 8) (s : Fin 2048) (k : Fin 1024) (r : Fin 16384) (hr : r.val = b.val * 2048 + s.val) :
    (V m c main_v5 : FVec Ideal S16384x1024 .f32) (ix2 r k) = aX m c (ix3 b s k) := by
  obtain ⟨e1, e2⟩ : r.val / 2048 = b.val ∧ r.val % 2048 = s.val := by omega
  unfold V hostOps0
  after_results_simp
  pointwise []
  simp only [e1, e2, Fin.eta]

/-- The attention results as the call takes them: one row per position. -/
theorem V_o (b : Fin 8) (s : Fin 2048) (k : Fin 512) (r : Fin 16384) (hr : r.val = b.val * 2048 + s.val) :
    (V m c main_v7 : FVec Ideal S16384x512 .bf16) (ix2 r k) = aO m c (ix3 b s k) := by
  obtain ⟨e1, e2⟩ : r.val / 2048 = b.val ∧ r.val % 2048 = s.val := by omega
  unfold V hostOps0
  after_results_simp
  pointwise []
  simp only [e1, e2, Fin.eta]

/-- The gates as the call takes them: one row per position. -/
theorem V_ga (b : Fin 8) (s : Fin 2048) (k : Fin 1024) (r : Fin 16384) (hr : r.val = b.val * 2048 + s.val) :
    (V m c main_v9 : FVec Ideal S16384x1024 .bf16) (ix2 r k) = aGa m c (ix3 b s k) := by
  obtain ⟨e1, e2⟩ : r.val / 2048 = b.val ∧ r.val % 2048 = s.val := by omega
  unfold V hostOps0
  after_results_simp
  pointwise []
  simp only [e1, e2, Fin.eta]

/-- The other branch as the call takes them: one row per position. -/
theorem V_mb (b : Fin 8) (s : Fin 2048) (k : Fin 1024) (r : Fin 16384) (hr : r.val = b.val * 2048 + s.val) :
    (V m c main_v11 : FVec Ideal S16384x1024 .bf16) (ix2 r k) = aMb m c (ix3 b s k) := by
  obtain ⟨e1, e2⟩ : r.val / 2048 = b.val ∧ r.val % 2048 = s.val := by omega
  unfold V hostOps0
  after_results_simp
  pointwise []
  simp only [e1, e2, Fin.eta]

/-- The memory as the call takes it: one row per slot. -/
theorem V_mem (b : Fin 8) (s : Fin 256) (k : Fin 1024) (r : Fin 2048) (hr : r.val = b.val * 256 + s.val) :
    (V m c main_v15 : FVec Ideal S2048x1024 .f32) (ix2 r k) = aMem m c (ix3 b s k) := by
  obtain ⟨e1, e2⟩ : r.val / 256 = b.val ∧ r.val % 256 = s.val := by omega
  unfold V hostOps0
  after_results_simp
  pointwise []
  simp only [e1, e2, Fin.eta]

/-- The first branch's weights as the call takes them. -/
theorem V_wb (k : Fin 512) (j : Fin 1024) : (V m c main_v12 : FVec Ideal S512x1024 .bf16) (ix2 k j) = aWb m c (ix2 k j) := by
  unfold V hostOps0
  after_results_simp
  pointwise []

/-- The mix's weights as the call takes them. -/
theorem V_wo (k : Fin 1024) (j : Fin 1024) : (V m c main_v13 : FVec Ideal S1024x1024 .bf16) (ix2 k j) = aWo m c (ix2 k j) := by
  unfold V hostOps0
  after_results_simp
  pointwise []

/-- The gains before the queries as the call takes them. -/
theorem V_gx (j : Fin 1024) : (V m c main_arg7 : FVec Ideal S1x1024 .f32) (ix2 0 j) = aGx m c (ix2 0 j) := by
  unfold V hostOps0
  after_results_simp

/-- The queries' weights as the call takes them. -/
theorem V_wq (k : Fin 1024) (j : Fin 512) : (V m c main_v14 : FVec Ideal S1024x512 .bf16) (ix2 k j) = aWq m c (ix2 k j) := by
  unfold V hostOps0
  after_results_simp
  pointwise []

/-- The memory's gains as the call takes them. -/
theorem V_gm (j : Fin 1024) : (V m c main_arg9 : FVec Ideal S1x1024 .f32) (ix2 0 j) = aGm m c (ix2 0 j) := by
  unfold V hostOps0
  after_results_simp

/-- The keys' and values' weights as the call takes them. -/
theorem V_wkv (k : Fin 1024) (j : Fin 1024) : (V m c main_v16 : FVec Ideal S1024x1024 .bf16) (ix2 k j) = aWkv m c (ix2 k j) := by
  unfold V hostOps0
  after_results_simp
  pointwise []

/-- The weights after the memory as the call takes them. -/
theorem V_wm (k : Fin 512) (j : Fin 1024) : (V m c main_v17 : FVec Ideal S512x1024 .bf16) (ix2 k j) = aWm m c (ix2 k j) := by
  unfold V hostOps0
  after_results_simp
  pointwise []

/-- The gains before the experts as the call takes them. -/
theorem V_ge (j : Fin 1024) : (V m c main_arg12 : FVec Ideal S1x1024 .f32) (ix2 0 j) = aGe m c (ix2 0 j) := by
  unfold V hostOps0
  after_results_simp

/-- Which block window 0 has at a point. -/
theorem idx0 : ∀ t : Fin cfg0.N, (cfg0.win 0).index t = ![t.val, 0] := (by decide +kernel : ∀ t : Fin grid0.N, _)
/-- Which block window 1 has at a point. -/
theorem idx1 : ∀ t : Fin cfg0.N, (cfg0.win 1).index t = ![t.val, 0] := (by decide +kernel : ∀ t : Fin grid0.N, _)
/-- Which block window 2 has at a point. -/
theorem idx2 : ∀ t : Fin cfg0.N, (cfg0.win 2).index t = ![t.val, 0] := (by decide +kernel : ∀ t : Fin grid0.N, _)
/-- Which block window 3 has at a point. -/
theorem idx3 : ∀ t : Fin cfg0.N, (cfg0.win 3).index t = ![t.val, 0] := (by decide +kernel : ∀ t : Fin grid0.N, _)
/-- Which block window 4 has at a point. -/
theorem idx4 : ∀ t : Fin cfg0.N, (cfg0.win 4).index t = ![0, 0] := (by decide +kernel : ∀ t : Fin grid0.N, _)
/-- Which block window 5 has at a point. -/
theorem idx5 : ∀ t : Fin cfg0.N, (cfg0.win 5).index t = ![0, 0] := (by decide +kernel : ∀ t : Fin grid0.N, _)
/-- Which block window 6 has at a point. -/
theorem idx6 : ∀ t : Fin cfg0.N, (cfg0.win 6).index t = ![0, 0] := (by decide +kernel : ∀ t : Fin grid0.N, _)
/-- Which block window 7 has at a point. -/
theorem idx7 : ∀ t : Fin cfg0.N, (cfg0.win 7).index t = ![0, 0] := (by decide +kernel : ∀ t : Fin grid0.N, _)
/-- Which block window 8 has at a point. -/
theorem idx8 : ∀ t : Fin cfg0.N, (cfg0.win 8).index t = ![t.val / 2, 0] := (by decide +kernel : ∀ t : Fin grid0.N, _)
/-- Which block window 9 has at a point. -/
theorem idx9 : ∀ t : Fin cfg0.N, (cfg0.win 9).index t = ![0, 0] := (by decide +kernel : ∀ t : Fin grid0.N, _)
/-- Which block window 10 has at a point. -/
theorem idx10 : ∀ t : Fin cfg0.N, (cfg0.win 10).index t = ![0, 0] := (by decide +kernel : ∀ t : Fin grid0.N, _)
/-- Which block window 11 has at a point. -/
theorem idx11 : ∀ t : Fin cfg0.N, (cfg0.win 11).index t = ![0, 0] := (by decide +kernel : ∀ t : Fin grid0.N, _)
/-- Which block window 12 has at a point. -/
theorem idx12 : ∀ t : Fin cfg0.N, (cfg0.win 12).index t = ![0, 0] := (by decide +kernel : ∀ t : Fin grid0.N, _)
/-- Which block window 15 has at a point. -/
theorem idx15 : ∀ t : Fin cfg0.N, (cfg0.win 15).index t = ![t.val, 0] := (by decide +kernel : ∀ t : Fin grid0.N, _)
/-- Which block window 16 has at a point. -/
theorem idx16 : ∀ t : Fin cfg0.N, (cfg0.win 16).index t = ![t.val, 0, 0] := (by decide +kernel : ∀ t : Fin grid0.N, _)

/-- A tile's activations. -/
theorem b_x (t : Fin cfg0.N) (b : Fin 8) (s : Fin 2048) (r : Fin 1024) (k : Fin 1024) (hr : t.val * 1024 + r.val = b.val * 2048 + s.val) :
    (iblk m c 0 t : Vec Ideal S1024x1024 .f32) (ix2 r k) = aX m c (ix3 b s k) := by
  have ht : t.val < 16 := t.isLt
  rw [← V_x m c b s k ⟨t.val * 1024 + r.val, by omega⟩ hr]
  blk_ext [iblk, idx0 t]

/-- A tile's attention results. -/
theorem b_o (t : Fin cfg0.N) (b : Fin 8) (s : Fin 2048) (r : Fin 1024) (k : Fin 512) (hr : t.val * 1024 + r.val = b.val * 2048 + s.val) :
    (iblk m c 1 t : Vec Ideal S1024x512 .bf16) (ix2 r k) = aO m c (ix3 b s k) := by
  have ht : t.val < 16 := t.isLt
  rw [← V_o m c b s k ⟨t.val * 1024 + r.val, by omega⟩ hr]
  blk_ext [iblk, idx1 t]

/-- A tile's gates. -/
theorem b_ga (t : Fin cfg0.N) (b : Fin 8) (s : Fin 2048) (r : Fin 1024) (k : Fin 1024) (hr : t.val * 1024 + r.val = b.val * 2048 + s.val) :
    (iblk m c 2 t : Vec Ideal S1024x1024 .bf16) (ix2 r k) = aGa m c (ix3 b s k) := by
  have ht : t.val < 16 := t.isLt
  rw [← V_ga m c b s k ⟨t.val * 1024 + r.val, by omega⟩ hr]
  blk_ext [iblk, idx2 t]

/-- A tile's other branch. -/
theorem b_mb (t : Fin cfg0.N) (b : Fin 8) (s : Fin 2048) (r : Fin 1024) (k : Fin 1024) (hr : t.val * 1024 + r.val = b.val * 2048 + s.val) :
    (iblk m c 3 t : Vec Ideal S1024x1024 .bf16) (ix2 r k) = aMb m c (ix3 b s k) := by
  have ht : t.val < 16 := t.isLt
  rw [← V_mb m c b s k ⟨t.val * 1024 + r.val, by omega⟩ hr]
  blk_ext [iblk, idx3 t]

/-- A point's memory: its sequence's. -/
theorem b_mem (t : Fin cfg0.N) (b : Fin 8) (s : Fin 256) (k : Fin 1024) (hb : t.val / 2 = b.val) :
    (iblk m c 8 t : Vec Ideal S256x1024 .f32) (ix2 s k) = aMem m c (ix3 b s k) := by
  have ht : t.val < 16 := t.isLt
  rw [← V_mem m c b s k ⟨t.val / 2 * 256 + s.val, by omega⟩ (by simp only [hb])]
  blk_ext [iblk, idx8 t]

/-- A point's first branch's weights. -/
theorem b_wb (t : Fin cfg0.N) (k : Fin 512) (j : Fin 1024) : (iblk m c 4 t : Vec Ideal S512x1024 .bf16) (ix2 k j) = aWb m c (ix2 k j) := by
  rw [← V_wb]
  blk_ext [iblk, idx4 t]

/-- A point's mix's weights. -/
theorem b_wo (t : Fin cfg0.N) (k : Fin 1024) (j : Fin 1024) : (iblk m c 5 t : Vec Ideal S1024x1024 .bf16) (ix2 k j) = aWo m c (ix2 k j) := by
  rw [← V_wo]
  blk_ext [iblk, idx5 t]

/-- A point's gains before the queries. -/
theorem b_gx (t : Fin cfg0.N) (j : Fin 1024) : (iblk m c 6 t : Vec Ideal S1x1024 .f32) (ix2 0 j) = aGx m c (ix2 0 j) := by
  rw [← V_gx]
  blk_ext [iblk, idx6 t]

/-- A point's queries' weights. -/
theorem b_wq (t : Fin cfg0.N) (k : Fin 1024) (j : Fin 512) : (iblk m c 7 t : Vec Ideal S1024x512 .bf16) (ix2 k j) = aWq m c (ix2 k j) := by
  rw [← V_wq]
  blk_ext [iblk, idx7 t]

/-- A point's memory's gains. -/
theorem b_gm (t : Fin cfg0.N) (j : Fin 1024) : (iblk m c 9 t : Vec Ideal S1x1024 .f32) (ix2 0 j) = aGm m c (ix2 0 j) := by
  rw [← V_gm]
  blk_ext [iblk, idx9 t]

/-- A point's keys' and values' weights. -/
theorem b_wkv (t : Fin cfg0.N) (k : Fin 1024) (j : Fin 1024) : (iblk m c 10 t : Vec Ideal S1024x1024 .bf16) (ix2 k j) = aWkv m c (ix2 k j) := by
  rw [← V_wkv]
  blk_ext [iblk, idx10 t]

/-- A point's weights after the memory. -/
theorem b_wm (t : Fin cfg0.N) (k : Fin 512) (j : Fin 1024) : (iblk m c 11 t : Vec Ideal S512x1024 .bf16) (ix2 k j) = aWm m c (ix2 k j) := by
  rw [← V_wm]
  blk_ext [iblk, idx11 t]

/-- A point's gains before the experts. -/
theorem b_ge (t : Fin cfg0.N) (j : Fin 1024) : (iblk m c 12 t : Vec Ideal S1x1024 .f32) (ix2 0 j) = aGe m c (ix2 0 j) := by
  rw [← V_ge]
  blk_ext [iblk, idx12 t]

end

end Cert.Po
-- ==== Proof.PoRef.lean ====
module

public import proofs.«01_k».proof.Proof.Gen.PostRefIdeal.Run
public import proofs.«01_k».proof.Proof.Heads
public import Idealize.ShloMosaic.Lib.Pipeline.ValueKit
public import Idealize.ShloMosaic.Lib.Pointwise

@[expose] public section

set_option maxRecDepth 16384

/-! The reference of the layer after attention: its two results, element by element. -/

noncomputable section

namespace Cert.Po.Ref

open Cert.PostRefIdeal Cert.PostRefIdeal.Gen Idealize.ShloMosaic Idealize.ShloMosaic.TcCoe Idealize.SL.Sem Finset

/-- The activations with the mixed branches added. -/
def mixed (a0 : FVec Ideal S8x2048x1024 .f32) (a1 : FVec Ideal S8x2048x512 .f32) (a2 a3 : FVec Ideal S8x2048x1024 .f32)
    (a5 : FVec Ideal S512x1024 .f32) (a6 : FVec Ideal S1024x1024 .f32) : FVec Ideal S8x2048x1024 .f32 :=
  addf a0 (Host.dotGeneral dot_S8x2048x1024_S1024x1024_S8x2048x1024_2_0_01_1_n_n none (addf (mulf a2 (Host.dotGeneral dot_S8x2048x512_S512x1024_S8x2048x1024_2_0_01_1_n_n none a1 a5)) a3) a6)

/-- The activations normalised. -/
def norm (x : FVec Ideal S8x2048x1024 .f32) (g : FVec Ideal S1x1024 .f32) : FVec Ideal S8x2048x1024 .f32 :=
  mulf (mulf x (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x x) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![1, 2] bcast_S1x1024_S1x1x1024_1_2 g))

/-- The queries. -/
def query (h : FVec Ideal S8x2048x1024 .f32) (w : FVec Ideal S1024x512 .f32) : FVec Ideal S8x2048x512 .f32 :=
  Host.dotGeneral dot_S8x2048x1024_S1024x512_S8x2048x512_2_0_01_1_n_n none h w

/-- The memory's keys and values. -/
def keyVal (x : FVec Ideal S8x256x1024 .f32) (g : FVec Ideal S1x1024 .f32) (w : FVec Ideal S1024x1024 .f32) : FVec Ideal S8x256x1024 .f32 :=
  Host.dotGeneral dot_S8x256x1024_S1024x1024_S8x256x1024_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![1, 2] bcast_S1x1024_S1x1x1024_1_2 g))) w

/-- The scores of the queries against the memory's keys. -/
def scores (q : FVec Ideal S8x2048x512 .f32) (kv : FVec Ideal S8x256x1024 .f32) : FVec Ideal S8x4x2048x256 .f32 :=
  Host.divf (Host.dotGeneral dot_S8x2048x4x128_S8x256x4x128_S8x4x2048x256_3_3_1_1_02_02 none (shapeCast _ q shapeCasts_S8x2048x512_S8x2048x4x128) (shapeCast _ (extractStridedSlice S8x256x1x4x128 ![0, 0, 0, 0, 0] (shapeCast _ kv shapeCasts_S8x256x1024_S8x256x2x4x128) slices_S8x256x2x4x128_S8x256x1x4x128_0_0_0_0_0) shapeCasts_S8x256x1x4x128_S8x256x4x128)) (broadcastInDim S8x4x2048x256 ![] bcast_S_S8x4x2048x256 (Host.sqrt (constant S_ .f32 0x43000000#32)))

/-- The largest score of each row. -/
def rowMax (S : FVec Ideal S8x4x2048x256 .f32) : FVec Ideal S8x4x2048 .f32 :=
  Host.reduce FloatOps.maximumf S (constant S_ .f32 0xFF800000#32) reducesTo_S8x4x2048x256_S8x4x2048_d3 h_S_

/-- The exponentials of the scores less their row's number. -/
def expo (S : FVec Ideal S8x4x2048x256 .f32) (M : FVec Ideal S8x4x2048 .f32) : FVec Ideal S8x4x2048x256 .f32 :=
  Host.exp (subf S (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) M))))

/-- The values weighted by the exponentials over their row's sum. -/
def weigh (E : FVec Ideal S8x4x2048x256 .f32) (kv : FVec Ideal S8x256x1024 .f32) : FVec Ideal S8x2048x512 .f32 :=
  shapeCast _ (transpose S8x2048x4x128 [0, 3, 1, 2] (Host.dotGeneral dot_S8x256x4x128_S8x4x2048x256_S8x4x128x2048_1_3_3_2_02_01 none (shapeCast _ (extractStridedSlice S8x256x1x4x128 ![0, 0, 1, 0, 0] (shapeCast _ kv shapeCasts_S8x256x1024_S8x256x2x4x128) slices_S8x256x2x4x128_S8x256x1x4x128_0_0_1_0_0) shapeCasts_S8x256x1x4x128_S8x256x4x128) (Host.divf E (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd E (constant S_ .f32 0x00000000#32) reducesTo_S8x4x2048x256_S8x4x2048_d3 h_S_))))) transposes_S8x4x128x2048_S8x2048x4x128_0_3_1_2) shapeCasts_S8x2048x4x128_S8x2048x512

/-- The activations with the attention over the memory added. -/
def crossed (x : FVec Ideal S8x2048x1024 .f32) (o : FVec Ideal S8x2048x512 .f32) (w : FVec Ideal S512x1024 .f32) : FVec Ideal S8x2048x1024 .f32 :=
  addf x (Host.dotGeneral dot_S8x2048x512_S512x1024_S8x2048x1024_2_0_01_1_n_n none o w)

section
variable (m : (ℓ : Loc nD τ sig) → Buf (Elt Ideal) ℓ) (c : Dev nD)

/-- The reference's mixed activations, from its arguments. -/
abbrev mixedOf : FVec Ideal S8x2048x1024 .f32 :=
  mixed (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5)) (m ((c.tc : Thread nD τ).loc main_arg6))

/-- The reference's queries, from its arguments. -/
abbrev queryOf : FVec Ideal S8x2048x512 .f32 :=
  query (norm (mixedOf m c) (m ((c.tc : Thread nD τ).loc main_arg7))) (m ((c.tc : Thread nD τ).loc main_arg8))

/-- The reference's keys and values, from its arguments. -/
abbrev keyValOf : FVec Ideal S8x256x1024 .f32 :=
  keyVal (m ((c.tc : Thread nD τ).loc main_arg4)) (m ((c.tc : Thread nD τ).loc main_arg9)) (m ((c.tc : Thread nD τ).loc main_arg10))

/-- The reference's scores, from its arguments. -/
abbrev scoresOf : FVec Ideal S8x4x2048x256 .f32 := scores (queryOf m c) (keyValOf m c)

/-- The reference's activations after the memory, from its arguments. -/
abbrev crossedOf : FVec Ideal S8x2048x1024 .f32 :=
  crossed (mixedOf m c) (weigh (expo (scoresOf m c) (rowMax (scoresOf m c))) (keyValOf m c)) (m ((c.tc : Thread nD τ).loc main_arg11))

/-- The reference's first result is these steps. -/
theorem res_first : Value.res_out0 (F := Ideal) m c = shapeCast _ (crossedOf m c) shapeCasts_S8x2048x1024_S16384x1024 := rfl

/-- The reference's second result is these steps. -/
theorem res_second : Value.res_out1 (F := Ideal) m c
    = shapeCast _ (norm (crossedOf m c) (m ((c.tc : Thread nD τ).loc main_arg12))) shapeCasts_S8x2048x1024_S2048x8x1024 := rfl

end

/-- A mixed activation. -/
theorem mixed_at (a0 : FVec Ideal S8x2048x1024 .f32) (a1 : FVec Ideal S8x2048x512 .f32) (a2 a3 : FVec Ideal S8x2048x1024 .f32)
    (a5 : FVec Ideal S512x1024 .f32) (a6 : FVec Ideal S1024x1024 .f32) (b : Fin 8) (s : Fin 2048) (j : Fin 1024) :
    mixed a0 a1 a2 a3 a5 a6 (ix3 b s j)
      = a0 (ix3 b s j) + ∑ k : Fin 1024, (a2 (ix3 b s k) * (∑ l : Fin 512, a1 (ix3 b s l) * a5 (ix2 l k)) + a3 (ix3 b s k)) * a6 (ix2 k j) := by
  pointwise [mixed]

/-- A normalised activation. -/
theorem norm_at (x : FVec Ideal S8x2048x1024 .f32) (g : FVec Ideal S1x1024 .f32) (b : Fin 8) (s : Fin 2048) (k : Fin 1024) :
    norm x g (ix3 b s k) = x (ix3 b s k) * Ideal.rsqrt (Ideal.div (∑ l : Fin 1024, x (ix3 b s l) * x (ix3 b s l))
      (Ideal.ofBits FTy.f32 0x44800000#32) + Ideal.ofBits FTy.f32 0x358637BD#32) * g (ix2 0 k) := by
  pointwise [norm]

/-- A query. -/
theorem query_at (h : FVec Ideal S8x2048x1024 .f32) (w : FVec Ideal S1024x512 .f32) (b : Fin 8) (s : Fin 2048) (j : Fin 512) :
    query h w (ix3 b s j) = ∑ k : Fin 1024, h (ix3 b s k) * w (ix2 k j) := by
  pointwise [query]

/-- A key or value. -/
theorem keyVal_at (x : FVec Ideal S8x256x1024 .f32) (g : FVec Ideal S1x1024 .f32) (w : FVec Ideal S1024x1024 .f32) (b : Fin 8)
    (s : Fin 256) (j : Fin 1024) :
    keyVal x g w (ix3 b s j) = ∑ k : Fin 1024, x (ix3 b s k) * Ideal.rsqrt (Ideal.div (∑ l : Fin 1024, x (ix3 b s l) * x (ix3 b s l))
      (Ideal.ofBits FTy.f32 0x44800000#32) + Ideal.ofBits FTy.f32 0x358637BD#32) * g (ix2 0 k) * w (ix2 k j) := by
  pointwise [keyVal]

/-- A score. -/
theorem scores_at (q : FVec Ideal S8x2048x512 .f32) (kv : FVec Ideal S8x256x1024 .f32) (b : Fin 8) (h : Fin 4) (s : Fin 2048) (k : Fin 256) :
    scores q kv (ix4 b h s k) = Ideal.div (∑ x : Fin 128, q (ix3 b s (⟨h.val * 128 + x.val, by omega⟩ : Fin 512))
      * kv (ix3 b k (⟨h.val * 128 + x.val, by omega⟩ : Fin 1024))) (Ideal.sqrt (Ideal.ofBits .f32 0x43000000#32)) := by
  pointwise [scores]

/-- The largest of a row of scores. -/
theorem max_at (S : FVec Ideal S8x4x2048x256 .f32) (b : Fin 8) (h : Fin 4) (q : Fin 2048) :
    rowMax S (ix3 b h q) = univ.fold max ⊥ fun x : Fin 256 => S (ix4 b h q x) := by
  rw [← Cert.Attn.neg_inf]
  unfold rowMax
  simp only [pointwise]

/-- An exponential. -/
theorem expo_at (S : FVec Ideal S8x4x2048x256 .f32) (M : FVec Ideal S8x4x2048 .f32) (b : Fin 8) (h : Fin 4) (q : Fin 2048) (k : Fin 256) :
    expo S M (ix4 b h q k) = Ideal.exp (S (ix4 b h q k) - M (ix3 b h q)) := by
  pointwise [expo]
  rw [Cert.Attn.neg_inf, max_eq_right bot_le]

/-- The values weighted by the exponentials over their sum. -/
theorem weigh_at (E : FVec Ideal S8x4x2048x256 .f32) (kv : FVec Ideal S8x256x1024 .f32) (b : Fin 8) (s : Fin 2048) (l : Fin 512) :
    weigh E kv (ix3 b s l)
      = ∑ x : Fin 256, kv (ix3 b x (⟨512 + l.val, by omega⟩ : Fin 1024))
          * Ideal.div (E (ix4 b (⟨l.val / 128, by omega⟩ : Fin 4) s x)) (∑ y : Fin 256, E (ix4 b (⟨l.val / 128, by omega⟩ : Fin 4) s y)) := by
  pointwise [weigh]
  have e : 512 + l.val / 128 * 128 + l.val % 128 = 512 + l.val := by omega
  simp only [e]

/-- An activation after the memory. -/
theorem crossed_at (x : FVec Ideal S8x2048x1024 .f32) (o : FVec Ideal S8x2048x512 .f32) (w : FVec Ideal S512x1024 .f32) (b : Fin 8)
    (s : Fin 2048) (j : Fin 1024) :
    crossed x o w (ix3 b s j) = x (ix3 b s j) + ∑ l : Fin 512, o (ix3 b s l) * w (ix2 l j) := by
  pointwise [crossed]

/-- The first result's layout: rows of all sequences one after another. -/
theorem first_at (x : FVec Ideal S8x2048x1024 .f32) (r : Fin 16384) (j : Fin 1024) :
    shapeCast S16384x1024 x shapeCasts_S8x2048x1024_S16384x1024 (ix2 r j)
      = x (ix3 (⟨r.val / 2048, by omega⟩ : Fin 8) (⟨r.val % 2048, by omega⟩ : Fin 2048) j) := by
  pointwise []

/-- The second result's layout: the same rows in groups of eight. -/
theorem second_at (x : FVec Ideal S8x2048x1024 .f32) (p : Fin 2048) (k : Fin 8) (j : Fin 1024) :
    shapeCast S2048x8x1024 x shapeCasts_S8x2048x1024_S2048x8x1024 (ix3 p k j)
      = x (ix3 (⟨p.val / 256, by omega⟩ : Fin 8) (⟨p.val % 256 * 8 + k.val, by omega⟩ : Fin 2048) j) := by
  pointwise []

end Cert.Po.Ref
-- ==== Proof.PoPoint.lean ====
module

public import proofs.«01_k».proof.Proof.PoHost
public import proofs.«01_k».proof.Proof.PoRef

@[expose] public section

set_option maxRecDepth 16384

/-! What a point of the layer after attention computes is what the reference has at its rows. -/

noncomputable section

namespace Cert.Po

open Cert.PostIdeal Cert.PostIdeal.Gen Idealize.ShloMosaic Idealize.ShloMosaic.TcCoe Idealize.SL.Sem Finset

section

variable (m : (ℓ : Loc nD τ sig) → Buf (Elt Ideal) ℓ) (c : Dev nD)

/-- The mixed activations of the arguments. -/
abbrev rM : FVec Ideal S8x2048x1024 .f32 := Ref.mixed (aX m c) (aO m c) (aGa m c) (aMb m c) (aWb m c) (aWo m c)
/-- The queries of the arguments. -/
abbrev rQ : FVec Ideal S8x2048x512 .f32 := Ref.query (Ref.norm (rM m c) (aGx m c)) (aWq m c)
/-- The keys and values of the arguments. -/
abbrev rKV : FVec Ideal S8x256x1024 .f32 := Ref.keyVal (aMem m c) (aGm m c) (aWkv m c)
/-- The scores of the arguments. -/
abbrev rS : FVec Ideal Cert.PostRefIdeal.S8x4x2048x256 .f32 := Ref.scores (rQ m c) (rKV m c)
/-- The attention over the memory of the arguments. -/
abbrev rA : FVec Ideal S8x2048x512 .f32 := Ref.weigh (Ref.expo (rS m c) (Ref.rowMax (rS m c))) (rKV m c)
/-- The activations after the memory of the arguments. -/
abbrev rC : FVec Ideal S8x2048x1024 .f32 := Ref.crossed (rM m c) (rA m c) (aWm m c)

/-- The scores are real numbers. -/
def RealScores : Prop := ∀ (b : Fin 8) (h : Fin 4) (s : Fin 2048) (k : Fin 256), Cert.Attn.IsReal (rS m c (ix4 b h s k))

/-- Tiles of keys and values that are one sequence's. -/
def Kept (b : Fin 8) (km vm : Vec Ideal S256x512 .bf16) : Prop :=
  ∀ (k : Fin 256) (l : Fin 512), km (ix2 k l) = rKV m c (ix3 b k (⟨l.val, by omega⟩ : Fin 1024))
    ∧ vm (ix2 k l) = rKV m c (ix3 b k (⟨512 + l.val, by omega⟩ : Fin 1024))

/-- What a point keeps of its sequence's memory. -/
theorem kept_tile (t : Fin cfg0.N) (b : Fin 8) (hb : t.val / 2 = b.val) :
    Kept m c b (k0_pay4 (iblk m c 8 t) (iblk m c 9 t) (iblk m c 10 t)) (k0_pay5 (iblk m c 8 t) (iblk m c 9 t) (iblk m c 10 t)) := by
  intro k l
  rw [key_at, val_at]
  simp only [b_mem m c t b _ _ hb, b_gm, b_wkv]
  exact ⟨(Ref.keyVal_at _ _ _ _ _ _).symm, (Ref.keyVal_at _ _ _ _ _ _).symm⟩

/-- The softmax over the memory, of real scores. -/
theorem attended (hS : RealScores m c) (b : Fin 8) (s : Fin 2048) (l : Fin 512) :
    late (fun k : Fin 256 => score (fun l => rQ m c (ix3 b s l) * root) (fun l => rKV m c (ix3 b k (⟨l.val, by omega⟩ : Fin 1024))) ⟨l.val / 128, by omega⟩)
      (fun k => rKV m c (ix3 b k (⟨512 + l.val, by omega⟩ : Fin 1024))) = rA m c (ix3 b s l) := by
  have e : (fun k : Fin 256 => score (fun l => rQ m c (ix3 b s l) * root) (fun l => rKV m c (ix3 b k (⟨l.val, by omega⟩ : Fin 1024))) ⟨l.val / 128, by omega⟩)
      = fun k => rS m c (ix4 b (⟨l.val / 128, by omega⟩ : Fin 4) s k) := funext fun k => by
    rw [score_scaled]
    exact (Ref.scores_at (rQ m c) (rKV m c) b ⟨l.val / 128, by omega⟩ s k).symm
  rw [e, late_eq_early _ _ (fun k => hS b _ s k) (by decide)]
  refine Eq.trans ?_ (Ref.weigh_at _ _ b s l).symm
  simp only [Ref.expo_at, Ref.max_at]
  rfl

section

variable (t : Fin cfg0.N) (b : Fin 8) (s : Fin 2048) (r : Fin 1024) (hr : t.val * 1024 + r.val = b.val * 2048 + s.val)

include hr

/-- A tile's mixed activations. -/
theorem t_mix (j : Fin 1024) :
    k0_pay9 (F := Ideal) (k0_pay6 (iblk m c 0 t)) (k0_pay7 (iblk m c 1 t) (iblk m c 4 t) (iblk m c 2 t) (iblk m c 3 t)) (k0_pay8 (iblk m c 5 t)) (ix2 r j)
      = rM m c (ix3 b s j) := by
  rw [mix_at]
  simp only [b_x m c t b s r _ hr, b_o m c t b s r _ hr, b_ga m c t b s r _ hr, b_mb m c t b s r _ hr, b_wb, b_wo]
  exact (Ref.mixed_at _ _ _ _ _ _ _ _ _).symm

/-- A tile's scaled queries. -/
theorem t_query (l : Fin 512) :
    k0_pay10 (F := Ideal) (k0_pay6 (iblk m c 0 t)) (k0_pay7 (iblk m c 1 t) (iblk m c 4 t) (iblk m c 2 t) (iblk m c 3 t)) (k0_pay8 (iblk m c 5 t))
      (iblk m c 6 t) (iblk m c 7 t) (ix2 r l) = rQ m c (ix3 b s l) * root := by
  rw [query_at]
  simp only [t_mix m c t b s r hr, b_gx, b_wq]
  refine congrArg (· * root) ((Ref.query_at _ _ _ _ _).trans (sum_congr rfl fun k _ => ?_)).symm
  rw [Ref.norm_at]
  rfl

/-- An element of a tile of the first result. -/
theorem t_sum (hS : RealScores m c) (km vm : Vec Ideal S256x512 .bf16) (H : Kept m c b km vm) (j : Fin 1024) :
    sumT (k0_pay6 (iblk m c 0 t)) (k0_pay7 (iblk m c 1 t) (iblk m c 4 t) (iblk m c 2 t) (iblk m c 3 t)) (k0_pay8 (iblk m c 5 t))
      (iblk m c 6 t) (iblk m c 7 t) (iblk m c 11 t) km vm (ix2 r j) = rC m c (ix3 b s j) := by
  rw [sum_at, t_mix m c t b s r hr]
  refine Eq.trans ?_ (Ref.crossed_at _ _ _ _ _ _).symm
  refine congrArg (rM m c (ix3 b s j) + ·) (sum_congr rfl fun l _ => ?_)
  rw [b_wm, ← attended m c hS b s l]
  refine congrArg (· * aWm m c (ix2 l j)) ?_
  have eq : qrow (k0_pay6 (iblk m c 0 t)) (k0_pay7 (iblk m c 1 t) (iblk m c 4 t) (iblk m c 2 t) (iblk m c 3 t)) (k0_pay8 (iblk m c 5 t))
      (iblk m c 6 t) (iblk m c 7 t) r = fun l => rQ m c (ix3 b s l) * root := funext fun l => t_query m c t b s r hr l
  unfold head
  rw [eq]
  congr 1
  · funext k
    congr 1
    exact funext fun l => (H k l).1
  · exact funext fun k => (H k l).2

end

/-- An element of a tile of the second result. -/
theorem t_norm (hS : RealScores m c) (t : Fin cfg0.N) (b : Fin 8) (s : Fin 2048) (p : Fin 128) (k : Fin 8)
    (hr : t.val * 1024 + (p.val * 8 + k.val) = b.val * 2048 + s.val)
    (km vm : Vec Ideal S256x512 .bf16) (H : Kept m c b km vm) (j : Fin 1024) :
    normT (k0_pay6 (iblk m c 0 t)) (k0_pay7 (iblk m c 1 t) (iblk m c 4 t) (iblk m c 2 t) (iblk m c 3 t)) (k0_pay8 (iblk m c 5 t))
      (iblk m c 6 t) (iblk m c 7 t) (iblk m c 11 t) (iblk m c 12 t) km vm (ix3 p k j) = Ref.norm (rC m c) (aGe m c) (ix3 b s j) := by
  rw [norm_at]
  have e : (fun j => sumT (k0_pay6 (iblk m c 0 t)) (k0_pay7 (iblk m c 1 t) (iblk m c 4 t) (iblk m c 2 t) (iblk m c 3 t)) (k0_pay8 (iblk m c 5 t))
      (iblk m c 6 t) (iblk m c 7 t) (iblk m c 11 t) km vm (ix2 (⟨p.val * 8 + k.val, by omega⟩ : Fin 1024) j)) = fun j => rC m c (ix3 b s j) :=
    funext fun j => t_sum m c t b s ⟨p.val * 8 + k.val, by omega⟩ hr hS km vm H j
  rw [e]
  simp only [b_ge]
  exact (Ref.norm_at _ _ _ _ _).symm

end

end Cert.Po
-- ==== Proof.PoFinal.lean ====
module

public import proofs.«01_k».proof.Proof.PoPoint
public import proofs.«01_k».proof.Proof.Final

@[expose] public section

set_option maxRecDepth 16384

/-! The two results of the layer after attention are the reference's, where queries and keys are made by real weights. -/

noncomputable section

namespace Cert.Po

open Cert.PostIdeal Cert.PostIdeal.Gen Idealize.ShloMosaic Idealize.ShloMosaic.TcCoe Idealize.SL.Sem Finset

variable (m : (ℓ : Loc nD τ sig) → Buf (Elt Ideal) ℓ) (c : Dev nD)

/-- The weights of queries and keys are real numbers. -/
structure RealArgs : Prop where
  gx : ∀ i, Cert.Attn.IsReal (aGx m c i)
  wq : ∀ i, Cert.Attn.IsReal (aWq m c i)
  gm : ∀ i, Cert.Attn.IsReal (aGm m c i)
  wk : ∀ (k : Fin 1024) (l : Fin 512), Cert.Attn.IsReal (aWkv m c (ix2 k (⟨l.val, by omega⟩ : Fin 1024)))

/-- The side conditions of the precondition's operations. -/
theorem preFacts : Cert.Pre_numbers.Facts where
  bcast_S_S1x1024 := by decide
  reducesTo_S1x1024_S_d0_1 := by decide
  h_S_ := by decide
  bcast_S_S1024x512 := by decide
  reducesTo_S1024x512_S_d0_1 := by decide
  slices_S1024x1024_S1024x512_0_0 := by decide

/-- An element of the columns that make the keys. -/
theorem keys_at (a : FVec Ideal S1024x1024 .f32) (h : S1024x1024.Slices ![0, 0] S1024x512) (k : Fin 1024) (l : Fin 512) :
    extractStridedSlice S1024x512 ![0, 0] a h (ix2 k l) = a (ix2 k (⟨l.val, by omega⟩ : Fin 1024)) := by
  pointwise []

attribute [local instance] preFacts in
/-- The precondition says that these weights are real numbers. -/
theorem real_args (H : Cert.Pre_PostIdeal_numbers m) : RealArgs m c := by
  have h := congrFun (H c) (Shape.Idx.first preFacts.h_S_)
  dsimp only [Cert.Pre_numbers.fn, Cert.Pre_numbers.fn_part1] at h
  obtain ⟨h, h3⟩ := Cert.Attn.and_one h
  obtain ⟨h, h2⟩ := Cert.Attn.and_one h
  obtain ⟨h0, h1⟩ := Cert.Attn.and_one h
  refine ⟨fun i => ?_, fun i => ?_, fun i => ?_, fun k l => ?_⟩
  · exact Cert.Attn.real_of_lt (Host.reduce_andi_all _ _ _ _ _ h0 i)
  · exact Cert.Attn.real_of_lt (Host.reduce_andi_all _ _ _ _ _ h1 i)
  · exact Cert.Attn.real_of_lt (Host.reduce_andi_all _ _ _ _ _ h2 i)
  · exact keys_at (aWkv m c) preFacts.slices_S1024x1024_S1024x512_0_0 k l ▸ Cert.Attn.real_of_lt (Host.reduce_andi_all _ _ _ _ _ h3 (ix2 k l))

/-- A product by the root of 128, inverted, is real where the other factor is. -/
theorem real_over {x : EReal} (hx : Cert.Attn.IsReal x) : Cert.Attn.IsReal (Ideal.div x (Ideal.sqrt (Ideal.ofBits .f32 0x43000000#32))) := by
  have hp : 0 < Real.sqrt 128 := Real.sqrt_pos.2 (by norm_num)
  rw [ofBits_128, Ideal.sqrt_coe, if_neg (by norm_num), Ideal.div_coe hp.ne']
  exact hx.mul ⟨_, rfl⟩

/-- What equals a real number is real. -/
theorem real_of_eq {x y : EReal} (e : x = y) (h : Cert.Attn.IsReal y) : Cert.Attn.IsReal x := e ▸ h

variable {m c}

/-- Queries are real. -/
theorem real_query (H : RealArgs m c) (b : Fin 8) (s : Fin 2048) (l : Fin 512) : Cert.Attn.IsReal (rQ m c (ix3 b s l)) := by
  refine real_of_eq (Ref.query_at _ _ _ _ _) (Cert.Attn.IsReal.sum fun k => Cert.Attn.IsReal.mul ?_ (H.wq _))
  exact real_of_eq (Ref.norm_at _ _ _ _ _) (nrm_real (fun k => rM m c (ix3 b s k)) (fun k => aGx m c (ix2 0 k)) (fun _ => H.gx _) k)

/-- Keys are real. -/
theorem real_key (H : RealArgs m c) (b : Fin 8) (k : Fin 256) (l : Fin 512) :
    Cert.Attn.IsReal (rKV m c (ix3 b k (⟨l.val, by omega⟩ : Fin 1024))) := by
  refine real_of_eq (Ref.keyVal_at _ _ _ _ _ _) (Cert.Attn.IsReal.sum fun j => Cert.Attn.IsReal.mul ?_ (H.wk j l))
  exact nrm_real (fun j => aMem m c (ix3 b k j)) (fun j => aGm m c (ix2 0 j)) (fun _ => H.gm _) j

/-- So are the scores. -/
theorem real_scores (H : RealArgs m c) : RealScores m c := fun b h s k =>
  real_of_eq (Ref.scores_at (rQ m c) (rKV m c) b h s k)
    (real_over (Cert.Attn.IsReal.sum fun x => (real_query H b s _).mul (real_key H b k (⟨h.val * 128 + x.val, by omega⟩ : Fin 512))))

variable (m c)

section

variable (t : Fin cfg0.N)

/-- The keys a point of a first half hands on. -/
theorem handed_keys (h1 : t.val % 2 = 0) :
    (outsAt0 m c t.val t.isLt).2.2.2.2.2.2.1 = k0_pay4 (iblk m c 8 t) (iblk m c 9 t) (iblk m c 10 t) := by
  by_cases h0 : t.val % 16 = 0
  · rw [outsAt0_A m c t h0 h1]
    dsimp only
    exact soutA1 ..
  · rw [outsAt0_C m c t h0 h1]
    dsimp only
    exact soutC1 ..

/-- The values a point of a first half hands on. -/
theorem handed_vals (h1 : t.val % 2 = 0) :
    (outsAt0 m c t.val t.isLt).2.2.2.2.2.2.2 = k0_pay5 (iblk m c 8 t) (iblk m c 9 t) (iblk m c 10 t) := by
  by_cases h0 : t.val % 16 = 0
  · rw [outsAt0_A m c t h0 h1]
    dsimp only
    exact soutA2 ..
  · rw [outsAt0_C m c t h0 h1]
    dsimp only
    exact soutC2 ..

/-- A point's tile of the first result, of its sequence's keys and values. -/
theorem tile_first (b : Fin 8) (hb : t.val / 2 = b.val) : ∃ km vm, Kept m c b km vm ∧ ∀ y, (outsAt0 m c t.val t.isLt).1 y
    = sumT (k0_pay6 (iblk m c 0 t)) (k0_pay7 (iblk m c 1 t) (iblk m c 4 t) (iblk m c 2 t) (iblk m c 3 t)) (k0_pay8 (iblk m c 5 t))
      (iblk m c 6 t) (iblk m c 7 t) (iblk m c 11 t) km vm y := by
  by_cases h1 : t.val % 2 = 0
  · refine ⟨_, _, kept_tile m c t b hb, fun y => ?_⟩
    by_cases h0 : t.val % 16 = 0
    · rw [outsAt0_A m c t h0 h1]
      dsimp only
      exact outA15 ..
    · rw [outsAt0_C m c t h0 h1]
      dsimp only
      exact outC15 ..
  · have hp : t.val - 1 < cfg0.N := lt_of_le_of_lt (Nat.sub_le _ _) t.isLt
    refine ⟨_, _, kept_tile m c ⟨t.val - 1, hp⟩ b (by simp only; omega), fun y => ?_⟩
    rw [outsAt0_B m c t (by omega) h1, ← handed_keys m c ⟨t.val - 1, hp⟩ (by simp only; omega), ← handed_vals m c ⟨t.val - 1, hp⟩ (by simp only; omega)]
    dsimp only
    exact outB15 ..

/-- A point's tile of the second result, of its sequence's keys and values. -/
theorem tile_second (b : Fin 8) (hb : t.val / 2 = b.val) : ∃ km vm, Kept m c b km vm ∧ ∀ y, (outsAt0 m c t.val t.isLt).2.1 y
    = normT (k0_pay6 (iblk m c 0 t)) (k0_pay7 (iblk m c 1 t) (iblk m c 4 t) (iblk m c 2 t) (iblk m c 3 t)) (k0_pay8 (iblk m c 5 t))
      (iblk m c 6 t) (iblk m c 7 t) (iblk m c 11 t) (iblk m c 12 t) km vm y := by
  by_cases h1 : t.val % 2 = 0
  · refine ⟨_, _, kept_tile m c t b hb, fun y => ?_⟩
    by_cases h0 : t.val % 16 = 0
    · rw [outsAt0_A m c t h0 h1]
      dsimp only
      exact outA16 ..
    · rw [outsAt0_C m c t h0 h1]
      dsimp only
      exact outC16 ..
  · have hp : t.val - 1 < cfg0.N := lt_of_le_of_lt (Nat.sub_le _ _) t.isLt
    refine ⟨_, _, kept_tile m c ⟨t.val - 1, hp⟩ b (by simp only; omega), fun y => ?_⟩
    rw [outsAt0_B m c t (by omega) h1, ← handed_keys m c ⟨t.val - 1, hp⟩ (by simp only; omega), ← handed_vals m c ⟨t.val - 1, hp⟩ (by simp only; omega)]
    dsimp only
    exact outB16 ..

end

/-- The first of the two results, of the arguments. -/
def arrF : FVec Ideal S16384x1024 .f32 := shapeCast _ (rC m c) Cert.PostRefIdeal.Gen.shapeCasts_S8x2048x1024_S16384x1024

/-- The second of the two results, of the arguments. -/
def arrS : FVec Ideal S2048x8x1024 .f32 :=
  shapeCast _ (Ref.norm (rC m c) (aGe m c)) Cert.PostRefIdeal.Gen.shapeCasts_S8x2048x1024_S2048x8x1024

/-- A point's tile of the first result. -/
theorem point_first (hS : RealScores m c) (t : Fin cfg0.N) (r j : Fin 1024) (hr : t.val * 1024 + r.val < 16384) :
    (outsAt0 m c t.val t.isLt).1 (ix2 r j) = arrF m c (ix2 (⟨t.val * 1024 + r.val, hr⟩ : Fin 16384) j) := by
  have ht : t.val < 16 := t.isLt
  obtain ⟨km, vm, H, e⟩ := tile_first m c t ⟨t.val / 2, by omega⟩ rfl
  refine (e _).trans ?_
  unfold arrF
  refine Eq.trans ?_ (Ref.first_at _ _ _).symm
  refine (t_sum m c t ⟨t.val / 2, by omega⟩ ⟨(t.val * 1024 + r.val) % 2048, by omega⟩ r (by simp only; omega) hS km vm H j).trans ?_
  refine congrArg (fun b => rC m c (ix3 b _ j)) (Fin.ext ?_)
  simp only
  omega

/-- A point's tile of the second result. -/
theorem point_second (hS : RealScores m c) (t : Fin cfg0.N) (p : Fin 128) (k : Fin 8) (j : Fin 1024) (hr : t.val * 128 + p.val < 2048) :
    (outsAt0 m c t.val t.isLt).2.1 (ix3 p k j) = arrS m c (ix3 (⟨t.val * 128 + p.val, hr⟩ : Fin 2048) k j) := by
  have ht : t.val < 16 := t.isLt
  obtain ⟨km, vm, H, e⟩ := tile_second m c t ⟨t.val / 2, by omega⟩ rfl
  refine (e _).trans ?_
  unfold arrS
  refine Eq.trans ?_ (Ref.second_at _ _ _ _).symm
  refine (t_norm m c hS t ⟨t.val / 2, by omega⟩ ⟨(t.val * 128 + p.val) % 256 * 8 + k.val, by omega⟩ p k (by simp only; omega) km vm H j).trans ?_
  refine congrArg (fun b => Ref.norm (rC m c) (aGe m c) (ix3 b _ j)) (Fin.ext ?_)
  simp only
  omega

/-- The kernel's first result. -/
theorem arr_first (hS : RealScores m c) : (dats m 0 c).arrAt 15 cfg0.N = arrF m c := by
  refine (dats m 0 c).arrAt_eq_of_covers 15 _ (by decide +kernel) fun t hf y => ?_
  blk_simp
  rw [after0_15]
  have ht : t.val < 16 := t.isLt
  have hy : (y 0).val < 1024 := (y 0).isLt
  refine (congrArg (outsAt0 m c t.val t.isLt).1 (eq_ix2 y)).trans ((point_first m c hS t (y 0) (y 1) (by omega)).trans (congrArg (arrF m c) ?_))
  blk_ext [idx15 t]

/-- The kernel's second result. -/
theorem arr_second (hS : RealScores m c) : (dats m 0 c).arrAt 16 cfg0.N = arrS m c := by
  refine (dats m 0 c).arrAt_eq_of_covers 16 _ (by decide +kernel) fun t hf y => ?_
  blk_simp
  rw [after0_16]
  have ht : t.val < 16 := t.isLt
  have hy : (y 0).val < 128 := (y 0).isLt
  refine (congrArg (outsAt0 m c t.val t.isLt).2.1 (eq_ix3 y)).trans ((point_second m c hS t (y 0) (y 1) (y 2) (by omega)).trans (congrArg (arrS m c) ?_))
  blk_ext [idx16 t]

end Cert.Po
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostIdeal.Value
public import proofs.«01_k».proof.Proof.Gen.PostRefIdeal
public import proofs.«01_k».proof.Proof.Gen.PostRefIdeal.Run
public import proofs.«01_k».proof.Proof.Final
public import proofs.«01_k».proof.Proof.InFinal
public import proofs.«01_k».proof.Proof.InLowFinal
public import proofs.«01_k».proof.Proof.PoFinal
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs and leaves its arguments. -/
theorem reference_runs : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The masked score the kernel starts from is the named constant. -/
theorem preserves : Cert.preserves_Kernel_KernelIdeal :=
  IdealRules.named_const.statement Cert.KernelIdeal.κ "neg_big" .f32 0xF149F2CA#32 ⊥ rfl

attribute [local instance] Cert.Attn.preFacts

/-- On real queries and keys the kernel and the plain attention end with the same result. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  refine (Cert.Attn.Ref.res_eq m' c).trans (Eq.trans ?_ (Cert.Attn.arr_eq (Cert.Attn.real_args hpre)).symm)
  unfold Cert.Attn.Ref.scoresOf Cert.Attn.refArr
  rw [e0, e1, e2, e3, e4]

/-- The input projection's reference runs and leaves its arguments. -/
theorem in_reference_runs : Cert.quiescent_InProjRefIdeal := fun m ρ _ =>
  (θ_run Cert.InProjRefIdeal.defs _ _).mono (fun r h => ⟨fun c => (h c).2.2.2.2.2, sem_eq_zero_of_no_sems (by decide) r.2⟩)
    (Cert.InProjRefIdeal.Value.run (F := Ideal) m ρ)

/-- The scale of the queries in the kernel is the named constant. -/
theorem in_preserves : Cert.preserves_InProj_InProjIdeal :=
  IdealRules.named_const.statement Cert.InProjIdeal.κ "scale" .f32 0x3E16C740#32 (((Real.log 2 * Real.sqrt 96)⁻¹ : ℝ) : EReal) rfl

/-- The input projection and its plain mathematics end with the same queries, keys, values, gate and mixed branch. -/
theorem in_algebraic : Cert.algebraic_InProjIdeal_InProjRefIdeal := by
  intro m ρ m' ρ' _ hagree
  refine ⟨_, _, _, _, _, Cert.InProjIdeal.Value.run_blocks (F := Ideal) m ρ, ?_⟩
  refine (θ_run Cert.InProjRefIdeal.defs _ _).mono
    (fun _ h c => ⟨(h c).1.trans ?_, (h c).2.1.trans ?_, (h c).2.2.1.trans ?_, (h c).2.2.2.1.trans ?_, (h c).2.2.2.2.1.trans ?_, (h c).2.2.2.2.2⟩)
    (Cert.InProjRefIdeal.Value.run (F := Ideal) m' ρ')
  · obtain ⟨e0, e1, e2, e3, e4, e5, e6, e7, e8, e9, e10⟩ := hagree c
    refine Eq.trans (b := Cert.In.Ref.resQ m' c) rfl (Eq.trans ?_ (Cert.In.arr_q m c).symm)
    unfold Cert.In.Ref.resQ Cert.In.Ref.querOf Cert.In.Ref.angOf Cert.In.Ref.projOf Cert.In.arrQ
    rw [e0, e1, e2, e3, e5, e6]
  · obtain ⟨e0, e1, e2, e3, e4, e5, e6, e7, e8, e9, e10⟩ := hagree c
    refine Eq.trans (b := Cert.In.Ref.resK m' c) rfl (Eq.trans ?_ (Cert.In.arr_k m c).symm)
    unfold Cert.In.Ref.resK Cert.In.Ref.kvalOf Cert.In.Ref.angOf Cert.In.Ref.projOf Cert.In.arrK
    rw [e0, e1, e2, e3, e7, e8]
  · obtain ⟨e0, e1, e2, e3, e4, e5, e6, e7, e8, e9, e10⟩ := hagree c
    refine Eq.trans (b := Cert.In.Ref.resV m' c) rfl (Eq.trans ?_ (Cert.In.arr_v m c).symm)
    unfold Cert.In.Ref.resV Cert.In.Ref.kvalOf Cert.In.Ref.projOf Cert.In.arrV
    rw [e0, e2, e3, e7, e8]
  · obtain ⟨e0, e1, e2, e3, e4, e5, e6, e7, e8, e9, e10⟩ := hagree c
    refine Eq.trans (b := Cert.In.Ref.firstOf m' c) rfl (Eq.trans ?_ (Cert.In.arr_first m c).symm)
    unfold Cert.In.Ref.firstOf Cert.In.Ref.gatesOf Cert.In.Ref.projOf Cert.In.arrF
    rw [e0, e2, e3, e4]
  · obtain ⟨e0, e1, e2, e3, e4, e5, e6, e7, e8, e9, e10⟩ := hagree c
    refine Eq.trans (b := Cert.In.Ref.secondOf m' c) rfl (Eq.trans ?_ (Cert.In.arr_second m c).symm)
    unfold Cert.In.Ref.secondOf Cert.In.Ref.gatesOf Cert.In.Ref.projOf Cert.In.arrS
    rw [e0, e2, e3, e4, e9, e10]

/-- The reference of the layer after attention runs and leaves its arguments. -/
theorem post_reference_runs : Cert.quiescent_PostRefIdeal := fun m ρ _ =>
  (θ_run Cert.PostRefIdeal.defs _ _).mono (fun r h => ⟨fun c => (h c).2.2, sem_eq_zero_of_no_sems (by decide) r.2⟩)
    (Cert.PostRefIdeal.Value.run (F := Ideal) m ρ)

/-- The scale of the scores in the kernel is the named constant. -/
theorem post_preserves : Cert.preserves_Post_PostIdeal :=
  IdealRules.named_const.statement Cert.PostIdeal.κ "root" .f32 0x3DB504F3#32 (((Real.sqrt 128)⁻¹ : ℝ) : EReal) rfl

attribute [local instance] Cert.Po.preFacts

/-- The layer after attention and its plain mathematics end with the same activations and the same norm of them. -/
theorem post_algebraic : Cert.algebraic_PostIdeal_PostRefIdeal_pre_numbers := by
  intro m ρ m' ρ' hpre hagree
  refine ⟨_, _, (θ_run Cert.PostIdeal.defs _ _).mono (fun _ h c => ⟨(h c).1, (h c).2.1, (h c).2.2.2.2.2⟩)
    (Cert.PostIdeal.Value.run_blocks (F := Ideal) m ρ), ?_⟩
  refine (θ_run Cert.PostRefIdeal.defs _ _).mono (fun _ h c => ⟨(h c).1.trans ?_, (h c).2.1.trans ?_, (h c).2.2⟩)
    (Cert.PostRefIdeal.Value.run (F := Ideal) m' ρ')
  · obtain ⟨e0, e1, e2, e3, e4, e5, e6, e7, e8, e9, e10, e11, e12, e13, e14, e15, e16⟩ := hagree c
    refine (Cert.Po.Ref.res_first m' c).trans (Eq.trans ?_ (Cert.Po.arr_first m c (Cert.Po.real_scores (Cert.Po.real_args m c hpre))).symm)
    unfold Cert.Po.arrF
    dsimp only [Cert.Po.Ref.crossedOf, Cert.Po.Ref.scoresOf, Cert.Po.Ref.queryOf, Cert.Po.Ref.keyValOf, Cert.Po.Ref.mixedOf]
    rw [e0, e1, e2, e3, e4, e5, e6, e7, e8, e9, e10, e11]
  · obtain ⟨e0, e1, e2, e3, e4, e5, e6, e7, e8, e9, e10, e11, e12, e13, e14, e15, e16⟩ := hagree c
    refine (Cert.Po.Ref.res_second m' c).trans (Eq.trans ?_ (Cert.Po.arr_second m c (Cert.Po.real_scores (Cert.Po.real_args m c hpre))).symm)
    unfold Cert.Po.arrS
    dsimp only [Cert.Po.Ref.crossedOf, Cert.Po.Ref.scoresOf, Cert.Po.Ref.queryOf, Cert.Po.Ref.keyValOf, Cert.Po.Ref.mixedOf]
    rw [e0, e1, e2, e3, e4, e5, e6, e7, e8, e9, e10, e11, e12]

/-- Every claim of this certificate. -/
theorem claim : Cert.Claim :=
  ⟨Cert.Kernel.Gen.facts, Cert.KernelIdeal.Gen.facts, Cert.ReferenceIdeal.Gen.facts, Cert.InProj.Gen.facts,
    Cert.InProjIdeal.Gen.facts, Cert.InProjRefIdeal.Gen.facts, Cert.Post.Gen.facts, Cert.PostIdeal.Gen.facts,
    Cert.PostRefIdeal.Gen.facts, Cert.Attn.preFacts, Cert.Po.preFacts,
    fun m ρ _ => Cert.Kernel.Gen.frame m ρ, fun m ρ _ => Cert.KernelIdeal.Gen.frame m ρ,
    fun m ρ _ => Cert.KernelIdeal.Gen.frame m ρ, reference_runs, fun m ρ _ => reference_runs m ρ trivial,
    fun m ρ _ => Cert.InProj.Gen.frame m ρ, fun m ρ _ => Cert.InProjIdeal.Gen.frame m ρ, in_reference_runs,
    fun m ρ _ => Cert.Post.Gen.frame m ρ, fun m ρ _ => Cert.PostIdeal.Gen.frame m ρ, fun m ρ _ => Cert.PostIdeal.Gen.frame m ρ,
    post_reference_runs, fun m ρ _ => post_reference_runs m ρ trivial,
    preserves, algebraic, in_preserves, in_algebraic, post_preserves, post_algebraic⟩

end Cert.Proof

end
